-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputRefIdeal (m : (ℓ : Loc Cert.InputRefIdeal.nD Cert.InputRefIdeal.τ Cert.InputRefIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputRefIdeal (m : (ℓ : Loc Cert.OutputRefIdeal.nD Cert.OutputRefIdeal.τ Cert.OutputRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Sample [hPre_paged : Cert.Pre_paged.Facts] (m : (ℓ : Loc Cert.Sample.nD Cert.Sample.τ Cert.Sample.sig) → Buf (Elt Bits) ℓ) : Prop :=
  ∀ c : Dev Cert.Sample.nD,
    (Cert.Pre_paged.fn (F := Bits) (m ((c.tc : Thread Cert.Sample.nD Cert.Sample.τ).loc Cert.Sample.main_arg0)) (m ((c.tc : Thread Cert.Sample.nD Cert.Sample.τ).loc Cert.Sample.main_arg1)) (m ((c.tc : Thread Cert.Sample.nD Cert.Sample.τ).loc Cert.Sample.main_arg2)) (m ((c.tc : Thread Cert.Sample.nD Cert.Sample.τ).loc Cert.Sample.main_arg3)) (m ((c.tc : Thread Cert.Sample.nD Cert.Sample.τ).loc Cert.Sample.main_arg4))) = (fun _ => 1#1)

def Pre_SampleIdeal [hPre_paged : Cert.Pre_paged.Facts] (m : (ℓ : Loc Cert.SampleIdeal.nD Cert.SampleIdeal.τ Cert.SampleIdeal.sig) → Buf (Elt Ideal) ℓ) : Prop :=
  ∀ c : Dev Cert.SampleIdeal.nD,
    (Cert.Pre_paged.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4))) = (fun _ => 1#1)

def Pre_SampleIdeal_paged_finite [hPre_paged_finite : Cert.Pre_paged_finite.Facts] (m : (ℓ : Loc Cert.SampleIdeal.nD Cert.SampleIdeal.τ Cert.SampleIdeal.sig) → Buf (Elt Ideal) ℓ) : Prop :=
  ∀ c : Dev Cert.SampleIdeal.nD,
    (Cert.Pre_paged_finite.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4))) = (fun _ => 1#1)

def Pre_SampleRefIdeal (m : (ℓ : Loc Cert.SampleRefIdeal.nD Cert.SampleRefIdeal.τ Cert.SampleRefIdeal.sig) → Buf (Elt Ideal) ℓ) : Prop :=
  True

def Pre_SampleRefIdeal_paged_finite [hPre_paged_finite : Cert.Pre_paged_finite.Facts] (m : (ℓ : Loc Cert.SampleRefIdeal.nD Cert.SampleRefIdeal.τ Cert.SampleRefIdeal.sig) → Buf (Elt Ideal) ℓ) : Prop :=
  ∀ c : Dev Cert.SampleRefIdeal.nD,
    (Cert.Pre_paged_finite.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3)) (m ((c.tc : Thread Cert.SampleRefIdeal.nD Cert.SampleRefIdeal.τ).loc Cert.SampleRefIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3))
      ∧ r.2.sem = fun _ => 0)

def quiescent_InputRefIdeal [hInputRefIdeal : Cert.InputRefIdeal.Facts] : Prop :=
  ∀ (m : (ℓ : Loc Cert.InputRefIdeal.nD Cert.InputRefIdeal.τ Cert.InputRefIdeal.sig) → Buf (Elt Ideal) ℓ) (g : Dev Cert.InputRefIdeal.nD → PrngReg), Pre_InputRefIdeal m →
    θ_run (Cert.InputRefIdeal.defs (F := Ideal)) (onTc (τ := Cert.InputRefIdeal.τ) (Cert.InputRefIdeal.main (F := Ideal))) ⟨m, fun _ => 0, g⟩ (fun r => (∀ c : Dev Cert.InputRefIdeal.nD,
      r.2.mem ((c.tc : Thread Cert.InputRefIdeal.nD Cert.InputRefIdeal.τ).loc Cert.InputRefIdeal.main_arg0) = m ((c.tc : Thread Cert.InputRefIdeal.nD Cert.InputRefIdeal.τ).loc Cert.InputRefIdeal.main_arg0)
      ∧ r.2.mem ((c.tc : Thread Cert.InputRefIdeal.nD Cert.InputRefIdeal.τ).loc Cert.InputRefIdeal.main_arg1) = m ((c.tc : Thread Cert.InputRefIdeal.nD Cert.InputRefIdeal.τ).loc Cert.InputRefIdeal.main_arg1)
      ∧ r.2.mem ((c.tc : Thread Cert.InputRefIdeal.nD Cert.InputRefIdeal.τ).loc Cert.InputRefIdeal.main_arg2) = m ((c.tc : Thread Cert.InputRefIdeal.nD Cert.InputRefIdeal.τ).loc Cert.InputRefIdeal.main_arg2)
      ∧ r.2.mem ((c.tc : Thread Cert.InputRefIdeal.nD Cert.InputRefIdeal.τ).loc Cert.InputRefIdeal.main_arg3) = m ((c.tc : Thread Cert.InputRefIdeal.nD Cert.InputRefIdeal.τ).loc Cert.InputRefIdeal.main_arg3))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5)
      ∧ r.2.mem ((c.tc : Thread Cert.Output.nD Cert.Output.τ).loc Cert.Output.main_arg6) = m ((c.tc : Thread Cert.Output.nD Cert.Output.τ).loc Cert.Output.main_arg6)
      ∧ r.2.mem ((c.tc : Thread Cert.Output.nD Cert.Output.τ).loc Cert.Output.main_arg7) = m ((c.tc : Thread Cert.Output.nD Cert.Output.τ).loc Cert.Output.main_arg7)
      ∧ r.2.mem ((c.tc : Thread Cert.Output.nD Cert.Output.τ).loc Cert.Output.main_arg8) = m ((c.tc : Thread Cert.Output.nD Cert.Output.τ).loc Cert.Output.main_arg8))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
      ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
      ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8))
      ∧ r.2.sem = fun _ => 0)

def quiescent_OutputRefIdeal [hOutputRefIdeal : Cert.OutputRefIdeal.Facts] : Prop :=
  ∀ (m : (ℓ : Loc Cert.OutputRefIdeal.nD Cert.OutputRefIdeal.τ Cert.OutputRefIdeal.sig) → Buf (Elt Ideal) ℓ) (g : Dev Cert.OutputRefIdeal.nD → PrngReg), Pre_OutputRefIdeal m →
    θ_run (Cert.OutputRefIdeal.defs (F := Ideal)) (onTc (τ := Cert.OutputRefIdeal.τ) (Cert.OutputRefIdeal.main (F := Ideal))) ⟨m, fun _ => 0, g⟩ (fun r => (∀ c : Dev Cert.OutputRefIdeal.nD,
      r.2.mem ((c.tc : Thread Cert.OutputRefIdeal.nD Cert.OutputRefIdeal.τ).loc Cert.OutputRefIdeal.main_arg0) = m ((c.tc : Thread Cert.OutputRefIdeal.nD Cert.OutputRefIdeal.τ).loc Cert.OutputRefIdeal.main_arg0)
      ∧ r.2.mem ((c.tc : Thread Cert.OutputRefIdeal.nD Cert.OutputRefIdeal.τ).loc Cert.OutputRefIdeal.main_arg1) = m ((c.tc : Thread Cert.OutputRefIdeal.nD Cert.OutputRefIdeal.τ).loc Cert.OutputRefIdeal.main_arg1)
      ∧ r.2.mem ((c.tc : Thread Cert.OutputRefIdeal.nD Cert.OutputRefIdeal.τ).loc Cert.OutputRefIdeal.main_arg2) = m ((c.tc : Thread Cert.OutputRefIdeal.nD Cert.OutputRefIdeal.τ).loc Cert.OutputRefIdeal.main_arg2)
      ∧ r.2.mem ((c.tc : Thread Cert.OutputRefIdeal.nD Cert.OutputRefIdeal.τ).loc Cert.OutputRefIdeal.main_arg3) = m ((c.tc : Thread Cert.OutputRefIdeal.nD Cert.OutputRefIdeal.τ).loc Cert.OutputRefIdeal.main_arg3)
      ∧ r.2.mem ((c.tc : Thread Cert.OutputRefIdeal.nD Cert.OutputRefIdeal.τ).loc Cert.OutputRefIdeal.main_arg4) = m ((c.tc : Thread Cert.OutputRefIdeal.nD Cert.OutputRefIdeal.τ).loc Cert.OutputRefIdeal.main_arg4)
      ∧ r.2.mem ((c.tc : Thread Cert.OutputRefIdeal.nD Cert.OutputRefIdeal.τ).loc Cert.OutputRefIdeal.main_arg5) = m ((c.tc : Thread Cert.OutputRefIdeal.nD Cert.OutputRefIdeal.τ).loc Cert.OutputRefIdeal.main_arg5)
      ∧ r.2.mem ((c.tc : Thread Cert.OutputRefIdeal.nD Cert.OutputRefIdeal.τ).loc Cert.OutputRefIdeal.main_arg6) = m ((c.tc : Thread Cert.OutputRefIdeal.nD Cert.OutputRefIdeal.τ).loc Cert.OutputRefIdeal.main_arg6)
      ∧ r.2.mem ((c.tc : Thread Cert.OutputRefIdeal.nD Cert.OutputRefIdeal.τ).loc Cert.OutputRefIdeal.main_arg7) = m ((c.tc : Thread Cert.OutputRefIdeal.nD Cert.OutputRefIdeal.τ).loc Cert.OutputRefIdeal.main_arg7)
      ∧ r.2.mem ((c.tc : Thread Cert.OutputRefIdeal.nD Cert.OutputRefIdeal.τ).loc Cert.OutputRefIdeal.main_arg8) = m ((c.tc : Thread Cert.OutputRefIdeal.nD Cert.OutputRefIdeal.τ).loc Cert.OutputRefIdeal.main_arg8))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Sample [hSample : Cert.Sample.Facts] [hPre_paged : Cert.Pre_paged.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4))
      ∧ r.2.sem = fun _ => 0)

def quiescent_SampleIdeal [hSampleIdeal : Cert.SampleIdeal.Facts] [hPre_paged : Cert.Pre_paged.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ r.2.sem = fun _ => 0)

def quiescent_SampleIdeal_pre_paged_finite [hSampleIdeal : Cert.SampleIdeal.Facts] [hPre_paged_finite : Cert.Pre_paged_finite.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal_paged_finite m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4))
      ∧ r.2.sem = fun _ => 0)

def quiescent_SampleRefIdeal_pre_paged_finite [hSampleRefIdeal : Cert.SampleRefIdeal.Facts] [hPre_paged_finite : Cert.Pre_paged_finite.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal_paged_finite m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Input_InputIdeal : Prop :=
  True

def algebraic_InputIdeal_InputRefIdeal [hInputIdeal : Cert.InputIdeal.Facts] [hInputRefIdeal : Cert.InputRefIdeal.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputRefIdeal.nD Cert.InputRefIdeal.τ Cert.InputRefIdeal.sig) → Buf (Elt Ideal) ℓ) (g' : Dev Cert.InputRefIdeal.nD → PrngReg), Pre_InputIdeal m →
    (∀ c : Dev Cert.InputIdeal.nD,
      m' ((c.tc : Thread Cert.InputRefIdeal.nD Cert.InputRefIdeal.τ).loc Cert.InputRefIdeal.main_arg0) = m ((c.tc : Thread Cert.InputIdeal.nD Cert.InputIdeal.τ).loc Cert.InputIdeal.main_arg0)
      ∧ m' ((c.tc : Thread Cert.InputRefIdeal.nD Cert.InputRefIdeal.τ).loc Cert.InputRefIdeal.main_arg1) = m ((c.tc : Thread Cert.InputIdeal.nD Cert.InputIdeal.τ).loc Cert.InputIdeal.main_arg1)
      ∧ m' ((c.tc : Thread Cert.InputRefIdeal.nD Cert.InputRefIdeal.τ).loc Cert.InputRefIdeal.main_arg2) = m ((c.tc : Thread Cert.InputIdeal.nD Cert.InputIdeal.τ).loc Cert.InputIdeal.main_arg2)
      ∧ m' ((c.tc : Thread Cert.InputRefIdeal.nD Cert.InputRefIdeal.τ).loc Cert.InputRefIdeal.main_arg3) = m ((c.tc : Thread Cert.InputIdeal.nD Cert.InputIdeal.τ).loc Cert.InputIdeal.main_arg3)) →
    ∃ (v0 : (c : Dev Cert.InputIdeal.nD) → Buf (Elt Ideal) ((c.tc : Thread Cert.InputIdeal.nD Cert.InputIdeal.τ).loc Cert.InputIdeal.main_v15)) (v1 : (c : Dev Cert.InputIdeal.nD) → Buf (Elt Ideal) ((c.tc : Thread Cert.InputIdeal.nD Cert.InputIdeal.τ).loc Cert.InputIdeal.main_v16)) (v2 : (c : Dev Cert.InputIdeal.nD) → Buf (Elt Ideal) ((c.tc : Thread Cert.InputIdeal.nD Cert.InputIdeal.τ).loc Cert.InputIdeal.main_v17)) (v3 : (c : Dev Cert.InputIdeal.nD) → Buf (Elt Ideal) ((c.tc : Thread Cert.InputIdeal.nD Cert.InputIdeal.τ).loc Cert.InputIdeal.main_v18)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v15) = v0 c
          ∧ r.2.mem ((c.tc : Thread Cert.InputIdeal.nD Cert.InputIdeal.τ).loc Cert.InputIdeal.main_v16) = v1 c
          ∧ r.2.mem ((c.tc : Thread Cert.InputIdeal.nD Cert.InputIdeal.τ).loc Cert.InputIdeal.main_v17) = v2 c
          ∧ r.2.mem ((c.tc : Thread Cert.InputIdeal.nD Cert.InputIdeal.τ).loc Cert.InputIdeal.main_v18) = v3 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3))
      ∧ θ_run (Cert.InputRefIdeal.defs (F := Ideal)) (onTc (τ := Cert.InputRefIdeal.τ) (Cert.InputRefIdeal.main (F := Ideal))) ⟨m', fun _ => 0, g'⟩ (fun r => ∀ c : Dev Cert.InputRefIdeal.nD,
          r.2.mem ((c.tc : Thread Cert.InputRefIdeal.nD Cert.InputRefIdeal.τ).loc Cert.InputRefIdeal.main_v19) = v0 c
          ∧ r.2.mem ((c.tc : Thread Cert.InputRefIdeal.nD Cert.InputRefIdeal.τ).loc Cert.InputRefIdeal.main_v20) = v1 c
          ∧ r.2.mem ((c.tc : Thread Cert.InputRefIdeal.nD Cert.InputRefIdeal.τ).loc Cert.InputRefIdeal.main_v21) = v2 c
          ∧ r.2.mem ((c.tc : Thread Cert.InputRefIdeal.nD Cert.InputRefIdeal.τ).loc Cert.InputRefIdeal.main_v22) = v3 c
          ∧ r.2.mem ((c.tc : Thread Cert.InputRefIdeal.nD Cert.InputRefIdeal.τ).loc Cert.InputRefIdeal.main_arg0) = m' ((c.tc : Thread Cert.InputRefIdeal.nD Cert.InputRefIdeal.τ).loc Cert.InputRefIdeal.main_arg0)
          ∧ r.2.mem ((c.tc : Thread Cert.InputRefIdeal.nD Cert.InputRefIdeal.τ).loc Cert.InputRefIdeal.main_arg1) = m' ((c.tc : Thread Cert.InputRefIdeal.nD Cert.InputRefIdeal.τ).loc Cert.InputRefIdeal.main_arg1)
          ∧ r.2.mem ((c.tc : Thread Cert.InputRefIdeal.nD Cert.InputRefIdeal.τ).loc Cert.InputRefIdeal.main_arg2) = m' ((c.tc : Thread Cert.InputRefIdeal.nD Cert.InputRefIdeal.τ).loc Cert.InputRefIdeal.main_arg2)
          ∧ r.2.mem ((c.tc : Thread Cert.InputRefIdeal.nD Cert.InputRefIdeal.τ).loc Cert.InputRefIdeal.main_arg3) = m' ((c.tc : Thread Cert.InputRefIdeal.nD Cert.InputRefIdeal.τ).loc Cert.InputRefIdeal.main_arg3))

def preserves_Output_OutputIdeal : Prop :=
  True

def algebraic_OutputIdeal_OutputRefIdeal [hOutputIdeal : Cert.OutputIdeal.Facts] [hOutputRefIdeal : Cert.OutputRefIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputRefIdeal.nD Cert.OutputRefIdeal.τ Cert.OutputRefIdeal.sig) → Buf (Elt Ideal) ℓ) (g' : Dev Cert.OutputRefIdeal.nD → PrngReg), Pre_OutputIdeal m →
    (∀ c : Dev Cert.OutputIdeal.nD,
      m' ((c.tc : Thread Cert.OutputRefIdeal.nD Cert.OutputRefIdeal.τ).loc Cert.OutputRefIdeal.main_arg0) = m ((c.tc : Thread Cert.OutputIdeal.nD Cert.OutputIdeal.τ).loc Cert.OutputIdeal.main_arg0)
      ∧ m' ((c.tc : Thread Cert.OutputRefIdeal.nD Cert.OutputRefIdeal.τ).loc Cert.OutputRefIdeal.main_arg1) = m ((c.tc : Thread Cert.OutputIdeal.nD Cert.OutputIdeal.τ).loc Cert.OutputIdeal.main_arg1)
      ∧ m' ((c.tc : Thread Cert.OutputRefIdeal.nD Cert.OutputRefIdeal.τ).loc Cert.OutputRefIdeal.main_arg2) = m ((c.tc : Thread Cert.OutputIdeal.nD Cert.OutputIdeal.τ).loc Cert.OutputIdeal.main_arg2)
      ∧ m' ((c.tc : Thread Cert.OutputRefIdeal.nD Cert.OutputRefIdeal.τ).loc Cert.OutputRefIdeal.main_arg3) = m ((c.tc : Thread Cert.OutputIdeal.nD Cert.OutputIdeal.τ).loc Cert.OutputIdeal.main_arg3)
      ∧ m' ((c.tc : Thread Cert.OutputRefIdeal.nD Cert.OutputRefIdeal.τ).loc Cert.OutputRefIdeal.main_arg4) = m ((c.tc : Thread Cert.OutputIdeal.nD Cert.OutputIdeal.τ).loc Cert.OutputIdeal.main_arg4)
      ∧ m' ((c.tc : Thread Cert.OutputRefIdeal.nD Cert.OutputRefIdeal.τ).loc Cert.OutputRefIdeal.main_arg5) = m ((c.tc : Thread Cert.OutputIdeal.nD Cert.OutputIdeal.τ).loc Cert.OutputIdeal.main_arg5)
      ∧ m' ((c.tc : Thread Cert.OutputRefIdeal.nD Cert.OutputRefIdeal.τ).loc Cert.OutputRefIdeal.main_arg6) = m ((c.tc : Thread Cert.OutputIdeal.nD Cert.OutputIdeal.τ).loc Cert.OutputIdeal.main_arg6)
      ∧ m' ((c.tc : Thread Cert.OutputRefIdeal.nD Cert.OutputRefIdeal.τ).loc Cert.OutputRefIdeal.main_arg7) = m ((c.tc : Thread Cert.OutputIdeal.nD Cert.OutputIdeal.τ).loc Cert.OutputIdeal.main_arg7)
      ∧ m' ((c.tc : Thread Cert.OutputRefIdeal.nD Cert.OutputRefIdeal.τ).loc Cert.OutputRefIdeal.main_arg8) = m ((c.tc : Thread Cert.OutputIdeal.nD Cert.OutputIdeal.τ).loc Cert.OutputIdeal.main_arg8)) →
    ∃ (v0 : (c : Dev Cert.OutputIdeal.nD) → Buf (Elt Ideal) ((c.tc : Thread Cert.OutputIdeal.nD Cert.OutputIdeal.τ).loc Cert.OutputIdeal.main_v10)) (v1 : (c : Dev Cert.OutputIdeal.nD) → Buf (Elt Ideal) ((c.tc : Thread Cert.OutputIdeal.nD Cert.OutputIdeal.τ).loc Cert.OutputIdeal.main_v16)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v10) = v0 c
          ∧ r.2.mem ((c.tc : Thread Cert.OutputIdeal.nD Cert.OutputIdeal.τ).loc Cert.OutputIdeal.main_v16) = v1 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
          ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6)
          ∧ r.2.mem ((c.tc : Thread Cert.OutputIdeal.nD Cert.OutputIdeal.τ).loc Cert.OutputIdeal.main_arg7) = m ((c.tc : Thread Cert.OutputIdeal.nD Cert.OutputIdeal.τ).loc Cert.OutputIdeal.main_arg7)
          ∧ r.2.mem ((c.tc : Thread Cert.OutputIdeal.nD Cert.OutputIdeal.τ).loc Cert.OutputIdeal.main_arg8) = m ((c.tc : Thread Cert.OutputIdeal.nD Cert.OutputIdeal.τ).loc Cert.OutputIdeal.main_arg8))
      ∧ θ_run (Cert.OutputRefIdeal.defs (F := Ideal)) (onTc (τ := Cert.OutputRefIdeal.τ) (Cert.OutputRefIdeal.main (F := Ideal))) ⟨m', fun _ => 0, g'⟩ (fun r => ∀ c : Dev Cert.OutputRefIdeal.nD,
          r.2.mem ((c.tc : Thread Cert.OutputRefIdeal.nD Cert.OutputRefIdeal.τ).loc Cert.OutputRefIdeal.main_v23) = v0 c
          ∧ r.2.mem ((c.tc : Thread Cert.OutputRefIdeal.nD Cert.OutputRefIdeal.τ).loc Cert.OutputRefIdeal.main_v42) = v1 c
          ∧ r.2.mem ((c.tc : Thread Cert.OutputRefIdeal.nD Cert.OutputRefIdeal.τ).loc Cert.OutputRefIdeal.main_arg0) = m' ((c.tc : Thread Cert.OutputRefIdeal.nD Cert.OutputRefIdeal.τ).loc Cert.OutputRefIdeal.main_arg0)
          ∧ r.2.mem ((c.tc : Thread Cert.OutputRefIdeal.nD Cert.OutputRefIdeal.τ).loc Cert.OutputRefIdeal.main_arg1) = m' ((c.tc : Thread Cert.OutputRefIdeal.nD Cert.OutputRefIdeal.τ).loc Cert.OutputRefIdeal.main_arg1)
          ∧ r.2.mem ((c.tc : Thread Cert.OutputRefIdeal.nD Cert.OutputRefIdeal.τ).loc Cert.OutputRefIdeal.main_arg2) = m' ((c.tc : Thread Cert.OutputRefIdeal.nD Cert.OutputRefIdeal.τ).loc Cert.OutputRefIdeal.main_arg2)
          ∧ r.2.mem ((c.tc : Thread Cert.OutputRefIdeal.nD Cert.OutputRefIdeal.τ).loc Cert.OutputRefIdeal.main_arg3) = m' ((c.tc : Thread Cert.OutputRefIdeal.nD Cert.OutputRefIdeal.τ).loc Cert.OutputRefIdeal.main_arg3)
          ∧ r.2.mem ((c.tc : Thread Cert.OutputRefIdeal.nD Cert.OutputRefIdeal.τ).loc Cert.OutputRefIdeal.main_arg4) = m' ((c.tc : Thread Cert.OutputRefIdeal.nD Cert.OutputRefIdeal.τ).loc Cert.OutputRefIdeal.main_arg4)
          ∧ r.2.mem ((c.tc : Thread Cert.OutputRefIdeal.nD Cert.OutputRefIdeal.τ).loc Cert.OutputRefIdeal.main_arg5) = m' ((c.tc : Thread Cert.OutputRefIdeal.nD Cert.OutputRefIdeal.τ).loc Cert.OutputRefIdeal.main_arg5)
          ∧ r.2.mem ((c.tc : Thread Cert.OutputRefIdeal.nD Cert.OutputRefIdeal.τ).loc Cert.OutputRefIdeal.main_arg6) = m' ((c.tc : Thread Cert.OutputRefIdeal.nD Cert.OutputRefIdeal.τ).loc Cert.OutputRefIdeal.main_arg6)
          ∧ r.2.mem ((c.tc : Thread Cert.OutputRefIdeal.nD Cert.OutputRefIdeal.τ).loc Cert.OutputRefIdeal.main_arg7) = m' ((c.tc : Thread Cert.OutputRefIdeal.nD Cert.OutputRefIdeal.τ).loc Cert.OutputRefIdeal.main_arg7)
          ∧ r.2.mem ((c.tc : Thread Cert.OutputRefIdeal.nD Cert.OutputRefIdeal.τ).loc Cert.OutputRefIdeal.main_arg8) = m' ((c.tc : Thread Cert.OutputRefIdeal.nD Cert.OutputRefIdeal.τ).loc Cert.OutputRefIdeal.main_arg8))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Sample_SampleIdeal : Prop :=
  True

def algebraic_SampleIdeal_SampleRefIdeal_pre_paged_finite [hSampleIdeal : Cert.SampleIdeal.Facts] [hSampleRefIdeal : Cert.SampleRefIdeal.Facts] [hPre_paged_finite : Cert.Pre_paged_finite.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal_paged_finite m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)) →
    ∃ (v0 : (c : Dev Cert.SampleIdeal.nD) → Buf (Elt Ideal) ((c.tc : Thread Cert.SampleIdeal.nD Cert.SampleIdeal.τ).loc Cert.SampleIdeal.main_v17)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v17) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v66) = v0 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4))

def Claim : Prop :=
  ∃ (hKernel : Cert.Kernel.Facts) (hKernelIdeal : Cert.KernelIdeal.Facts) (hReferenceIdeal : Cert.ReferenceIdeal.Facts) (hInput : Cert.Input.Facts) (hInputIdeal : Cert.InputIdeal.Facts) (hInputRefIdeal : Cert.InputRefIdeal.Facts) (hOutput : Cert.Output.Facts) (hOutputIdeal : Cert.OutputIdeal.Facts) (hOutputRefIdeal : Cert.OutputRefIdeal.Facts) (hDown : Cert.Down.Facts) (hDownIdeal : Cert.DownIdeal.Facts) (hDownRefIdeal : Cert.DownRefIdeal.Facts) (hNorm : Cert.Norm.Facts) (hNormIdeal : Cert.NormIdeal.Facts) (hNormRefIdeal : Cert.NormRefIdeal.Facts) (hSample : Cert.Sample.Facts) (hSampleIdeal : Cert.SampleIdeal.Facts) (hSampleRefIdeal : Cert.SampleRefIdeal.Facts) (hPre_finite : Cert.Pre_finite.Facts) (hPre_paged : Cert.Pre_paged.Facts) (hPre_paged_finite : Cert.Pre_paged_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Input (hInput := hInput)
    ∧ quiescent_InputIdeal (hInputIdeal := hInputIdeal)
    ∧ quiescent_InputRefIdeal (hInputRefIdeal := hInputRefIdeal)
    ∧ quiescent_Output (hOutput := hOutput)
    ∧ quiescent_OutputIdeal (hOutputIdeal := hOutputIdeal)
    ∧ quiescent_OutputRefIdeal (hOutputRefIdeal := hOutputRefIdeal)
    ∧ quiescent_Down (hDown := hDown)
    ∧ quiescent_DownIdeal (hDownIdeal := hDownIdeal)
    ∧ quiescent_DownRefIdeal (hDownRefIdeal := hDownRefIdeal)
    ∧ quiescent_Norm (hNorm := hNorm)
    ∧ quiescent_NormIdeal (hNormIdeal := hNormIdeal)
    ∧ quiescent_NormRefIdeal (hNormRefIdeal := hNormRefIdeal)
    ∧ quiescent_Sample (hSample := hSample) (hPre_paged := hPre_paged)
    ∧ quiescent_SampleIdeal (hSampleIdeal := hSampleIdeal) (hPre_paged := hPre_paged)
    ∧ quiescent_SampleIdeal_pre_paged_finite (hSampleIdeal := hSampleIdeal) (hPre_paged_finite := hPre_paged_finite)
    ∧ quiescent_SampleRefIdeal (hSampleRefIdeal := hSampleRefIdeal)
    ∧ quiescent_SampleRefIdeal_pre_paged_finite (hSampleRefIdeal := hSampleRefIdeal) (hPre_paged_finite := hPre_paged_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Input_InputIdeal
    ∧ algebraic_InputIdeal_InputRefIdeal (hInputIdeal := hInputIdeal) (hInputRefIdeal := hInputRefIdeal)
    ∧ preserves_Output_OutputIdeal
    ∧ algebraic_OutputIdeal_OutputRefIdeal (hOutputIdeal := hOutputIdeal) (hOutputRefIdeal := hOutputRefIdeal)
    ∧ preserves_Down_DownIdeal
    ∧ algebraic_DownIdeal_DownRefIdeal (hDownIdeal := hDownIdeal) (hDownRefIdeal := hDownRefIdeal)
    ∧ preserves_Norm_NormIdeal
    ∧ algebraic_NormIdeal_NormRefIdeal (hNormIdeal := hNormIdeal) (hNormRefIdeal := hNormRefIdeal)
    ∧ preserves_Sample_SampleIdeal
    ∧ algebraic_SampleIdeal_SampleRefIdeal_pre_paged_finite (hSampleIdeal := hSampleIdeal) (hSampleRefIdeal := hSampleRefIdeal) (hPre_paged_finite := hPre_paged_finite)
-- ==== Pre_finite.lean ====
abbrev S8704x3072 : Shape := ⟨2, ![8704, 3072]⟩
abbrev S1x8 : Shape := ⟨2, ![1, 8]⟩
abbrev S_ : Shape := ⟨0, ![]⟩

class Facts : Prop where
  bcast_S_S8704x3072 : S_.BroadcastsInDim S8704x3072 (![] : Fin 0 → Fin S8704x3072.rank)
  reducesTo_S8704x3072_S_d0_1 : S8704x3072.ReducesTo [0, 1] S_
  h_S_ : 0 < S_.numel
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S8704x3072 .f32) (main_arg1 : FVec F S1x8 .f32) : IVec S_ 1 :=
  let main_v0 : FVec F S8704x3072 .f32 := Host.absf main_arg0
  let main_cst : FVec F S_ .f32 := constant S_ .f32 0x7F800000#32
  let main_v1 : FVec F S8704x3072 .f32 := broadcastInDim S8704x3072 ![] bcast_S_S8704x3072 main_cst
  let main_v2 : IVec S8704x3072 1 := cmpf .olt main_v0 main_v1
  let main_c : IVec S_ 1 := constantI S_ 1 1#1
  let main_v3 : IVec S_ 1 := (fun x v => Host.reduce IntOp.andi x v reducesTo_S8704x3072_S_d0_1 h_S_) main_v2 main_c
  let main_v4 : FVec F S1x8 .f32 := Host.absf main_arg1
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  let main_c_1 : IVec S_ 1 := constantI S_ 1 1#1
  let main_v7 : IVec S_ 1 := (fun x v => Host.reduce IntOp.andi x v reducesTo_S1x8_S_d0_1 h_S_) main_v6 main_c_1
  let main_v8 : IVec S_ 1 := andi main_v3 main_v7
  main_v8
-- ==== Pre_paged.lean ====
abbrev S8704x3072 : Shape := ⟨2, ![8704, 3072]⟩
abbrev S1x2560x128x8x128 : Shape := ⟨5, ![1, 2560, 128, 8, 128]⟩
abbrev S128x16 : Shape := ⟨2, ![128, 16]⟩
abbrev S1x8 : Shape := ⟨2, ![1, 8]⟩
abbrev S_ : Shape := ⟨0, ![]⟩

class Facts : Prop where
  bcast_S_S128x16 : S_.BroadcastsInDim S128x16 (![] : Fin 0 → Fin S128x16.rank)
  reducesTo_S128x16_S_d0_1 : S128x16.ReducesTo [0, 1] S_
  h_S_ : 0 < S_.numel

variable [Facts]

def fn {F : FTy → Type} [FloatOps F] (main_arg0 : FVec F S8704x3072 .f32) (main_arg1 : FVec F S1x2560x128x8x128 .f32) (main_arg2 : FVec F S1x2560x128x8x128 .f32) (main_arg3 : IVec S128x16 32) (main_arg4 : FVec F S1x8 .f32) : IVec S_ 1 :=
  let main_c : IVec S_ 32 := constantI S_ 32 0#32
  let main_v0 : IVec S128x16 32 := broadcastInDim S128x16 ![] bcast_S_S128x16 main_c
  let main_v1 : IVec S128x16 1 := cmpi .sge main_arg3 main_v0
  let main_c_0 : IVec S_ 32 := constantI S_ 32 2560#32
  let main_v2 : IVec S128x16 32 := broadcastInDim S128x16 ![] bcast_S_S128x16 main_c_0
  let main_v3 : IVec S128x16 1 := cmpi .slt main_arg3 main_v2
  let main_v4 : IVec S128x16 1 := andi main_v1 main_v3
  let main_c_1 : IVec S_ 1 := constantI S_ 1 1#1
  let main_v5 : IVec S_ 1 := (fun x v => Host.reduce IntOp.andi x v reducesTo_S128x16_S_d0_1 h_S_) main_v4 main_c_1
  main_v5
-- ==== Pre_paged_finite.lean ====
abbrev S8704x3072 : Shape := ⟨2, ![8704, 3072]⟩
abbrev S1x2560x128x8x128 : Shape := ⟨5, ![1, 2560, 128, 8, 128]⟩
abbrev S128x16 : Shape := ⟨2, ![128, 16]⟩
abbrev S1x8 : Shape := ⟨2, ![1, 8]⟩
abbrev S_ : Shape := ⟨0, ![]⟩

class Facts : Prop where
  bcast_S_S128x16 : S_.BroadcastsInDim S128x16 (![] : Fin 0 → Fin S128x16.rank)
  reducesTo_S128x16_S_d0_1 : S128x16.ReducesTo [0, 1] S_
  h_S_ : 0 < S_.numel
  bcast_S_S8704x3072 : S_.BroadcastsInDim S8704x3072 (![] : Fin 0 → Fin S8704x3072.rank)
  reducesTo_S8704x3072_S_d0_1 : S8704x3072.ReducesTo [0, 1] S_
  bcast_S_S1x2560x128x8x128 : S_.BroadcastsInDim S1x2560x128x8x128 (![] : Fin 0 → Fin S1x2560x128x8x128.rank)
  reducesTo_S1x2560x128x8x128_S_d0_1_2_3_4 : S1x2560x128x8x128.ReducesTo [0, 1, 2, 3, 4] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_arg4 : FVec F S1x8 .f32) (main_v15 : IVec S_ 1) (main_v16 : FVec F S1x2560x128x8x128 .f32) : IVec S_ 1 :=
  let main_cst_5 : FVec F S_ .f32 := constant S_ .f32 0x7F800000#32
  let main_v17 : FVec F S1x2560x128x8x128 .f32 := broadcastInDim S1x2560x128x8x128 ![] bcast_S_S1x2560x128x8x128 main_cst_5
  let main_v18 : IVec S1x2560x128x8x128 1 := cmpf .olt main_v16 main_v17
  let main_c_6 : IVec S_ 1 := constantI S_ 1 1#1
  let main_v19 : IVec S_ 1 := (fun x v => Host.reduce IntOp.andi x v reducesTo_S1x2560x128x8x128_S_d0_1_2_3_4 h_S_) main_v18 main_c_6
  let main_v20 : IVec S_ 1 := andi main_v15 main_v19
  let main_v21 : FVec F S1x8 .f32 := Host.absf main_arg4
  let main_cst_7 : FVec F S_ .f32 := constant S_ .f32 0x7F800000#32
  let main_v22 : FVec F S1x8 .f32 := broadcastInDim S1x8 ![] bcast_S_S1x8 main_cst_7
  let main_v23 : IVec S1x8 1 := cmpf .olt main_v21 main_v22
  let main_c_8 : IVec S_ 1 := constantI S_ 1 1#1
  let main_v24 : IVec S_ 1 := (fun x v => Host.reduce IntOp.andi x v reducesTo_S1x8_S_d0_1 h_S_) main_v23 main_c_8
  let main_v25 : IVec S_ 1 := andi main_v20 main_v24
  main_v25

def fn {F : FTy → Type} [FloatOps F] (main_arg0 : FVec F S8704x3072 .f32) (main_arg1 : FVec F S1x2560x128x8x128 .f32) (main_arg2 : FVec F S1x2560x128x8x128 .f32) (main_arg3 : IVec S128x16 32) (main_arg4 : FVec F S1x8 .f32) : IVec S_ 1 :=
  let main_c : IVec S_ 32 := constantI S_ 32 0#32
  let main_v0 : IVec S128x16 32 := broadcastInDim S128x16 ![] bcast_S_S128x16 main_c
  let main_v1 : IVec S128x16 1 := cmpi .sge main_arg3 main_v0
  let main_c_0 : IVec S_ 32 := constantI S_ 32 2560#32
  let main_v2 : IVec S128x16 32 := broadcastInDim S128x16 ![] bcast_S_S128x16 main_c_0
  let main_v3 : IVec S128x16 1 := cmpi .slt main_arg3 main_v2
  let main_v4 : IVec S128x16 1 := andi main_v1 main_v3
  let main_c_1 : IVec S_ 1 := constantI S_ 1 1#1
  let main_v5 : IVec S_ 1 := (fun x v => Host.reduce IntOp.andi x v reducesTo_S128x16_S_d0_1 h_S_) main_v4 main_c_1
  let main_v6 : FVec F S8704x3072 .f32 := Host.absf main_arg0
  let main_cst : FVec F S_ .f32 := constant S_ .f32 0x7F800000#32
  let main_v7 : FVec F S8704x3072 .f32 := broadcastInDim S8704x3072 ![] bcast_S_S8704x3072 main_cst
  let main_v8 : IVec S8704x3072 1 := cmpf .olt main_v6 main_v7
  let main_c_2 : IVec S_ 1 := constantI S_ 1 1#1
  let main_v9 : IVec S_ 1 := (fun x v => Host.reduce IntOp.andi x v reducesTo_S8704x3072_S_d0_1 h_S_) main_v8 main_c_2
  let main_v10 : IVec S_ 1 := andi main_v5 main_v9
  let main_v11 : FVec F S1x2560x128x8x128 .f32 := Host.absf main_arg1
  let main_cst_3 : FVec F S_ .f32 := constant S_ .f32 0x7F800000#32
  let main_v12 : FVec F S1x2560x128x8x128 .f32 := broadcastInDim S1x2560x128x8x128 ![] bcast_S_S1x2560x128x8x128 main_cst_3
  let main_v13 : IVec S1x2560x128x8x128 1 := cmpf .olt main_v11 main_v12
  let main_c_4 : IVec S_ 1 := constantI S_ 1 1#1
  let main_v14 : IVec S_ 1 := (fun x v => Host.reduce IntOp.andi x v reducesTo_S1x2560x128x8x128_S_d0_1_2_3_4 h_S_) main_v13 main_c_4
  let main_v15 : IVec S_ 1 := andi main_v10 main_v14
  let main_v16 : FVec F S1x2560x128x8x128 .f32 := Host.absf main_arg2
  fn_part1 (F := F) main_arg4 main_v15 main_v16
-- ==== Kernel.lean ====
abbrev S8704x3072 : Shape := ⟨2, ![8704, 3072]⟩
abbrev S1x8 : Shape := ⟨2, ![1, 8]⟩
abbrev S8 : Shape := ⟨1, ![8]⟩
abbrev S8192x1024 : Shape := ⟨2, ![8192, 1024]⟩
abbrev S256x512 : Shape := ⟨2, ![256, 512]⟩
abbrev S4096x512 : Shape := ⟨2, ![4096, 512]⟩
abbrev S1024x1 : Shape := ⟨2, ![1024, 1]⟩
abbrev S256x128 : Shape := ⟨2, ![256, 128]⟩
abbrev S128x128 : Shape := ⟨2, ![128, 128]⟩
abbrev S1x256x128 : Shape := ⟨3, ![1, 256, 128]⟩
abbrev S4x256x128 : Shape := ⟨3, ![4, 256, 128]⟩
abbrev S1 : Shape := ⟨1, ![1]⟩
abbrev S256x1 : Shape := ⟨2, ![256, 1]⟩
abbrev S1024x128 : Shape := ⟨2, ![1024, 128]⟩
abbrev S128x512 : Shape := ⟨2, ![128, 512]⟩
abbrev S1x128x128 : Shape := ⟨3, ![1, 128, 128]⟩
abbrev S4x128x128 : Shape := ⟨3, ![4, 128, 128]⟩
abbrev S2048x128 : Shape := ⟨2, ![2048, 128]⟩
abbrev S1024 : Shape := ⟨1, ![1024]⟩

abbrev nBuf : Space → Nat
  | .hbm => 4
  | .vmem => 9
  | .smem => 1
  | _ => 0

abbrev bufTy : (tb : Table) → Fin (tcTables nBuf tb) → BufTy
  | .hbm, ⟨0, _⟩ => ⟨S8704x3072, .f32⟩
  | .hbm, ⟨1, _⟩ => ⟨S1x8, .f32⟩
  | .hbm, ⟨2, _⟩ => ⟨S8, .f32⟩
  | .hbm, ⟨3, _⟩ => ⟨S8192x1024, .f32⟩
  | .local _ .vmem, ⟨0, _⟩ => ⟨S256x512, .f32⟩
  | .local _ .vmem, ⟨1, _⟩ => ⟨S256x512, .f32⟩
  | .local _ .vmem, ⟨2, _⟩ => ⟨S4096x512, .f32⟩
  | .local _ .vmem, ⟨3, _⟩ => ⟨S4096x512, .f32⟩
  | .local _ .vmem, ⟨4, _⟩ => ⟨S4096x512, .f32⟩
  | .local _ .vmem, ⟨5, _⟩ => ⟨S4096x512, .f32⟩
  | .local _ .vmem, ⟨6, _⟩ => ⟨S256x512, .f32⟩
  | .local _ .vmem, ⟨7, _⟩ => ⟨S256x512, .f32⟩
  | .local _ .vmem, ⟨8, _⟩ => ⟨S1024x1, .f32⟩
  | .local _ .smem, ⟨0, _⟩ => ⟨S8, .f32⟩
  | _, _ => ⟨S8704x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 2, 16], ![false, false, false]⟩

def k0_off1 (i : grid0.Coords) (c0_i32 : BitVec 32) : Fin 1 → Nat :=
  let arg1 : BitVec 32 := BitVec.ofNat 32 (i 1).val
  let c4_i32 : BitVec 32 := 4#32
  let v19 : BitVec 32 := Scalar.muli arg1 c4_i32
  let v20 : BitVec 32 := Scalar.addi v19 c0_i32
  let v21 : Index := Scalar.indexCast v20
  ![v21.toNat]
@[reducible] def k0_t1_loop (i : grid0.Coords) : Scf.Loop 32 :=
  let c0_i32_11 : BitVec 32 := 0#32
  let arg2 : BitVec 32 := BitVec.ofNat 32 (i 2).val
  let c1_i32_9 : BitVec 32 := 1#32
  let v46 : BitVec 32 := Scalar.addi arg2 c1_i32_9
  let c2_i32_10 : BitVec 32 := 2#32
  let v47 : BitVec 32 := Scalar.muli v46 c2_i32_10
  let v48 : BitVec 32 := Scalar.subi v47 c0_i32_11
  let c1_i32_13 : BitVec 32 := 1#32
  let v50 : BitVec 32 := Scalar.divsi v48 c1_i32_13
  let v51 : BitVec 32 := Scalar.muli v50 c1_i32_13
  let v52 : BitVec 32 := Scalar.addi c0_i32_11 v51
  let c1_i32_14 : BitVec 32 := 1#32
  ⟨c0_i32_11, v52, c1_i32_14⟩
def k0_mult1 (i : grid0.Coords) (k0_t1 : Fin (k0_t1_loop i).trips) : BitVec 32 :=
  let arg2 : BitVec 32 := BitVec.ofNat 32 (i 2).val
  let c1_i32_9 : BitVec 32 := 1#32
  let v46 : BitVec 32 := Scalar.addi arg2 c1_i32_9
  let c2_i32_10 : BitVec 32 := 2#32
  let v47 : BitVec 32 := Scalar.muli v46 c2_i32_10
  let c1_i32_16 : BitVec 32 := 1#32
  let v55 : BitVec 32 := Scalar.subi v47 c1_i32_16
  let c0_i32_11 : BitVec 32 := 0#32
  let c1_i32_14 : BitVec 32 := 1#32
  let arg9 : BitVec 32 := Scf.iv c0_i32_11 c1_i32_14 k0_t1
  let v56 : BitVec 32 := Scalar.subi v55 arg9
  let c128_i32 : BitVec 32 := 128#32
  let v57 : BitVec 32 := Scalar.muli v56 c128_i32
  v57
def k0_off2 (i : grid0.Coords) (k0_t1 : Fin (k0_t1_loop i).trips) : Fin 2 → Nat :=
  let arg2 : BitVec 32 := BitVec.ofNat 32 (i 2).val
  let c1_i32_9 : BitVec 32 := 1#32
  let v46 : BitVec 32 := Scalar.addi arg2 c1_i32_9
  let c2_i32_10 : BitVec 32 := 2#32
  let v47 : BitVec 32 := Scalar.muli v46 c2_i32_10
  let c1_i32_16 : BitVec 32 := 1#32
  let v55 : BitVec 32 := Scalar.subi v47 c1_i32_16
  let c0_i32_11 : BitVec 32 := 0#32
  let c1_i32_14 : BitVec 32 := 1#32
  let arg9 : BitVec 32 := Scf.iv c0_i32_11 c1_i32_14 k0_t1
  let v56 : BitVec 32 := Scalar.subi v55 arg9
  let c128_i32 : BitVec 32 := 128#32
  let v57 : BitVec 32 := Scalar.muli v56 c128_i32
  let v58 : BitVec 32 := v57
  let v67 : Index := Scalar.indexCast v58
  let c0_18 : Index := 0#32
  ![v67.toNat, 0]
@[reducible] def k0_t2_loop (i : grid0.Coords) : Scf.Loop 32 :=
  let c0_i32_11 : BitVec 32 := 0#32
  let arg2 : BitVec 32 := BitVec.ofNat 32 (i 2).val
  let c1_i32_9 : BitVec 32 := 1#32
  let v46 : BitVec 32 := Scalar.addi arg2 c1_i32_9
  let c2_i32_10 : BitVec 32 := 2#32
  let v47 : BitVec 32 := Scalar.muli v46 c2_i32_10
  let v48 : BitVec 32 := Scalar.subi v47 c0_i32_11
  let c1_i32_13 : BitVec 32 := 1#32
  let v50 : BitVec 32 := Scalar.divsi v48 c1_i32_13
  let v51 : BitVec 32 := Scalar.muli v50 c1_i32_13
  let v52 : BitVec 32 := Scalar.addi c0_i32_11 v51
  let v49 : BitVec 32 := Scalar.addi c0_i32_11 v48
  let c1_i32_15 : BitVec 32 := 1#32
  ⟨v52, v49, c1_i32_15⟩
def k0_mult2 (i : grid0.Coords) (k0_t2 : Fin (k0_t2_loop i).trips) : BitVec 32 :=
  let arg2 : BitVec 32 := BitVec.ofNat 32 (i 2).val
  let c1_i32_9 : BitVec 32 := 1#32
  let v46 : BitVec 32 := Scalar.addi arg2 c1_i32_9
  let c2_i32_10 : BitVec 32 := 2#32
  let v47 : BitVec 32 := Scalar.muli v46 c2_i32_10
  let c1_i32_16 : BitVec 32 := 1#32
  let v55 : BitVec 32 := Scalar.subi v47 c1_i32_16
  let c0_i32_11 : BitVec 32 := 0#32
  let v48 : BitVec 32 := Scalar.subi v47 c0_i32_11
  let c1_i32_13 : BitVec 32 := 1#32
  let v50 : BitVec 32 := Scalar.divsi v48 c1_i32_13
  let v51 : BitVec 32 := Scalar.muli v50 c1_i32_13
  let v52 : BitVec 32 := Scalar.addi c0_i32_11 v51
  let c1_i32_15 : BitVec 32 := 1#32
  let arg9 : BitVec 32 := Scf.iv v52 c1_i32_15 k0_t2
  let v56 : BitVec 32 := Scalar.subi v55 arg9
  let c128_i32 : BitVec 32 := 128#32
  let v57 : BitVec 32 := Scalar.muli v56 c128_i32
  v57
def k0_off3 (i : grid0.Coords) (k0_t2 : Fin (k0_t2_loop i).trips) : Fin 2 → Nat :=
  let arg2 : BitVec 32 := BitVec.ofNat 32 (i 2).val
  let c1_i32_9 : BitVec 32 := 1#32
  let v46 : BitVec 32 := Scalar.addi arg2 c1_i32_9
  let c2_i32_10 : BitVec 32 := 2#32
  let v47 : BitVec 32 := Scalar.muli v46 c2_i32_10
  let c1_i32_16 : BitVec 32 := 1#32
  let v55 : BitVec 32 := Scalar.subi v47 c1_i32_16
  let c0_i32_11 : BitVec 32 := 0#32
  let v48 : BitVec 32 := Scalar.subi v47 c0_i32_11
  let c1_i32_13 : BitVec 32 := 1#32
  let v50 : BitVec 32 := Scalar.divsi v48 c1_i32_13
  let v51 : BitVec 32 := Scalar.muli v50 c1_i32_13
  let v52 : BitVec 32 := Scalar.addi c0_i32_11 v51
  let c1_i32_15 : BitVec 32 := 1#32
  let arg9 : BitVec 32 := Scf.iv v52 c1_i32_15 k0_t2
  let v56 : BitVec 32 := Scalar.subi v55 arg9
  let c128_i32 : BitVec 32 := 128#32
  let v57 : BitVec 32 := Scalar.muli v56 c128_i32
  let v58 : BitVec 32 := v57
  let v67 : Index := Scalar.indexCast v58
  let c0_18 : Index := 0#32
  ![v67.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8704x3072 : Shape := ⟨2, ![8704, 3072]⟩
abbrev S1x8 : Shape := ⟨2, ![1, 8]⟩
abbrev S8192x3072 : Shape := ⟨2, ![8192, 3072]⟩
abbrev S2x4096x3072 : Shape := ⟨3, ![2, 4096, 3072]⟩
abbrev S2x4096x1024 : Shape := ⟨3, ![2, 4096, 1024]⟩
abbrev S2x4096x8x128 : Shape := ⟨4, ![2, 4096, 8, 128]⟩
abbrev S8 : Shape := ⟨1, ![8]⟩
abbrev S2x8x4096x4096 : Shape := ⟨4, ![2, 8, 4096, 4096]⟩
abbrev S_ : Shape := ⟨0, ![]⟩
abbrev S1x8x1x1 : Shape := ⟨4, ![1, 8, 1, 1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x128x4096 : Shape := ⟨4, ![2, 8, 128, 4096]⟩
abbrev S8192x1024 : Shape := ⟨2, ![8192, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8704x3072, .f32⟩
  | .hbm, ⟨1, _⟩ => ⟨S1x8, .f32⟩
  | .hbm, ⟨2, _⟩ => ⟨S8192x3072, .f32⟩
  | .hbm, ⟨3, _⟩ => ⟨S2x4096x3072, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S2x4096x8x128, .f32⟩
  | .hbm, ⟨8, _⟩ => ⟨S2x4096x8x128, .f32⟩
  | .hbm, ⟨9, _⟩ => ⟨S2x4096x8x128, .f32⟩
  | .hbm, ⟨10, _⟩ => ⟨S8, .f32⟩
  | .hbm, ⟨11, _⟩ => ⟨S2x8x4096x4096, .f32⟩
  | .hbm, ⟨12, _⟩ => ⟨S_, .f32⟩
  | .hbm, ⟨13, _⟩ => ⟨S2x8x4096x4096, .f32⟩
  | .hbm, ⟨14, _⟩ => ⟨S2x8x4096x4096, .f32⟩
  | .hbm, ⟨15, _⟩ => ⟨S1x8x1x1, .f32⟩
  | .hbm, ⟨16, _⟩ => ⟨S2x8x4096x4096, .f32⟩
  | .hbm, ⟨17, _⟩ => ⟨S2x8x4096x4096, .f32⟩
  | .hbm, ⟨18, _⟩ => ⟨S4096, .i32⟩
  | .hbm, ⟨19, _⟩ => ⟨S4096, .i32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S2x8x4096x4096, .f32⟩
  | .hbm, ⟨26, _⟩ => ⟨S2x8x4096x4096, .f32⟩
  | .hbm, ⟨27, _⟩ => ⟨S_, .f32⟩
  | .hbm, ⟨28, _⟩ => ⟨S2x8x4096x4096, .f32⟩
  | .hbm, ⟨29, _⟩ => ⟨S2x8x4096x4096, .f32⟩
  | .hbm, ⟨30, _⟩ => ⟨S2x8x4096x4096, .f32⟩
  | .hbm, ⟨31, _⟩ => ⟨S2x8x4096x4096, .f32⟩
  | .hbm, ⟨32, _⟩ => ⟨S2x8x4096x4096, .i1⟩
  | .hbm, ⟨33, _⟩ => ⟨S2x8x4096x4096, .f32⟩
  | .hbm, ⟨34, _⟩ => ⟨S2x8x4096x4096, .f32⟩
  | .hbm, ⟨35, _⟩ => ⟨S2x8x4096x4096, .f32⟩
  | .hbm, ⟨36, _⟩ => ⟨S2x8x4096x4096, .f32⟩
  | .hbm, ⟨37, _⟩ => ⟨S2x8x4096x4096, .f32⟩
  | .hbm, ⟨38, _⟩ => ⟨S2x8x4096x4096, .f32⟩
  | .hbm, ⟨39, _⟩ => ⟨S2x8x4096x4096, .f32⟩
  | .hbm, ⟨40, _⟩ => ⟨S2x8x4096x4096, .f32⟩
  | .hbm, ⟨41, _⟩ => ⟨S2x8x4096x4096, .f32⟩
  | .hbm, ⟨42, _⟩ => ⟨S_, .f32⟩
  | .hbm, ⟨43, _⟩ => ⟨S_, .f32⟩
  | .hbm, ⟨44, _⟩ => ⟨S2x8x4096x4096, .i1⟩
  | .hbm, ⟨45, _⟩ => ⟨S2x8x4096x4096, .f32⟩
  | .hbm, ⟨46, _⟩ => ⟨S2x8x4096x4096, .f32⟩
  | .hbm, ⟨47, _⟩ => ⟨S_, .f32⟩
  | .hbm, ⟨48, _⟩ => ⟨S_, .f32⟩
  | .hbm, ⟨49, _⟩ => ⟨S2x8x4096x4096, .f32⟩
  | .hbm, ⟨50, _⟩ => ⟨S2x8x4096x4096, .f32⟩
  | .hbm, ⟨51, _⟩ => ⟨S2x8x4096x4096, .f32⟩
  | .hbm, ⟨52, _⟩ => ⟨S_, .f32⟩
  | .hbm, ⟨53, _⟩ => ⟨S2x8x4096x4096, .f32⟩
  | .hbm, ⟨54, _⟩ => ⟨S2x8x4096x4096, .f32⟩
  | .hbm, ⟨55, _⟩ => ⟨S2x8x4096x4096, .f32⟩
  | .hbm, ⟨56, _⟩ => ⟨S2x8x4096x4096, .f32⟩
  | .hbm, ⟨57, _⟩ => ⟨S2x8x4096x4096, .i1⟩
  | .hbm, ⟨58, _⟩ => ⟨S2x8x4096x4096, .f32⟩
  | .hbm, ⟨59, _⟩ => ⟨S2x8x4096x4096, .f32⟩
  | .hbm, ⟨60, _⟩ => ⟨S2x8x4096x4096, .f32⟩
  | .hbm, ⟨61, _⟩ => ⟨S2x8x4096x4096, .f32⟩
  | .hbm, ⟨62, _⟩ => ⟨S2x8x4096x4096, .f32⟩
  | .hbm, ⟨63, _⟩ => ⟨S2x8x4096x4096, .f32⟩
  | .hbm, ⟨64, _⟩ => ⟨S2x8x4096x4096, .f32⟩
  | .hbm, ⟨65, _⟩ => ⟨S2x8x4096x4096, .f32⟩
  | .hbm, ⟨66, _⟩ => ⟨S2x8x4096x4096, .f32⟩
  | .hbm, ⟨67, _⟩ => ⟨S2x8x4096x4096, .f32⟩
  | .hbm, ⟨68, _⟩ => ⟨S2x8x4096x4096, .f32⟩
  | .hbm, ⟨69, _⟩ => ⟨S_, .f32⟩
  | .hbm, ⟨70, _⟩ => ⟨S_, .f32⟩
  | .hbm, ⟨71, _⟩ => ⟨S2x8x4096x4096, .i1⟩
  | .hbm, ⟨72, _⟩ => ⟨S2x8x4096x4096, .f32⟩
  | .hbm, ⟨73, _⟩ => ⟨S2x8x4096x4096, .f32⟩
  | .hbm, ⟨74, _⟩ => ⟨S2x8x128x4096, .f32⟩
  | .hbm, ⟨75, _⟩ => ⟨S2x4096x8x128, .f32⟩
  | .hbm, ⟨76, _⟩ => ⟨S8192x1024, .f32⟩
  | _, _ => ⟨S8704x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v23 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v24 : Ref sig .tc := ⟨.hbm, 46, rfl⟩
abbrev main_call2_cst : Ref sig .tc := ⟨.hbm, 47, rfl⟩
abbrev main_call2_v0 : Ref sig .tc := ⟨.hbm, 48, rfl⟩
abbrev main_v25 : Ref sig .tc := ⟨.hbm, 49, rfl⟩
abbrev main_v26 : Ref sig .tc := ⟨.hbm, 50, rfl⟩
abbrev main_call3_v0 : Ref sig .tc := ⟨.hbm, 51, rfl⟩
abbrev main_call3_call0_cst : Ref sig .tc := ⟨.hbm, 52, rfl⟩
abbrev main_call3_call0_v0 : Ref sig .tc := ⟨.hbm, 53, rfl⟩
abbrev main_call3_call0_v1 : Ref sig .tc := ⟨.hbm, 54, rfl⟩
abbrev main_call3_call0_v2 : Ref sig .tc := ⟨.hbm, 55, rfl⟩
abbrev main_call3_call0_v3 : Ref sig .tc := ⟨.hbm, 56, rfl⟩
abbrev main_call3_call0_v4 : Ref sig .tc := ⟨.hbm, 57, rfl⟩
abbrev main_call3_call0_v5 : Ref sig .tc := ⟨.hbm, 58, rfl⟩
abbrev main_call3_call0_v6 : Ref sig .tc := ⟨.hbm, 59, rfl⟩
abbrev main_call3_call0_v7 : Ref sig .tc := ⟨.hbm, 60, rfl⟩
abbrev main_call3_call0_v8 : Ref sig .tc := ⟨.hbm, 61, rfl⟩
abbrev main_call3_call0_v9 : Ref sig .tc := ⟨.hbm, 62, rfl⟩
abbrev main_call3_call0_v10 : Ref sig .tc := ⟨.hbm, 63, rfl⟩
abbrev main_call3_call0_v11 : Ref sig .tc := ⟨.hbm, 64, rfl⟩
abbrev main_call3_v1 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_1 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩

abbrev nD : Nat := 1
abbrev τ : Topo := Topo.v7x

variable {F : FTy → Type} [FloatOps F]
-- ==== Input.lean ====
abbrev S2x4096x2048 : Shape := ⟨3, ![2, 4096, 2048]⟩
abbrev S128x4x2048 : Shape := ⟨3, ![128, 4, 2048]⟩
abbrev S1x2048 : Shape := ⟨2, ![1, 2048]⟩
abbrev S1x2048x10528 : Shape := ⟨3, ![1, 2048, 10528]⟩
abbrev S8192x2048 : Shape := ⟨2, ![8192, 2048]⟩
abbrev S512x2048 : Shape := ⟨2, ![512, 2048]⟩
abbrev S8704x2048 : Shape := ⟨2, ![8704, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩
abbrev S2048x10528 : Shape := ⟨2, ![2048, 10528]⟩
abbrev S2048x3072 : Shape := ⟨2, ![2048, 3072]⟩
abbrev S2048x288 : Shape := ⟨2, ![2048, 288]⟩
abbrev S2048x4096 : Shape := ⟨2, ![2048, 4096]⟩
abbrev S8704x3072 : Shape := ⟨2, ![8704, 3072]⟩
abbrev S2048x1024 : Shape := ⟨2, ![2048, 1024]⟩
abbrev S512x1024 : Shape := ⟨2, ![512, 1024]⟩
abbrev S8704x288 : Shape := ⟨2, ![8704, 288]⟩
abbrev S512x288 : Shape := ⟨2, ![512, 288]⟩
abbrev S8704x4096 : Shape := ⟨2, ![8704, 4096]⟩

abbrev nBuf : Space → Nat
  | .hbm => 23
  | .vmem => 28
  | .smem => 0
  | _ => 0

abbrev bufTy : (tb : Table) → Fin (tcTables nBuf tb) → BufTy
  | .hbm, ⟨0, _⟩ => ⟨S2x4096x2048, .f32⟩
  | .hbm, ⟨1, _⟩ => ⟨S128x4x2048, .f32⟩
  | .hbm, ⟨2, _⟩ => ⟨S1x2048, .f32⟩
  | .hbm, ⟨3, _⟩ => ⟨S1x2048x10528, .f32⟩
  | .hbm, ⟨4, _⟩ => ⟨S8192x2048, .f32⟩
  | .hbm, ⟨5, _⟩ => ⟨S512x2048, .f32⟩
  | .hbm, ⟨6, _⟩ => ⟨S8704x2048, .f32⟩
  | .hbm, ⟨7, _⟩ => ⟨S2048, .f32⟩
  | .hbm, ⟨8, _⟩ => ⟨S1x2048, .f32⟩
  | .hbm, ⟨9, _⟩ => ⟨S8704x2048, .bf16⟩
  | .hbm, ⟨10, _⟩ => ⟨S2048x10528, .f32⟩
  | .hbm, ⟨11, _⟩ => ⟨S2048x3072, .f32⟩
  | .hbm, ⟨12, _⟩ => ⟨S2048x3072, .bf16⟩
  | .hbm, ⟨13, _⟩ => ⟨S2048x3072, .f32⟩
  | .hbm, ⟨14, _⟩ => ⟨S2048x3072, .bf16⟩
  | .hbm, ⟨15, _⟩ => ⟨S2048x288, .f32⟩
  | .hbm, ⟨16, _⟩ => ⟨S2048x288, .bf16⟩
  | .hbm, ⟨17, _⟩ => ⟨S2048x4096, .f32⟩
  | .hbm, ⟨18, _⟩ => ⟨S2048x4096, .bf16⟩
  | .hbm, ⟨19, _⟩ => ⟨S8704x3072, .f32⟩
  | .hbm, ⟨20, _⟩ => ⟨S8704x3072, .f32⟩
  | .hbm, ⟨21, _⟩ => ⟨S8704x288, .f32⟩
  | .hbm, ⟨22, _⟩ => ⟨S8704x4096, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S512x2048, .bf16⟩
  | .local _ .vmem, ⟨6, _⟩ => ⟨S512x2048, .bf16⟩
  | .local _ .vmem, ⟨7, _⟩ => ⟨S2048x1024, .bf16⟩
  | .local _ .vmem, ⟨8, _⟩ => ⟨S2048x1024, .bf16⟩
  | .local _ .vmem, ⟨9, _⟩ => ⟨S512x1024, .f32⟩
  | .local _ .vmem, ⟨10, _⟩ => ⟨S512x1024, .f32⟩
  | .local _ .vmem, ⟨11, _⟩ => ⟨S512x2048, .bf16⟩
  | .local _ .vmem, ⟨12, _⟩ => ⟨S512x2048, .bf16⟩
  | .local _ .vmem, ⟨13, _⟩ => ⟨S2048x1024, .bf16⟩
  | .local _ .vmem, ⟨14, _⟩ => ⟨S2048x1024, .bf16⟩
  | .local _ .vmem, ⟨15, _⟩ => ⟨S512x1024, .f32⟩
  | .local _ .vmem, ⟨16, _⟩ => ⟨S512x1024, .f32⟩
  | .local _ .vmem, ⟨17, _⟩ => ⟨S512x2048, .bf16⟩
  | .local _ .vmem, ⟨18, _⟩ => ⟨S512x2048, .bf16⟩
  | .local _ .vmem, ⟨19, _⟩ => ⟨S2048x288, .bf16⟩
  | .local _ .vmem, ⟨20, _⟩ => ⟨S512x288, .f32⟩
  | .local _ .vmem, ⟨21, _⟩ => ⟨S512x288, .f32⟩
  | .local _ .vmem, ⟨22, _⟩ => ⟨S512x2048, .bf16⟩
  | .local _ .vmem, ⟨23, _⟩ => ⟨S512x2048, .bf16⟩
  | .local _ .vmem, ⟨24, _⟩ => ⟨S2048x1024, .bf16⟩
  | .local _ .vmem, ⟨25, _⟩ => ⟨S2048x1024, .bf16⟩
  | .local _ .vmem, ⟨26, _⟩ => ⟨S512x1024, .f32⟩
  | .local _ .vmem, ⟨27, _⟩ => ⟨S512x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![17, 3, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![17, 3, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![17, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S2048x288 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x288 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![17, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== InputRefIdeal.lean ====
abbrev S2x4096x2048 : Shape := ⟨3, ![2, 4096, 2048]⟩
abbrev S128x4x2048 : Shape := ⟨3, ![128, 4, 2048]⟩
abbrev S1x2048 : Shape := ⟨2, ![1, 2048]⟩
abbrev S1x2048x10528 : Shape := ⟨3, ![1, 2048, 10528]⟩
abbrev S8192x2048 : Shape := ⟨2, ![8192, 2048]⟩
abbrev S512x2048 : Shape := ⟨2, ![512, 2048]⟩
abbrev S8704x2048 : Shape := ⟨2, ![8704, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S2048x10528 : Shape := ⟨2, ![2048, 10528]⟩
abbrev S8704x10528 : Shape := ⟨2, ![8704, 10528]⟩
abbrev S8704x3072 : Shape := ⟨2, ![8704, 3072]⟩
abbrev S8704x288 : Shape := ⟨2, ![8704, 288]⟩
abbrev S8704x4096 : Shape := ⟨2, ![8704, 4096]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S128x4x2048, .f32⟩
  | .hbm, ⟨2, _⟩ => ⟨S1x2048, .f32⟩
  | .hbm, ⟨3, _⟩ => ⟨S1x2048x10528, .f32⟩
  | .hbm, ⟨4, _⟩ => ⟨S8192x2048, .f32⟩
  | .hbm, ⟨5, _⟩ => ⟨S512x2048, .f32⟩
  | .hbm, ⟨6, _⟩ => ⟨S8704x2048, .f32⟩
  | .hbm, ⟨7, _⟩ => ⟨S2048, .f32⟩
  | .hbm, ⟨8, _⟩ => ⟨S8704x2048, .f32⟩
  | .hbm, ⟨9, _⟩ => ⟨S_, .f32⟩
  | .hbm, ⟨10, _⟩ => ⟨S8704, .f32⟩
  | .hbm, ⟨11, _⟩ => ⟨S8704x1, .f32⟩
  | .hbm, ⟨12, _⟩ => ⟨S_, .f32⟩
  | .hbm, ⟨13, _⟩ => ⟨S8704x1, .f32⟩
  | .hbm, ⟨14, _⟩ => ⟨S8704x1, .f32⟩
  | .hbm, ⟨15, _⟩ => ⟨S_, .f32⟩
  | .hbm, ⟨16, _⟩ => ⟨S8704x1, .f32⟩
  | .hbm, ⟨17, _⟩ => ⟨S8704x1, .f32⟩
  | .hbm, ⟨18, _⟩ => ⟨S8704x1, .f32⟩
  | .hbm, ⟨19, _⟩ => ⟨S8704x2048, .f32⟩
  | .hbm, ⟨20, _⟩ => ⟨S8704x2048, .f32⟩
  | .hbm, ⟨21, _⟩ => ⟨S1x2048, .f32⟩
  | .hbm, ⟨22, _⟩ => ⟨S8704x2048, .f32⟩
  | .hbm, ⟨23, _⟩ => ⟨S8704x2048, .f32⟩
  | .hbm, ⟨24, _⟩ => ⟨S2048x10528, .f32⟩
  | .hbm, ⟨25, _⟩ => ⟨S8704x10528, .f32⟩
  | .hbm, ⟨26, _⟩ => ⟨S8704x3072, .f32⟩
  | .hbm, ⟨27, _⟩ => ⟨S8704x3072, .f32⟩
  | .hbm, ⟨28, _⟩ => ⟨S8704x288, .f32⟩
  | .hbm, ⟨29, _⟩ => ⟨S8704x4096, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Output.lean ====
abbrev S8704x2048 : Shape := ⟨2, ![8704, 2048]⟩
abbrev S8704x1024 : Shape := ⟨2, ![8704, 1024]⟩
abbrev S8704x4096 : Shape := ⟨2, ![8704, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x8192 : Shape := ⟨3, ![1, 2048, 8192]⟩
abbrev S1024x2048 : Shape := ⟨2, ![1024, 2048]⟩
abbrev S512x1024 : Shape := ⟨2, ![512, 1024]⟩
abbrev S1024x1024 : Shape := ⟨2, ![1024, 1024]⟩
abbrev S2048x2048 : Shape := ⟨2, ![2048, 2048]⟩
abbrev S512x2048 : Shape := ⟨2, ![512, 2048]⟩
abbrev S2048x1024 : Shape := ⟨2, ![2048, 1024]⟩
abbrev S2048 : Shape := ⟨1, ![2048]⟩
abbrev S256x2048 : Shape := ⟨2, ![256, 2048]⟩
abbrev S256 : Shape := ⟨1, ![256]⟩
abbrev S256x1 : Shape := ⟨2, ![256, 1]⟩
abbrev S2048x8192 : Shape := ⟨2, ![2048, 8192]⟩
abbrev S8704x8192 : Shape := ⟨2, ![8704, 8192]⟩

abbrev nBuf : Space → Nat
  | .hbm => 26
  | .vmem => 37
  | .smem => 0
  | _ => 0

abbrev bufTy : (tb : Table) → Fin (tcTables nBuf tb) → BufTy
  | .hbm, ⟨0, _⟩ => ⟨S8704x2048, .f32⟩
  | .hbm, ⟨1, _⟩ => ⟨S8704x1024, .f32⟩
  | .hbm, ⟨2, _⟩ => ⟨S8704x1024, .f32⟩
  | .hbm, ⟨3, _⟩ => ⟨S8704x4096, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048x8192, .f32⟩
  | .hbm, ⟨9, _⟩ => ⟨S8704x1024, .bf16⟩
  | .hbm, ⟨10, _⟩ => ⟨S8704x1024, .bf16⟩
  | .hbm, ⟨11, _⟩ => ⟨S1024x2048, .f32⟩
  | .hbm, ⟨12, _⟩ => ⟨S1024x2048, .bf16⟩
  | .hbm, ⟨13, _⟩ => ⟨S8704x2048, .f32⟩
  | .hbm, ⟨14, _⟩ => ⟨S1024x2048, .f32⟩
  | .hbm, ⟨15, _⟩ => ⟨S1024x2048, .bf16⟩
  | .hbm, ⟨16, _⟩ => ⟨S8704x2048, .bf16⟩
  | .hbm, ⟨17, _⟩ => ⟨S2048x2048, .f32⟩
  | .hbm, ⟨18, _⟩ => ⟨S2048x2048, .bf16⟩
  | .hbm, ⟨19, _⟩ => ⟨S8704x2048, .f32⟩
  | .hbm, ⟨20, _⟩ => ⟨S2048, .f32⟩
  | .hbm, ⟨21, _⟩ => ⟨S1x2048, .f32⟩
  | .hbm, ⟨22, _⟩ => ⟨S8704x2048, .bf16⟩
  | .hbm, ⟨23, _⟩ => ⟨S2048x8192, .f32⟩
  | .hbm, ⟨24, _⟩ => ⟨S2048x8192, .bf16⟩
  | .hbm, ⟨25, _⟩ => ⟨S8704x8192, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x2048, .bf16⟩
  | .local _ .vmem, ⟨19, _⟩ => ⟨S512x2048, .bf16⟩
  | .local _ .vmem, ⟨20, _⟩ => ⟨S2048x1024, .bf16⟩
  | .local _ .vmem, ⟨21, _⟩ => ⟨S2048x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S256x2048, .f32⟩
  | .local _ .vmem, ⟨27, _⟩ => ⟨S256x2048, .f32⟩
  | .local _ .vmem, ⟨28, _⟩ => ⟨S1x2048, .f32⟩
  | .local _ .vmem, ⟨29, _⟩ => ⟨S256x2048, .bf16⟩
  | .local _ .vmem, ⟨30, _⟩ => ⟨S256x2048, .bf16⟩
  | .local _ .vmem, ⟨31, _⟩ => ⟨S512x2048, .bf16⟩
  | .local _ .vmem, ⟨32, _⟩ => ⟨S512x2048, .bf16⟩
  | .local _ .vmem, ⟨33, _⟩ => ⟨S2048x1024, .bf16⟩
  | .local _ .vmem, ⟨34, _⟩ => ⟨S2048x1024, .bf16⟩
  | .local _ .vmem, ⟨35, _⟩ => ⟨S512x1024, .bf16⟩
  | .local _ .vmem, ⟨36, _⟩ => ⟨S512x1024, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem2_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36

abbrev nD : Nat := 1
abbrev τ : Topo := Topo.v7x

variable {F : FTy → Type} [FloatOps F]

abbrev grid0 : Pipeline.Grid := ⟨3, ![17, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![17, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨3, ![17, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨1, ![34], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨3, ![17, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== OutputRefIdeal.lean ====
abbrev S8704x2048 : Shape := ⟨2, ![8704, 2048]⟩
abbrev S8704x1024 : Shape := ⟨2, ![8704, 1024]⟩
abbrev S8704x4096 : Shape := ⟨2, ![8704, 4096]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x8192 : Shape := ⟨3, ![1, 2048, 8192]⟩
abbrev S_ : Shape := ⟨0, ![]⟩
abbrev S1024x2048 : Shape := ⟨2, ![1024, 2048]⟩
abbrev S2048x2048 : Shape := ⟨2, ![2048, 2048]⟩
abbrev S2048 : Shape := ⟨1, ![2048]⟩
abbrev S8704 : Shape := ⟨1, ![8704]⟩
abbrev S8704x1 : Shape := ⟨2, ![8704, 1]⟩
abbrev S2048x8192 : Shape := ⟨2, ![2048, 8192]⟩
abbrev S8704x8192 : Shape := ⟨2, ![8704, 8192]⟩

abbrev nBuf : Space → Nat
  | .hbm => 61
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x1024, .f32⟩
  | .hbm, ⟨2, _⟩ => ⟨S8704x1024, .f32⟩
  | .hbm, ⟨3, _⟩ => ⟨S8704x4096, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048x8192, .f32⟩
  | .hbm, ⟨9, _⟩ => ⟨S8704x2048, .f32⟩
  | .hbm, ⟨10, _⟩ => ⟨S8704x2048, .f32⟩
  | .hbm, ⟨11, _⟩ => ⟨S8704x2048, .f32⟩
  | .hbm, ⟨12, _⟩ => ⟨S8704x2048, .f32⟩
  | .hbm, ⟨13, _⟩ => ⟨S_, .f32⟩
  | .hbm, ⟨14, _⟩ => ⟨S8704x2048, .f32⟩
  | .hbm, ⟨15, _⟩ => ⟨S8704x2048, .f32⟩
  | .hbm, ⟨16, _⟩ => ⟨S_, .f32⟩
  | .hbm, ⟨17, _⟩ => ⟨S8704x2048, .f32⟩
  | .hbm, ⟨18, _⟩ => ⟨S8704x2048, .f32⟩
  | .hbm, ⟨19, _⟩ => ⟨S1024x2048, .f32⟩
  | .hbm, ⟨20, _⟩ => ⟨S8704x2048, .f32⟩
  | .hbm, ⟨21, _⟩ => ⟨S8704x2048, .f32⟩
  | .hbm, ⟨22, _⟩ => ⟨S8704x2048, .f32⟩
  | .hbm, ⟨23, _⟩ => ⟨S8704x2048, .f32⟩
  | .hbm, ⟨24, _⟩ => ⟨S_, .f32⟩
  | .hbm, ⟨25, _⟩ => ⟨S8704x2048, .f32⟩
  | .hbm, ⟨26, _⟩ => ⟨S8704x2048, .f32⟩
  | .hbm, ⟨27, _⟩ => ⟨S_, .f32⟩
  | .hbm, ⟨28, _⟩ => ⟨S8704x2048, .f32⟩
  | .hbm, ⟨29, _⟩ => ⟨S8704x2048, .f32⟩
  | .hbm, ⟨30, _⟩ => ⟨S1024x2048, .f32⟩
  | .hbm, ⟨31, _⟩ => ⟨S8704x2048, .f32⟩
  | .hbm, ⟨32, _⟩ => ⟨S8704x2048, .f32⟩
  | .hbm, ⟨33, _⟩ => ⟨S8704x2048, .f32⟩
  | .hbm, ⟨34, _⟩ => ⟨S2048x2048, .f32⟩
  | .hbm, ⟨35, _⟩ => ⟨S8704x2048, .f32⟩
  | .hbm, ⟨36, _⟩ => ⟨S8704x2048, .f32⟩
  | .hbm, ⟨37, _⟩ => ⟨S2048, .f32⟩
  | .hbm, ⟨38, _⟩ => ⟨S8704x2048, .f32⟩
  | .hbm, ⟨39, _⟩ => ⟨S_, .f32⟩
  | .hbm, ⟨40, _⟩ => ⟨S8704, .f32⟩
  | .hbm, ⟨41, _⟩ => ⟨S8704x1, .f32⟩
  | .hbm, ⟨42, _⟩ => ⟨S_, .f32⟩
  | .hbm, ⟨43, _⟩ => ⟨S8704x1, .f32⟩
  | .hbm, ⟨44, _⟩ => ⟨S8704x1, .f32⟩
  | .hbm, ⟨45, _⟩ => ⟨S_, .f32⟩
  | .hbm, ⟨46, _⟩ => ⟨S8704x1, .f32⟩
  | .hbm, ⟨47, _⟩ => ⟨S8704x1, .f32⟩
  | .hbm, ⟨48, _⟩ => ⟨S8704x1, .f32⟩
  | .hbm, ⟨49, _⟩ => ⟨S8704x2048, .f32⟩
  | .hbm, ⟨50, _⟩ => ⟨S8704x2048, .f32⟩
  | .hbm, ⟨51, _⟩ => ⟨S1x2048, .f32⟩
  | .hbm, ⟨52, _⟩ => ⟨S8704x2048, .f32⟩
  | .hbm, ⟨53, _⟩ => ⟨S8704x2048, .f32⟩
  | .hbm, ⟨54, _⟩ => ⟨S2048x8192, .f32⟩
  | .hbm, ⟨55, _⟩ => ⟨S8704x8192, .f32⟩
  | .hbm, ⟨56, _⟩ => ⟨S_, .f32⟩
  | .hbm, ⟨57, _⟩ => ⟨S8704x8192, .f32⟩
  | .hbm, ⟨58, _⟩ => ⟨S8704x8192, .f32⟩
  | .hbm, ⟨59, _⟩ => ⟨S8704x8192, .f32⟩
  | .hbm, ⟨60, _⟩ => ⟨S8704x8192, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_cst : Ref sig .tc := ⟨.hbm, 56, rfl⟩
abbrev main_call0_v0 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Down.lean ====
abbrev S8704x2048 : Shape := ⟨2, ![8704, 2048]⟩
abbrev S8704x8192 : Shape := ⟨2, ![8704, 8192]⟩
abbrev S1x8192x2048 : Shape := ⟨3, ![1, 8192, 2048]⟩
abbrev S8192x2048 : Shape := ⟨2, ![8192, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8704x2048, .f32⟩
  | .hbm, ⟨1, _⟩ => ⟨S8704x8192, .bf16⟩
  | .hbm, ⟨2, _⟩ => ⟨S1x8192x2048, .f32⟩
  | .hbm, ⟨3, _⟩ => ⟨S8192x2048, .f32⟩
  | .hbm, ⟨4, _⟩ => ⟨S8192x2048, .bf16⟩
  | .hbm, ⟨5, _⟩ => ⟨S8704x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![17, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8704x2048 : Shape := ⟨2, ![8704, 2048]⟩
abbrev S8704x8192 : Shape := ⟨2, ![8704, 8192]⟩
abbrev S1x8192x2048 : Shape := ⟨3, ![1, 8192, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x8192, .bf16⟩
  | .hbm, ⟨2, _⟩ => ⟨S1x8192x2048, .f32⟩
  | .hbm, ⟨3, _⟩ => ⟨S8704x8192, .f32⟩
  | .hbm, ⟨4, _⟩ => ⟨S8192x2048, .f32⟩
  | .hbm, ⟨5, _⟩ => ⟨S8704x2048, .f32⟩
  | .hbm, ⟨6, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Norm.lean ====
abbrev S8704x2048 : Shape := ⟨2, ![8704, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S1x2048, .f32⟩
  | .hbm, ⟨3, _⟩ => ⟨S8704x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8704x2048 : Shape := ⟨2, ![8704, 2048]⟩
abbrev S2048 : Shape := ⟨1, ![2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S8704x2048, .f32⟩
  | .hbm, ⟨3, _⟩ => ⟨S_, .f32⟩
  | .hbm, ⟨4, _⟩ => ⟨S8704, .f32⟩
  | .hbm, ⟨5, _⟩ => ⟨S8704x1, .f32⟩
  | .hbm, ⟨6, _⟩ => ⟨S_, .f32⟩
  | .hbm, ⟨7, _⟩ => ⟨S8704x1, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S8704x1, .f32⟩
  | .hbm, ⟨13, _⟩ => ⟨S8704x2048, .f32⟩
  | .hbm, ⟨14, _⟩ => ⟨S8704x2048, .f32⟩
  | .hbm, ⟨15, _⟩ => ⟨S1x2048, .f32⟩
  | .hbm, ⟨16, _⟩ => ⟨S8704x2048, .f32⟩
  | .hbm, ⟨17, _⟩ => ⟨S8704x2048, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Sample.lean ====
abbrev S8704x3072 : Shape := ⟨2, ![8704, 3072]⟩
abbrev S1x2560x128x8x128 : Shape := ⟨5, ![1, 2560, 128, 8, 128]⟩
abbrev S128x16 : Shape := ⟨2, ![128, 16]⟩
abbrev S1x8 : Shape := ⟨2, ![1, 8]⟩
abbrev S512x3072 : Shape := ⟨2, ![512, 3072]⟩
abbrev S128x4x3072 : Shape := ⟨3, ![128, 4, 3072]⟩
abbrev S128x4x1024 : Shape := ⟨3, ![128, 4, 1024]⟩
abbrev S8 : Shape := ⟨1, ![8]⟩
abbrev S128x4x8x128 : Shape := ⟨4, ![128, 4, 8, 128]⟩
abbrev S128x8x4x128 : Shape := ⟨4, ![128, 8, 4, 128]⟩
abbrev S_ : Shape := ⟨0, ![]⟩
abbrev S128x8x8x128 : Shape := ⟨4, ![128, 8, 8, 128]⟩
abbrev S128x64x128 : Shape := ⟨3, ![128, 64, 128]⟩
abbrev S8x8 : Shape := ⟨2, ![8, 8]⟩
abbrev S64 : Shape := ⟨1, ![64]⟩
abbrev S64x1 : Shape := ⟨2, ![64, 1]⟩
abbrev S64x128 : Shape := ⟨2, ![64, 128]⟩
abbrev S1x2560x1024x128 : Shape := ⟨4, ![1, 2560, 1024, 128]⟩
abbrev S1x64x128 : Shape := ⟨3, ![1, 64, 128]⟩
abbrev S1x1x1024x128 : Shape := ⟨4, ![1, 1, 1024, 128]⟩
abbrev S1x1 : Shape := ⟨2, ![1, 1]⟩
abbrev S1x4x1024 : Shape := ⟨3, ![1, 4, 1024]⟩
abbrev S128x1024 : Shape := ⟨2, ![128, 1024]⟩
abbrev S128x128 : Shape := ⟨2, ![128, 128]⟩
abbrev S8x8x128 : Shape := ⟨3, ![8, 8, 128]⟩
abbrev S4x1024 : Shape := ⟨2, ![4, 1024]⟩
abbrev S1x128x128 : Shape := ⟨3, ![1, 128, 128]⟩
abbrev S8x128x128 : Shape := ⟨3, ![8, 128, 128]⟩
abbrev S1x1x128x128 : Shape := ⟨4, ![1, 1, 128, 128]⟩
abbrev S32x128x128 : Shape := ⟨3, ![32, 128, 128]⟩
abbrev S32x8x128 : Shape := ⟨3, ![32, 8, 128]⟩
abbrev S4x64x128 : Shape := ⟨3, ![4, 64, 128]⟩
abbrev S4x128 : Shape := ⟨2, ![4, 128]⟩
abbrev S1x4x128 : Shape := ⟨3, ![1, 4, 128]⟩

abbrev nBuf : Space → Nat
  | .hbm => 24
  | .vmem => 29
  | .smem => 1
  | _ => 0

abbrev bufTy : (tb : Table) → Fin (tcTables nBuf tb) → BufTy
  | .hbm, ⟨0, _⟩ => ⟨S8704x3072, .f32⟩
  | .hbm, ⟨1, _⟩ => ⟨S1x2560x128x8x128, .f32⟩
  | .hbm, ⟨2, _⟩ => ⟨S1x2560x128x8x128, .f32⟩
  | .hbm, ⟨3, _⟩ => ⟨S1x8, .f32⟩
  | .hbm, ⟨4, _⟩ => ⟨S512x3072, .f32⟩
  | .hbm, ⟨5, _⟩ => ⟨S128x4x3072, .f32⟩
  | .hbm, ⟨6, _⟩ => ⟨S128x4x1024, .f32⟩
  | .hbm, ⟨7, _⟩ => ⟨S128x4x1024, .f32⟩
  | .hbm, ⟨8, _⟩ => ⟨S128x4x1024, .f32⟩
  | .hbm, ⟨9, _⟩ => ⟨S8, .f32⟩
  | .hbm, ⟨10, _⟩ => ⟨S128x4x8x128, .f32⟩
  | .hbm, ⟨11, _⟩ => ⟨S128x8x4x128, .f32⟩
  | .hbm, ⟨12, _⟩ => ⟨S_, .i32⟩
  | .hbm, ⟨13, _⟩ => ⟨S_, .f32⟩
  | .hbm, ⟨14, _⟩ => ⟨S128x8x8x128, .f32⟩
  | .hbm, ⟨15, _⟩ => ⟨S128x64x128, .f32⟩
  | .hbm, ⟨16, _⟩ => ⟨S128x64x128, .bf16⟩
  | .hbm, ⟨17, _⟩ => ⟨S8x8, .f32⟩
  | .hbm, ⟨18, _⟩ => ⟨S64, .f32⟩
  | .hbm, ⟨19, _⟩ => ⟨S64x1, .f32⟩
  | .hbm, ⟨20, _⟩ => ⟨S64x128, .f32⟩
  | .hbm, ⟨21, _⟩ => ⟨S1x2560x1024x128, .f32⟩
  | .hbm, ⟨22, _⟩ => ⟨S1x2560x1024x128, .f32⟩
  | .hbm, ⟨23, _⟩ => ⟨S128x4x1024, .f32⟩
  | .local _ .vmem, ⟨0, _⟩ => ⟨S1x64x128, .bf16⟩
  | .local _ .vmem, ⟨1, _⟩ => ⟨S1x64x128, .bf16⟩
  | .local _ .vmem, ⟨2, _⟩ => ⟨S64x128, .f32⟩
  | .local _ .vmem, ⟨3, _⟩ => ⟨S1x1x1024x128, .f32⟩
  | .local _ .vmem, ⟨4, _⟩ => ⟨S1x1x1024x128, .f32⟩
  | .local _ .vmem, ⟨5, _⟩ => ⟨S1x1x1024x128, .f32⟩
  | .local _ .vmem, ⟨6, _⟩ => ⟨S1x1x1024x128, .f32⟩
  | .local _ .vmem, ⟨7, _⟩ => ⟨S1x1x1024x128, .f32⟩
  | .local _ .vmem, ⟨8, _⟩ => ⟨S1x1x1024x128, .f32⟩
  | .local _ .vmem, ⟨9, _⟩ => ⟨S1x1x1024x128, .f32⟩
  | .local _ .vmem, ⟨10, _⟩ => ⟨S1x1x1024x128, .f32⟩
  | .local _ .vmem, ⟨11, _⟩ => ⟨S1x1x1024x128, .f32⟩
  | .local _ .vmem, ⟨12, _⟩ => ⟨S1x1x1024x128, .f32⟩
  | .local _ .vmem, ⟨13, _⟩ => ⟨S1x1x1024x128, .f32⟩
  | .local _ .vmem, ⟨14, _⟩ => ⟨S1x1x1024x128, .f32⟩
  | .local _ .vmem, ⟨15, _⟩ => ⟨S1x1x1024x128, .f32⟩
  | .local _ .vmem, ⟨16, _⟩ => ⟨S1x1x1024x128, .f32⟩
  | .local _ .vmem, ⟨17, _⟩ => ⟨S1x1x1024x128, .f32⟩
  | .local _ .vmem, ⟨18, _⟩ => ⟨S1x1x1024x128, .f32⟩
  | .local _ .vmem, ⟨19, _⟩ => ⟨S1x4x1024, .f32⟩
  | .local _ .vmem, ⟨20, _⟩ => ⟨S1x4x1024, .f32⟩
  | .local _ .vmem, ⟨21, _⟩ => ⟨S1x4x1024, .f32⟩
  | .local _ .vmem, ⟨22, _⟩ => ⟨S1x4x1024, .f32⟩
  | .local _ .vmem, ⟨23, _⟩ => ⟨S1x4x1024, .f32⟩
  | .local _ .vmem, ⟨24, _⟩ => ⟨S1x4x1024, .f32⟩
  | .local _ .vmem, ⟨25, _⟩ => ⟨S64x128, .f32⟩
  | .local _ .vmem, ⟨26, _⟩ => ⟨S64x1, .f32⟩
  | .local _ .vmem, ⟨27, _⟩ => ⟨S128x1024, .f32⟩
  | .local _ .vmem, ⟨28, _⟩ => ⟨S128x1024, .f32⟩
  | .local _ .smem, ⟨0, _⟩ => ⟨S128x16, .i32⟩
  | _, _ => ⟨S8704x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![128, 4], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c15_i32 : BitVec 32) : Fin 2 → Nat :=
  let arg0 : BitVec 32 := BitVec.ofNat 32 (i 0).val
  let v2 : Index := Scalar.indexCast arg0
  let c4_i32 : BitVec 32 := 4#32
  let arg1 : BitVec 32 := BitVec.ofNat 32 (i 1).val
  let v0 : BitVec 32 := Scalar.muli c4_i32 arg1
  let v1 : BitVec 32 := Scalar.subi c15_i32 v0
  let v3 : Index := Scalar.indexCast v1
  ![v2.toNat, v3.toNat]
def k0_cond2 (i : grid0.Coords) : BitVec 1 :=
  let arg1 : BitVec 32 := BitVec.ofNat 32 (i 1).val
  let c3_i32 : BitVec 32 := 3#32
  let v415 : BitVec 1 := Scalar.cmpi .eq arg1 c3_i32
  let v416 : BitVec 32 := Scalar.extui v415
  let c0_i32_285 : BitVec 32 := 0#32
  let v417 : BitVec 1 := Scalar.cmpi .ne v416 c0_i32_285
  v417

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ (r : Fin 4), ∀ a, (k0_off1 i (BitVec.ofNat 32 (12 + r.val))) a + S1x1.size a ≤ S128x16.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c15_i32 : BitVec 32 := 15#32
  let v1 : BitVec 32 := Scalar.subi c15_i32 v0
  let v2 : Index := Scalar.indexCast arg0
  let v3 : Index := Scalar.indexCast v1
  let v4 : BitVec 32 := pf.at 0 (Rect.unit (s := S128x16) ![v2.toNat, v3.toNat] S1x1.size (k0_off1_inb i 3)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_3 (k0_off1_inb : ∀ i : grid0.Coords, ∀ (r : Fin 4), ∀ a, (k0_off1 i (BitVec.ofNat 32 (12 + r.val))) a + S1x1.size a ≤ S128x16.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c15_i32 : BitVec 32 := 15#32
  let v1 : BitVec 32 := Scalar.subi c15_i32 v0
  let v2 : Index := Scalar.indexCast arg0
  let v3 : Index := Scalar.indexCast v1
  let v4 : BitVec 32 := pf.at 0 (Rect.unit (s := S128x16) ![v2.toNat, v3.toNat] S1x1.size (k0_off1_inb i 3)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_4 (k0_off1_inb : ∀ i : grid0.Coords, ∀ (r : Fin 4), ∀ a, (k0_off1 i (BitVec.ofNat 32 (12 + r.val))) a + S1x1.size a ≤ S128x16.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c14_i32 : BitVec 32 := 14#32
  let v1 : BitVec 32 := Scalar.subi c14_i32 v0
  let v2 : Index := Scalar.indexCast arg0
  let v3 : Index := Scalar.indexCast v1
  let v4 : BitVec 32 := pf.at 0 (Rect.unit (s := S128x16) ![v2.toNat, v3.toNat] S1x1.size (k0_off1_inb i 2)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_5 (k0_off1_inb : ∀ i : grid0.Coords, ∀ (r : Fin 4), ∀ a, (k0_off1 i (BitVec.ofNat 32 (12 + r.val))) a + S1x1.size a ≤ S128x16.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c14_i32 : BitVec 32 := 14#32
  let v1 : BitVec 32 := Scalar.subi c14_i32 v0
  let v2 : Index := Scalar.indexCast arg0
  let v3 : Index := Scalar.indexCast v1
  let v4 : BitVec 32 := pf.at 0 (Rect.unit (s := S128x16) ![v2.toNat, v3.toNat] S1x1.size (k0_off1_inb i 2)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_6 (k0_off1_inb : ∀ i : grid0.Coords, ∀ (r : Fin 4), ∀ a, (k0_off1 i (BitVec.ofNat 32 (12 + r.val))) a + S1x1.size a ≤ S128x16.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c13_i32 : BitVec 32 := 13#32
  let v1 : BitVec 32 := Scalar.subi c13_i32 v0
  let v2 : Index := Scalar.indexCast arg0
  let v3 : Index := Scalar.indexCast v1
  let v4 : BitVec 32 := pf.at 0 (Rect.unit (s := S128x16) ![v2.toNat, v3.toNat] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_7 (k0_off1_inb : ∀ i : grid0.Coords, ∀ (r : Fin 4), ∀ a, (k0_off1 i (BitVec.ofNat 32 (12 + r.val))) a + S1x1.size a ≤ S128x16.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c13_i32 : BitVec 32 := 13#32
  let v1 : BitVec 32 := Scalar.subi c13_i32 v0
  let v2 : Index := Scalar.indexCast arg0
  let v3 : Index := Scalar.indexCast v1
  let v4 : BitVec 32 := pf.at 0 (Rect.unit (s := S128x16) ![v2.toNat, v3.toNat] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_8 (k0_off1_inb : ∀ i : grid0.Coords, ∀ (r : Fin 4), ∀ a, (k0_off1 i (BitVec.ofNat 32 (12 + r.val))) a + S1x1.size a ≤ S128x16.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c12_i32 : BitVec 32 := 12#32
  let v1 : BitVec 32 := Scalar.subi c12_i32 v0
  let v2 : Index := Scalar.indexCast arg0
  let v3 : Index := Scalar.indexCast v1
  let v4 : BitVec 32 := pf.at 0 (Rect.unit (s := S128x16) ![v2.toNat, v3.toNat] S1x1.size (k0_off1_inb i 0)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_9 (k0_off1_inb : ∀ i : grid0.Coords, ∀ (r : Fin 4), ∀ a, (k0_off1 i (BitVec.ofNat 32 (12 + r.val))) a + S1x1.size a ≤ S128x16.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c12_i32 : BitVec 32 := 12#32
  let v1 : BitVec 32 := Scalar.subi c12_i32 v0
  let v2 : Index := Scalar.indexCast arg0
  let v3 : Index := Scalar.indexCast v1
  let v4 : BitVec 32 := pf.at 0 (Rect.unit (s := S128x16) ![v2.toNat, v3.toNat] S1x1.size (k0_off1_inb i 0)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x4x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== SampleRefIdeal.lean ====
abbrev S8704x3072 : Shape := ⟨2, ![8704, 3072]⟩
abbrev S1x2560x128x8x128 : Shape := ⟨5, ![1, 2560, 128, 8, 128]⟩
abbrev S128x16 : Shape := ⟨2, ![128, 16]⟩
abbrev S1x8 : Shape := ⟨2, ![1, 8]⟩
abbrev S512x3072 : Shape := ⟨2, ![512, 3072]⟩
abbrev S128x4x3072 : Shape := ⟨3, ![128, 4, 3072]⟩
abbrev S128x4x1024 : Shape := ⟨3, ![128, 4, 1024]⟩
abbrev S128x4x8x128 : Shape := ⟨4, ![128, 4, 8, 128]⟩
abbrev S2560x128x8x128 : Shape := ⟨4, ![2560, 128, 8, 128]⟩
abbrev S_ : Shape := ⟨0, ![]⟩
abbrev S128x16x1 : Shape := ⟨3, ![128, 16, 1]⟩
abbrev S128x16x128x8x128 : Shape := ⟨5, ![128, 16, 128, 8, 128]⟩
abbrev S128x2048x8x128 : Shape := ⟨4, ![128, 2048, 8, 128]⟩
abbrev S8 : Shape := ⟨1, ![8]⟩
abbrev S128x8x4x2048 : Shape := ⟨4, ![128, 8, 4, 2048]⟩
abbrev S1x8x1x1 : Shape := ⟨4, ![1, 8, 1, 1]⟩
abbrev S128x8x4x4 : Shape := ⟨4, ![128, 8, 4, 4]⟩
abbrev S128x8x4x2052 : Shape := ⟨4, ![128, 8, 4, 2052]⟩
abbrev S4 : Shape := ⟨1, ![4]⟩
abbrev S2052 : Shape := ⟨1, ![2052]⟩
abbrev S1x2052 : Shape := ⟨2, ![1, 2052]⟩
abbrev S4x1 : Shape := ⟨2, ![4, 1]⟩
abbrev S4x2052 : Shape := ⟨2, ![4, 2052]⟩
abbrev S128x8x128x4 : Shape := ⟨4, ![128, 8, 128, 4]⟩

abbrev nBuf : Space → Nat
  | .hbm => 119
  | .vmem => 0
  | .smem => 0
  | _ => 0

abbrev bufTy : (tb : Table) → Fin (tcTables nBuf tb) → BufTy
  | .hbm, ⟨0, _⟩ => ⟨S8704x3072, .f32⟩
  | .hbm, ⟨1, _⟩ => ⟨S1x2560x128x8x128, .f32⟩
  | .hbm, ⟨2, _⟩ => ⟨S1x2560x128x8x128, .f32⟩
  | .hbm, ⟨3, _⟩ => ⟨S128x16, .i32⟩
  | .hbm, ⟨4, _⟩ => ⟨S1x8, .f32⟩
  | .hbm, ⟨5, _⟩ => ⟨S512x3072, .f32⟩
  | .hbm, ⟨6, _⟩ => ⟨S128x4x3072, .f32⟩
  | .hbm, ⟨7, _⟩ => ⟨S128x4x1024, .f32⟩
  | .hbm, ⟨8, _⟩ => ⟨S128x4x1024, .f32⟩
  | .hbm, ⟨9, _⟩ => ⟨S128x4x1024, .f32⟩
  | .hbm, ⟨10, _⟩ => ⟨S128x4x8x128, .f32⟩
  | .hbm, ⟨11, _⟩ => ⟨S128x4x8x128, .f32⟩
  | .hbm, ⟨12, _⟩ => ⟨S128x4x8x128, .f32⟩
  | .hbm, ⟨13, _⟩ => ⟨S2560x128x8x128, .f32⟩
  | .hbm, ⟨14, _⟩ => ⟨S_, .i32⟩
  | .hbm, ⟨15, _⟩ => ⟨S128x16, .i32⟩
  | .hbm, ⟨16, _⟩ => ⟨S128x16, .i1⟩
  | .hbm, ⟨17, _⟩ => ⟨S_, .i32⟩
  | .hbm, ⟨18, _⟩ => ⟨S128x16, .i32⟩
  | .hbm, ⟨19, _⟩ => ⟨S128x16, .i32⟩
  | .hbm, ⟨20, _⟩ => ⟨S128x16, .i32⟩
  | .hbm, ⟨21, _⟩ => ⟨S128x16x1, .i32⟩
  | .hbm, ⟨22, _⟩ => ⟨S128x16x128x8x128, .f32⟩
  | .hbm, ⟨23, _⟩ => ⟨S128x2048x8x128, .f32⟩
  | .hbm, ⟨24, _⟩ => ⟨S2560x128x8x128, .f32⟩
  | .hbm, ⟨25, _⟩ => ⟨S_, .i32⟩
  | .hbm, ⟨26, _⟩ => ⟨S128x16, .i32⟩
  | .hbm, ⟨27, _⟩ => ⟨S128x16, .i1⟩
  | .hbm, ⟨28, _⟩ => ⟨S_, .i32⟩
  | .hbm, ⟨29, _⟩ => ⟨S128x16, .i32⟩
  | .hbm, ⟨30, _⟩ => ⟨S128x16, .i32⟩
  | .hbm, ⟨31, _⟩ => ⟨S128x16, .i32⟩
  | .hbm, ⟨32, _⟩ => ⟨S128x16x1, .i32⟩
  | .hbm, ⟨33, _⟩ => ⟨S128x16x128x8x128, .f32⟩
  | .hbm, ⟨34, _⟩ => ⟨S128x2048x8x128, .f32⟩
  | .hbm, ⟨35, _⟩ => ⟨S8, .f32⟩
  | .hbm, ⟨36, _⟩ => ⟨S128x8x4x2048, .f32⟩
  | .hbm, ⟨37, _⟩ => ⟨S_, .f32⟩
  | .hbm, ⟨38, _⟩ => ⟨S128x8x4x2048, .f32⟩
  | .hbm, ⟨39, _⟩ => ⟨S128x8x4x2048, .f32⟩
  | .hbm, ⟨40, _⟩ => ⟨S1x8x1x1, .f32⟩
  | .hbm, ⟨41, _⟩ => ⟨S128x8x4x2048, .f32⟩
  | .hbm, ⟨42, _⟩ => ⟨S128x8x4x2048, .f32⟩
  | .hbm, ⟨43, _⟩ => ⟨S8, .f32⟩
  | .hbm, ⟨44, _⟩ => ⟨S128x8x4x4, .f32⟩
  | .hbm, ⟨45, _⟩ => ⟨S_, .f32⟩
  | .hbm, ⟨46, _⟩ => ⟨S128x8x4x4, .f32⟩
  | .hbm, ⟨47, _⟩ => ⟨S128x8x4x4, .f32⟩
  | .hbm, ⟨48, _⟩ => ⟨S1x8x1x1, .f32⟩
  | .hbm, ⟨49, _⟩ => ⟨S128x8x4x4, .f32⟩
  | .hbm, ⟨50, _⟩ => ⟨S128x8x4x4, .f32⟩
  | .hbm, ⟨51, _⟩ => ⟨S128x8x4x2052, .f32⟩
  | .hbm, ⟨52, _⟩ => ⟨S4, .i32⟩
  | .hbm, ⟨53, _⟩ => ⟨S_, .i32⟩
  | .hbm, ⟨54, _⟩ => ⟨S4, .i32⟩
  | .hbm, ⟨55, _⟩ => ⟨S4, .i32⟩
  | .hbm, ⟨56, _⟩ => ⟨S2052, .i32⟩
  | .hbm, ⟨57, _⟩ => ⟨S1x2052, .i32⟩
  | .hbm, ⟨58, _⟩ => ⟨S4x1, .i32⟩
  | .hbm, ⟨59, _⟩ => ⟨S4x2052, .i32⟩
  | .hbm, ⟨60, _⟩ => ⟨S4x2052, .i32⟩
  | .hbm, ⟨61, _⟩ => ⟨S4x2052, .i1⟩
  | .hbm, ⟨62, _⟩ => ⟨S128x8x4x2052, .f32⟩
  | .hbm, ⟨63, _⟩ => ⟨S128x8x4x2052, .f32⟩
  | .hbm, ⟨64, _⟩ => ⟨S_, .f32⟩
  | .hbm, ⟨65, _⟩ => ⟨S128x8x4x2052, .f32⟩
  | .hbm, ⟨66, _⟩ => ⟨S128x8x4x2052, .f32⟩
  | .hbm, ⟨67, _⟩ => ⟨S128x8x4x2052, .f32⟩
  | .hbm, ⟨68, _⟩ => ⟨S128x8x4x2052, .f32⟩
  | .hbm, ⟨69, _⟩ => ⟨S128x8x4x2052, .i1⟩
  | .hbm, ⟨70, _⟩ => ⟨S128x8x4x2052, .f32⟩
  | .hbm, ⟨71, _⟩ => ⟨S128x8x4x2052, .f32⟩
  | .hbm, ⟨72, _⟩ => ⟨S128x8x4x2052, .f32⟩
  | .hbm, ⟨73, _⟩ => ⟨S128x8x4x2052, .f32⟩
  | .hbm, ⟨74, _⟩ => ⟨S128x8x4x2052, .f32⟩
  | .hbm, ⟨75, _⟩ => ⟨S128x8x4x2052, .f32⟩
  | .hbm, ⟨76, _⟩ => ⟨S128x8x4x2052, .f32⟩
  | .hbm, ⟨77, _⟩ => ⟨S128x8x4x2052, .f32⟩
  | .hbm, ⟨78, _⟩ => ⟨S128x8x4x2052, .f32⟩
  | .hbm, ⟨79, _⟩ => ⟨S_, .f32⟩
  | .hbm, ⟨80, _⟩ => ⟨S_, .f32⟩
  | .hbm, ⟨81, _⟩ => ⟨S128x8x4x2052, .i1⟩
  | .hbm, ⟨82, _⟩ => ⟨S128x8x4x2052, .f32⟩
  | .hbm, ⟨83, _⟩ => ⟨S128x8x4x2052, .f32⟩
  | .hbm, ⟨84, _⟩ => ⟨S_, .f32⟩
  | .hbm, ⟨85, _⟩ => ⟨S_, .f32⟩
  | .hbm, ⟨86, _⟩ => ⟨S128x8x4x2052, .f32⟩
  | .hbm, ⟨87, _⟩ => ⟨S128x8x4x2052, .f32⟩
  | .hbm, ⟨88, _⟩ => ⟨S128x8x4x2052, .f32⟩
  | .hbm, ⟨89, _⟩ => ⟨S_, .f32⟩
  | .hbm, ⟨90, _⟩ => ⟨S128x8x4x2052, .f32⟩
  | .hbm, ⟨91, _⟩ => ⟨S128x8x4x2052, .f32⟩
  | .hbm, ⟨92, _⟩ => ⟨S128x8x4x2052, .f32⟩
  | .hbm, ⟨93, _⟩ => ⟨S128x8x4x2052, .f32⟩
  | .hbm, ⟨94, _⟩ => ⟨S128x8x4x2052, .i1⟩
  | .hbm, ⟨95, _⟩ => ⟨S128x8x4x2052, .f32⟩
  | .hbm, ⟨96, _⟩ => ⟨S128x8x4x2052, .f32⟩
  | .hbm, ⟨97, _⟩ => ⟨S128x8x4x2052, .f32⟩
  | .hbm, ⟨98, _⟩ => ⟨S128x8x4x2052, .f32⟩
  | .hbm, ⟨99, _⟩ => ⟨S128x8x4x2052, .f32⟩
  | .hbm, ⟨100, _⟩ => ⟨S128x8x4x2052, .f32⟩
  | .hbm, ⟨101, _⟩ => ⟨S128x8x4x2052, .f32⟩
  | .hbm, ⟨102, _⟩ => ⟨S128x8x4x2052, .f32⟩
  | .hbm, ⟨103, _⟩ => ⟨S128x8x4x2052, .f32⟩
  | .hbm, ⟨104, _⟩ => ⟨S128x8x4x2052, .f32⟩
  | .hbm, ⟨105, _⟩ => ⟨S128x8x4x2052, .f32⟩
  | .hbm, ⟨106, _⟩ => ⟨S_, .f32⟩
  | .hbm, ⟨107, _⟩ => ⟨S_, .f32⟩
  | .hbm, ⟨108, _⟩ => ⟨S128x8x4x2052, .i1⟩
  | .hbm, ⟨109, _⟩ => ⟨S128x8x4x2052, .f32⟩
  | .hbm, ⟨110, _⟩ => ⟨S128x8x4x2052, .f32⟩
  | .hbm, ⟨111, _⟩ => ⟨S128x8x4x2048, .f32⟩
  | .hbm, ⟨112, _⟩ => ⟨S128x8x128x4, .f32⟩
  | .hbm, ⟨113, _⟩ => ⟨S128x4x8x128, .f32⟩
  | .hbm, ⟨114, _⟩ => ⟨S128x8x4x4, .f32⟩
  | .hbm, ⟨115, _⟩ => ⟨S128x8x128x4, .f32⟩
  | .hbm, ⟨116, _⟩ => ⟨S128x4x8x128, .f32⟩
  | .hbm, ⟨117, _⟩ => ⟨S128x4x8x128, .f32⟩
  | .hbm, ⟨118, _⟩ => ⟨S128x4x1024, .f32⟩
  | _, _ => ⟨S8704x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_call0_v0 : Ref sig .tc := ⟨.hbm, 63, rfl⟩
abbrev main_call0_call0_cst : Ref sig .tc := ⟨.hbm, 64, rfl⟩
abbrev main_call0_call0_v0 : Ref sig .tc := ⟨.hbm, 65, rfl⟩
abbrev main_call0_call0_v1 : Ref sig .tc := ⟨.hbm, 66, rfl⟩
abbrev main_call0_call0_v2 : Ref sig .tc := ⟨.hbm, 67, rfl⟩
abbrev main_call0_call0_v3 : Ref sig .tc := ⟨.hbm, 68, rfl⟩
abbrev main_call0_call0_v4 : Ref sig .tc := ⟨.hbm, 69, rfl⟩
abbrev main_call0_call0_v5 : Ref sig .tc := ⟨.hbm, 70, rfl⟩
abbrev main_call0_call0_v6 : Ref sig .tc := ⟨.hbm, 71, rfl⟩
abbrev main_call0_call0_v7 : Ref sig .tc := ⟨.hbm, 72, rfl⟩
abbrev main_call0_call0_v8 : Ref sig .tc := ⟨.hbm, 73, rfl⟩
abbrev main_call0_call0_v9 : Ref sig .tc := ⟨.hbm, 74, rfl⟩
abbrev main_call0_call0_v10 : Ref sig .tc := ⟨.hbm, 75, rfl⟩
abbrev main_call0_call0_v11 : Ref sig .tc := ⟨.hbm, 76, rfl⟩
abbrev main_call0_v1 : Ref sig .tc := ⟨.hbm, 77, rfl⟩
abbrev main_v51 : Ref sig .tc := ⟨.hbm, 78, rfl⟩
abbrev main_cst_5 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v52 : Ref sig .tc := ⟨.hbm, 83, rfl⟩
abbrev main_call2_cst : Ref sig .tc := ⟨.hbm, 84, rfl⟩
abbrev main_call2_v0 : Ref sig .tc := ⟨.hbm, 85, rfl⟩
abbrev main_v53 : Ref sig .tc := ⟨.hbm, 86, rfl⟩
abbrev main_v54 : Ref sig .tc := ⟨.hbm, 87, rfl⟩
abbrev main_call3_v0 : Ref sig .tc := ⟨.hbm, 88, rfl⟩
abbrev main_call3_call0_cst : Ref sig .tc := ⟨.hbm, 89, rfl⟩
abbrev main_call3_call0_v0 : Ref sig .tc := ⟨.hbm, 90, rfl⟩
abbrev main_call3_call0_v1 : Ref sig .tc := ⟨.hbm, 91, rfl⟩
abbrev main_call3_call0_v2 : Ref sig .tc := ⟨.hbm, 92, rfl⟩
abbrev main_call3_call0_v3 : Ref sig .tc := ⟨.hbm, 93, rfl⟩
abbrev main_call3_call0_v4 : Ref sig .tc := ⟨.hbm, 94, rfl⟩
abbrev main_call3_call0_v5 : Ref sig .tc := ⟨.hbm, 95, rfl⟩
abbrev main_call3_call0_v6 : Ref sig .tc := ⟨.hbm, 96, rfl⟩
abbrev main_call3_call0_v7 : Ref sig .tc := ⟨.hbm, 97, rfl⟩
abbrev main_call3_call0_v8 : Ref sig .tc := ⟨.hbm, 98, rfl⟩
abbrev main_call3_call0_v9 : Ref sig .tc := ⟨.hbm, 99, rfl⟩
abbrev main_call3_call0_v10 : Ref sig .tc := ⟨.hbm, 100, rfl⟩
abbrev main_call3_call0_v11 : Ref sig .tc := ⟨.hbm, 101, rfl⟩
abbrev main_call3_v1 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_6 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩

abbrev nD : Nat := 1
abbrev τ : Topo := Topo.v7x

variable {F : FTy → Type} [FloatOps F]
-- ==== Proof.Spec.lean ====
/- Stick-breaking attention over the reals, one query at a time: the query's scores are a function of the key's
   position, `z s`, and the query sees the keys before its own position `t`. -/
module

public import Idealize.ShloMosaic.PureOps.Ideal
public import Idealize.ShloMosaic.PureOps.Ideal.Laws

@[expose] public section

noncomputable section

namespace Cert.Stick

open Idealize.ShloMosaic

/-- The logarithm of one minus the sigmoid of `x`, in the form that never exponentiates a positive number. -/
def logKeep (x : ℝ) : ℝ := -(max x 0 + Real.log (1 + Real.exp (-|x|)))

/-- What key `s` leaves of the stick, as a logarithm; a key the query does not see leaves all of it. -/
def keep (z : ℕ → ℝ) (t s : ℕ) : ℝ := if s < t then logKeep (z s) else 0

/-- The weight of key `s` among the keys before `N`: its break of what the later keys left. -/
def weight (z : ℕ → ℝ) (t N s : ℕ) : ℝ :=
  if s < t then Real.exp (z s + keep z t s + ∑ u ∈ Finset.Ico (s + 1) N, keep z t u) else 0

theorem keep_of_le {z : ℕ → ℝ} {t s : ℕ} (h : t ≤ s) : keep z t s = 0 := if_neg (by omega)

theorem weight_of_le {z : ℕ → ℝ} {t N s : ℕ} (h : t ≤ s) : weight z t N s = 0 := if_neg (by omega)

/-- Keys from `N` on are not seen, so they change no weight. -/
theorem weight_extend {z : ℕ → ℝ} {t N M : ℕ} (s : ℕ) (hN : t ≤ N) (hM : N ≤ M) : weight z t M s = weight z t N s := by
  unfold weight
  split
  next h =>
    rw [← Finset.sum_Ico_consecutive _ (by omega : s + 1 ≤ N) hM, Finset.sum_eq_zero (s := Finset.Ico N M), add_zero]
    intro u hu
    exact keep_of_le (by rw [Finset.mem_Ico] at hu; omega)
  next => rfl

/-- The weighted sum over `N` keys is the one over `M` when the query sees none of the further keys. -/
theorem sum_weight_extend {z v : ℕ → ℝ} {t N M : ℕ} (hN : t ≤ N) (hM : N ≤ M) :
    ∑ s ∈ Finset.range M, weight z t M s * v s = ∑ s ∈ Finset.Ico 0 N, weight z t N s * v s := by
  rw [Finset.range_eq_Ico, ← Finset.sum_Ico_consecutive _ (Nat.zero_le N) hM,
    Finset.sum_eq_zero (s := Finset.Ico N M), add_zero]
  · exact Finset.sum_congr rfl fun s _ => by rw [weight_extend s hN hM]
  · intro s hs
    rw [weight_of_le (by rw [Finset.mem_Ico] at hs; omega), zero_mul]

/-! ## The extended reals' operations at reals -/

theorem max_zero_coe (x : ℝ) : max (x : EReal) 0 = ((max x 0 : ℝ) : EReal) :=
  (EReal.coe_strictMono.monotone.map_max (a := x) (b := 0)).symm

theorem abs_coe (x : ℝ) : max (x : EReal) (-(x : EReal)) = ((|x| : ℝ) : EReal) := by
  rw [← EReal.coe_neg]
  exact (EReal.coe_strictMono.monotone.map_max (a := x) (b := -x)).symm

theorem log1p_exp_coe (x : ℝ) : Ideal.log1p (Ideal.exp (x : EReal)) = ((Real.log (1 + Real.exp x) : ℝ) : EReal) := by
  rw [Ideal.exp_coe, Ideal.log1p, ← EReal.coe_one, ← EReal.coe_add, Ideal.log_coe, if_neg]
  have := Real.exp_pos x
  linarith

theorem logKeep_coe (x : ℝ) :
    (0 : EReal) - (max (x : EReal) 0 + Ideal.log1p (Ideal.exp (0 - max (x : EReal) (-(x : EReal))))) = ((logKeep x : ℝ) : EReal) := by
  rw [abs_coe, max_zero_coe, ← EReal.coe_zero, ← EReal.coe_sub, log1p_exp_coe, ← EReal.coe_add, ← EReal.coe_sub, logKeep]
  norm_num

theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

end Cert.Stick

end
-- ==== Proof.Payload.lean ====
/- What one trip of the key loop computes, over real inputs: the scores of a block of 128 keys, the logarithms they
   leave, their weights and the weighted sum of the values. Row `R` of the 1024 is query `R % 256` of head `R / 256`. -/
module

public import proofs.«01_k».proof.Proof.Spec
public import proofs.«01_k».proof.Proof.Gen.KernelIdeal.Value
public import Idealize.ShloMosaic.Lib.Pointwise
public import Idealize.ShloMosaic.Lib.WordCmp

@[expose] public section

set_option maxRecDepth 16384

noncomputable section

namespace Cert.Stick
open Idealize.ShloMosaic Idealize.ShloMosaic.WordCmp Cert.KernelIdeal Cert.KernelIdeal.Gen

/-- The scores' factor. -/
def scale : ℝ := (Ideal.ofBits .f32 0x3DB504F3#32).toReal

theorem scale_coe : Ideal.ofBits .f32 0x3DB504F3#32 = ((scale : ℝ) : EReal) := by
  unfold scale
  rw [EReal.coe_toReal] <;> simp [Ideal.ofBits, Ideal.ieee, -EReal.coe_mul]

/-- The queries, head by head. -/
theorem queries_apply (v8 : Vec Ideal S256x512 .f32) (q : ℕ → ℕ → ℝ)
    (hq : ∀ (r : Fin 256) (e : Fin 512), v8 (ix2 r e) = ((q r e : ℝ) : EReal)) (h : Fin 4) (r : Fin 256) (d : Fin 128) :
    k0_pay31 v8 (ix3 h r d) = ((q r (h * 128 + d) : ℝ) : EReal) := by
  pointwise [k0_pay31]
  simp only [hq]
  split_ifs <;> congr 2 <;> omega

/-- The values, head by head. -/
theorem values_apply (v80 : Vec Ideal S128x512 .f32) (v : ℕ → ℕ → ℝ)
    (hv : ∀ (c : Fin 128) (e : Fin 512), v80 (ix2 c e) = ((v c e : ℝ) : EReal)) (h : Fin 4) (c : Fin 128) (d : Fin 128) :
    k0_pay9 v80 (ix3 h c d) = ((v c (h * 128 + d) : ℝ) : EReal) := by
  pointwise [k0_pay9]
  simp only [hv]
  split_ifs <;> congr 2 <;> omega

/-- The biases, one per row. -/
theorem biases_apply (a b c d : EReal) (β : ℕ → ℝ) (ha : a = ((β 0 : ℝ) : EReal)) (hb : b = ((β 1 : ℝ) : EReal))
    (hc : c = ((β 2 : ℝ) : EReal)) (hd : d = ((β 3 : ℝ) : EReal)) (R : Fin 1024) :
    k0_pay32 (F := Ideal) a b c d (ix2 R 0) = ((β (R / 256) : ℝ) : EReal) := by
  pointwise [k0_pay32]
  subst ha hb hc hd
  split_ifs <;> congr 2 <;> omega

/-- One score of a block. -/
theorem score_apply (v18 : FVec Ideal S4x256x128 .bf16) (v39 : FVec Ideal S1024x1 .f32) (v68 : Vec Ideal S128x512 .f32)
    (q k : ℕ → ℕ → ℝ) (β : ℕ → ℝ)
    (hq : ∀ (h : Fin 4) (r : Fin 256) (d : Fin 128), v18 (ix3 h r d) = ((q r (h * 128 + d) : ℝ) : EReal))
    (hb : ∀ R : Fin 1024, v39 (ix2 R 0) = ((β (R / 256) : ℝ) : EReal))
    (hk : ∀ (c : Fin 128) (e : Fin 512), v68 (ix2 c e) = ((k c e : ℝ) : EReal)) (R : Fin 1024) (c : Fin 128) :
    k0_pay10 v18 v39 v68 (ix2 R c)
      = (((∑ d : Fin 128, q (R % 256) (R / 256 * 128 + d) * k c (R / 256 * 128 + d)) * scale + β (R / 256) : ℝ) : EReal) := by
  pointwise [k0_pay10]
  simp only [hq, hb, hk, scale_coe]
  rw [EReal.coe_add, EReal.coe_mul, ← sum_coe]
  congr 2
  refine Finset.sum_congr rfl fun d _ => ?_
  rw [EReal.coe_mul]
  congr 1
  split_ifs <;> congr 2 <;> omega

/-- What one key leaves, as a logarithm: nothing is taken where the key is masked. -/
theorem keep_apply (v66 : IVec S1024x128 1) (v18 : FVec Ideal S4x256x128 .bf16) (v39 : FVec Ideal S1024x1 .f32)
    (v68 : Vec Ideal S128x512 .f32) (z : ℕ → ℝ) (t b : ℕ) (R : Fin 1024)
    (hm : ∀ c : Fin 128, v66 (ix2 R c) = BitVec.ofBool (decide (b + c < t)))
    (hz : ∀ c : Fin 128, k0_pay10 v18 v39 v68 (ix2 R c) = ((z (b + c) : ℝ) : EReal)) (c : Fin 128) :
    k0_pay14 v66 (k0_pay11 v18 v39 v68) (k0_pay12 v18 v39 v68) (k0_pay13 (F := Ideal)) (ix2 R c)
      = ((keep z t (b + c) : ℝ) : EReal) := by
  pointwise [k0_pay14, k0_pay11, k0_pay12, k0_pay13]
  rw [hm, hz, Ideal.absf_def, logKeep_coe, keep]
  by_cases h : b + c.val < t <;> simp [h, Scalar.select]

/-- The sum of what a block's keys leave. -/
theorem keepSum_apply (v66 : IVec S1024x128 1) (v18 : FVec Ideal S4x256x128 .bf16) (v39 : FVec Ideal S1024x1 .f32)
    (v68 : Vec Ideal S128x512 .f32) (z : ℕ → ℝ) (t b : ℕ) (R : Fin 1024)
    (hm : ∀ c : Fin 128, v66 (ix2 R c) = BitVec.ofBool (decide (b + c < t)))
    (hz : ∀ c : Fin 128, k0_pay10 v18 v39 v68 (ix2 R c) = ((z (b + c) : ℝ) : EReal)) :
    k0_pay15 v66 (k0_pay11 v18 v39 v68) (k0_pay12 v18 v39 v68) (k0_pay13 (F := Ideal)) (ix2 R 0)
      = ((∑ s ∈ Finset.Ico b (b + 128), keep z t s : ℝ) : EReal) := by
  pointwise [k0_pay15]
  simp only [keep_apply v66 v18 v39 v68 z t b R hm hz]
  rw [sum_coe, Finset.sum_Ico_eq_sum_range, show b + 128 - b = 128 by omega, ← Fin.sum_univ_eq_sum_range (fun c => keep z t (b + c))]

/-- The strictly lower triangle of ones. -/
theorem triangle_apply (a c : Fin 128) :
    k0_pay30 (F := Ideal) (ix2 a c) = (((if c.val < a.val then 1 else 0 : ℝ)) : EReal) := by
  pointwise [k0_pay30]
  rw [cmpi_sgt_ofNat (by omega) (by omega)]
  show (((BitVec.setWidth 32 (BitVec.ofBool (decide (c.val < a.val)))).toInt : ℝ) : EReal) = _
  by_cases h : c.val < a.val <;> simp [h]

/-- The sum over a row of the triangle: the entries after column `c`. -/
theorem sum_after (f : ℕ → ℝ) (b : ℕ) (c : Fin 128) :
    ∑ a : Fin 128, f (b + a) * (if c.val < a.val then 1 else 0) = ∑ u ∈ Finset.Ico (b + c + 1) (b + 128), f u := by
  rw [Finset.sum_Ico_eq_sum_range, Fin.sum_univ_eq_sum_range (fun a => f (b + a) * (if c.val < a then (1 : ℝ) else 0))]
  have hc : c.val + 1 ≤ 128 := by omega
  rw [← Finset.sum_range_add_sum_Ico _ hc, Finset.sum_eq_zero, zero_add, Finset.sum_Ico_eq_sum_range]
  · rw [show b + 128 - (b + c + 1) = 128 - (c.val + 1) by omega]
    refine Finset.sum_congr rfl fun u _ => ?_
    rw [if_pos (by omega), mul_one]
    congr 1; omega
  · intro u hu
    rw [Finset.mem_range] at hu
    rw [if_neg (by omega), mul_zero]

/-- A block's weighted sum of the values: the weights of its keys, given what the keys after the block leave. -/
theorem blockOut_apply (v66 : IVec S1024x128 1) (v18 : FVec Ideal S4x256x128 .bf16) (v39 : FVec Ideal S1024x1 .f32)
    (v68 : Vec Ideal S128x512 .f32) (v90 : FVec Ideal S4x128x128 .bf16) (v97 : Vec Ideal S1024x1 .f32)
    (z : ℕ → ℝ) (t b N : ℕ) (v : ℕ → ℕ → ℝ) (h : Fin 4) (r : Fin 256) (d : Fin 128) (R : Fin 1024) (hR : R.val = h * 256 + r)
    (hN : b + 128 ≤ N)
    (hm : ∀ c : Fin 128, v66 (ix2 R c) = BitVec.ofBool (decide (b + c < t)))
    (hz : ∀ c : Fin 128, k0_pay10 v18 v39 v68 (ix2 R c) = ((z (b + c) : ℝ) : EReal))
    (hv : ∀ c : Fin 128, v90 (ix3 h c d) = ((v c (h * 128 + d) : ℝ) : EReal))
    (hc : v97 (ix2 R 0) = ((∑ s ∈ Finset.Ico (b + 128) N, keep z t s : ℝ) : EReal)) :
    k0_pay16 (k0_pay30 (F := Ideal)) v66 v90 (k0_pay10 v18 v39 v68) v97 (k0_pay11 v18 v39 v68) (k0_pay12 v18 v39 v68)
        (k0_pay13 (F := Ideal)) (ix3 h r d)
      = ((∑ c : Fin 128, weight z t N (b + c) * v c (h * 128 + d) : ℝ) : EReal) := by
  have hlt : h.val * 256 + r.val < 1024 := by omega
  obtain rfl : R = ⟨h * 256 + r, hlt⟩ := Fin.ext hR
  pointwise [k0_pay16]
  simp only [hlt, dif_pos, hm, hz, hv, hc, keep_apply v66 v18 v39 v68 z t b _ hm hz, triangle_apply]
  refine (Finset.sum_congr rfl fun c _ => ?_).trans
    (sum_coe Finset.univ fun c : Fin 128 => weight z t N (b + c) * v c (h * 128 + d))
  unfold weight
  by_cases hs : b + c.val < t
  · simp only [hs, decide_true, if_true, Scalar.select, BitVec.ofBool_true]
    simp only [← EReal.coe_sub, ← EReal.coe_mul, sum_coe, ← EReal.coe_add, Ideal.exp_coe, sub_self, zero_mul,
      Finset.sum_const_zero, add_zero, sum_after]
    rw [add_assoc, Finset.sum_Ico_consecutive _ (by omega) hN]
  · simp [hs, Scalar.select]

/-! ## The loop's words -/

theorem trips_eq : ∀ i : grid0.Coords, (k0_t1_loop i).trips = 2 * ((i 2).val + 1) := by decide +kernel

theorem base_word : ∀ (a : Fin 16) (k : Fin 32), k.val < 2 * (a.val + 1) →
    Scalar.muli (Scalar.subi (Scalar.subi (Scalar.muli (Scalar.addi (BitVec.ofNat 32 a.val) 1#32) 2#32) 1#32)
        (Scf.iv 0#32 1#32 k.val)) 128#32
      = BitVec.ofNat 32 ((2 * (a.val + 1) - 1 - k.val) * 128) := by decide +kernel

theorem off2_eq : ∀ (i : grid0.Coords) (k : Fin (k0_t1_loop i).trips),
    k0_off2 i k = ![(2 * ((i 2).val + 1) - 1 - k.val) * 128, 0] := by decide +kernel

/-- The mask of a block: the keys before the query's position. -/
theorem mask_apply (i : grid0.Coords) (k : Fin (k0_t1_loop i).trips) (v0 v1 : IVec S256x128 32)
    (h0 : ∀ (r : Fin 256) (c : Fin 128), v0 (ix2 r c) = BitVec.ofNat 32 r.val)
    (h1 : ∀ (r : Fin 256) (c : Fin 128), v1 (ix2 r c) = BitVec.ofNat 32 c.val) (R : Fin 1024) (c : Fin 128) :
    k0_pay8 i (BitVec.ofNat 32 (i 2).val) v0 v1 (Scalar.muli (Scalar.addi (BitVec.ofNat 32 (i 2).val) 1#32) 2#32) 0#32 1#32 k
        (ix2 R c)
      = BitVec.ofBool (decide ((2 * ((i 2).val + 1) - 1 - k.val) * 128 + c < (i 2).val * 256 + R % 256)) := by
  have hk : k.val < 2 * ((i 2).val + 1) := trips_eq i ▸ k.isLt
  have hi : (i 2).val < 16 := (i 2).isLt
  have hw := base_word ⟨(i 2).val, hi⟩ ⟨k.val, by omega⟩ hk
  simp only at hw
  have hq : Scalar.muli (BitVec.ofNat 32 (i 2).val) 256#32 = BitVec.ofNat 32 ((i 2).val * 256) :=
    (BitVec.ofNat_mul ..).symm
  have key : ∀ (r : ℕ), r < 256 → IntOp.cmpi CmpIPredicate.slt
      (IntOp.addi (BitVec.ofNat 32 c.val) (BitVec.ofNat 32 ((2 * ((i 2).val + 1) - 1 - k.val) * 128)))
      (IntOp.addi (BitVec.ofNat 32 r) (BitVec.ofNat 32 ((i 2).val * 256)))
        = BitVec.ofBool (decide ((2 * ((i 2).val + 1) - 1 - k.val) * 128 + c.val < (i 2).val * 256 + r)) := by
    intro r hr
    show IntOp.cmpi CmpIPredicate.slt (BitVec.ofNat 32 c.val + BitVec.ofNat 32 ((2 * ((i 2).val + 1) - 1 - k.val) * 128))
      (BitVec.ofNat 32 r + BitVec.ofNat 32 ((i 2).val * 256)) = _
    rw [← BitVec.ofNat_add, ← BitVec.ofNat_add, cmpi_slt_ofNat (by omega) (by omega), Nat.add_comm c.val, Nat.add_comm r]
  pointwise [k0_pay8]
  simp only [h0, h1, hw, hq]
  split_ifs with a1 a2 a3
  · rw [key _ a1, Nat.mod_eq_of_lt a1]
  · rw [key _ a2, show R.val % 256 = R.val - 256 by omega]
  · rw [key _ a3, show R.val % 256 = R.val - 256 - 256 by omega]
  · rw [key _ (by omega), show R.val % 256 = R.val - 256 - 256 - 256 by omega]

end Cert.Stick
end
-- ==== Proof.Trip.lean ====
/- One trip of the key loop: what it adds to the output rows and to the carried logarithm. -/
module

public import proofs.«01_k».proof.Proof.Payload
public import Idealize.ShloMosaic.Lib.WritesUnit
public import Idealize.ShloMosaic.Lib.VecWindow
import all proofs.«01_k».proof.Proof.Gen.KernelIdeal.Loops

@[expose] public section

set_option maxRecDepth 16384

noncomputable section

namespace Cert.Stick
open Idealize.ShloMosaic Cert.KernelIdeal Cert.KernelIdeal.Gen

/-! ## The four column blocks' sums -/

section Columns
variable (v7 : FVec Ideal S128x128 .bf16) (v66 : IVec S1024x128 1) (v90 : FVec Ideal S4x128x128 .bf16)
  (v96 : FVec Ideal S1024x128 .f32) (v97 : Vec Ideal S1024x1 .f32) (v99 v100 v101 : FVec Ideal S1024x128 .f32)
  (w : Vec Ideal S256x128 .f32) (v130 : FVec Ideal S4x256x128 .f32) (r : Fin 256) (d : Fin 128)

theorem head0_apply : k0_pay17 v7 v66 v90 v96 v97 v99 v100 v101 w (ix2 r d)
    = w (ix2 r d) + k0_pay16 v7 v66 v90 v96 v97 v99 v100 v101 (ix3 0 r d) := by
  pointwise [k0_pay17]

theorem head1_apply : k0_pay18 v7 v66 v90 v96 v97 v99 v100 v101 w (ix2 r d)
    = w (ix2 r d) + k0_pay16 v7 v66 v90 v96 v97 v99 v100 v101 (ix3 1 r d) := by
  pointwise [k0_pay18]

theorem head2_apply : k0_pay2 v130 w (ix2 r d) = w (ix2 r d) + v130 (ix3 2 r d) := by
  pointwise [k0_pay2]

theorem head3_apply : k0_pay3 v130 w (ix2 r d) = w (ix2 r d) + v130 (ix3 3 r d) := by
  pointwise [k0_pay3]

theorem carry_apply (v127 : FVec Ideal S1024x1 .f32) (v155 : Vec Ideal S1024x1 .f32) (R : Fin 1024) :
    k0_pay4 v127 v155 (ix2 R 0) = v155 (ix2 R 0) + v127 (ix2 R 0) := by
  pointwise [k0_pay4]

end Columns

/-! ## The trip's stores -/

section Trip
variable (c : Dev nD) (i : grid0.Coords) (arg3 : Memref sig .tc .smem S8 .f32) (harg3 : arg3.IsWhole)
  (arg4 : Memref sig .tc .vmem S256x512 .f32) (harg4 : arg4.IsWhole) (arg5 : Memref sig .tc .vmem S4096x512 .f32)
  (harg5 : arg5.IsWhole) (arg6 : Memref sig .tc .vmem S4096x512 .f32) (harg6 : arg6.IsWhole)
  (arg7 : Memref sig .tc .vmem S256x512 .f32) (harg7 : arg7.IsWhole) (arg8 : Memref sig .tc .vmem S1024x1 .f32)
  (harg8 : arg8.IsWhole) (arg2 : BitVec 32) (v0 v1 : IVec S256x128 32) (v7 : FVec Ideal S128x128 .bf16)
  (v18 : FVec Ideal S4x256x128 .bf16) (v39 : FVec Ideal S1024x1 .f32) (v47 : BitVec 32)
  (X5 : BufTy.Contents (Elt Ideal) arg5.view.ty) (X6 : BufTy.Contents (Elt Ideal) arg6.view.ty)
  (k : Fin (k0_t1_loop i).trips) (acc : BitVec 32) (f7 : BufTy.Contents (Elt Ideal) arg7.view.ty)
  (f8 : BufTy.Contents (Elt Ideal) arg8.view.ty)

/-- The block of 128 rows trip `k` loads. -/
abbrev block (A : Memref sig .tc .vmem S4096x512 .f32) (X : BufTy.Contents (Elt Ideal) A.view.ty) : Vec Ideal S128x512 .f32 :=
  View.readAt (Elt Ideal) A.view (Rect.unit (s := S4096x512) (k0_off2 i k) S128x512.size (k0_off2_inb i k)).toLoadRect X

/-- The trip's mask. -/
abbrev mask : IVec S1024x128 1 := k0_pay8 i arg2 v0 v1 v47 0#32 1#32 k

/-- The trip's weighted values, head by head. -/
abbrev blockOut : FVec Ideal S4x256x128 .f32 :=
  k0_pay16 v7 (mask i arg2 v0 v1 v47 k) (k0_pay9 (block i k arg6 X6)) (k0_pay10 v18 v39 (block i k arg5 X5))
    (arg8.view.read (Elt Ideal) f8) (k0_pay11 v18 v39 (block i k arg5 X5)) (k0_pay12 v18 v39 (block i k arg5 X5))
    (k0_pay13 (F := Ideal))

/-- What the trip's keys leave. -/
abbrev blockKeep : FVec Ideal S1024x1 .f32 :=
  k0_pay15 (mask i arg2 v0 v1 v47 k) (k0_pay11 v18 v39 (block i k arg5 X5)) (k0_pay12 v18 v39 (block i k arg5 X5))
    (k0_pay13 (F := Ideal))

/-- A column block of the output rows. -/
abbrev cols (off : Fin 2 → ℕ) (inb : ∀ a, off a + S256x128.size a ≤ S256x512.size a) : Vec Ideal S256x128 .f32 :=
  View.readAt (Elt Ideal) arg7.view (Rect.unit (s := S256x512) off S256x128.size inb).toLoadRect f7

/-! The trip's words, each by what it computes. -/

theorem trip_word2 : trip_k0_t1.sl.r_2 i arg5 v18 v39 X5 k = k0_pay10 v18 v39 (block i k arg5 X5) := by
  sl_unfold_words; rfl
theorem trip_word1 : trip_k0_t1.sl.r_1 i arg6 X6 k = k0_pay9 (block i k arg6 X6) := by
  sl_unfold_words; rfl
theorem trip_word4 : trip_k0_t1.sl.r_4 i arg5 v18 v39 X5 k = k0_pay11 v18 v39 (block i k arg5 X5) := by
  sl_unfold_words; rfl
theorem trip_word5 : trip_k0_t1.sl.r_5 i arg5 v18 v39 X5 k = k0_pay12 v18 v39 (block i k arg5 X5) := by
  sl_unfold_words; rfl
theorem trip_word0 : trip_k0_t1.sl.r i arg2 v0 v1 v47 k = mask i arg2 v0 v1 v47 k := by
  sl_unfold_words; rfl
theorem trip_word3 : trip_k0_t1.sl.r_3 arg8 f8 = arg8.view.read (Elt Ideal) f8 := by
  sl_unfold_words; exact View.readAt_full arg8.view f8 inb_S1024x1_S1024x1_0_0

theorem trip_eq :
    tripL_k0_t1 (F := Ideal) Variants.none c none i arg3 harg3 arg4 harg4 arg5 harg5 arg6 harg6 arg7 harg7 arg8 harg8
        arg2 v0 v1 v7 v18 v39 v47 X5 X6 k acc f7 f8
      = ([⟨Rect.unit (s := S256x512) ![0, 384] S256x128.size inb_S256x512_S256x128_0_384,
            k0_pay3 (blockOut i arg5 arg6 arg8 arg2 v0 v1 v7 v18 v39 v47 X5 X6 k f8)
              (cols arg7 f7 ![0, 384] inb_S256x512_S256x128_0_384)⟩,
          ⟨Rect.unit (s := S256x512) ![0, 256] S256x128.size inb_S256x512_S256x128_0_256,
            k0_pay2 (blockOut i arg5 arg6 arg8 arg2 v0 v1 v7 v18 v39 v47 X5 X6 k f8)
              (cols arg7 f7 ![0, 256] inb_S256x512_S256x128_0_256)⟩,
          ⟨Rect.unit (s := S256x512) ![0, 128] S256x128.size inb_S256x512_S256x128_0_128,
            k0_pay18 v7 (mask i arg2 v0 v1 v47 k) (k0_pay9 (block i k arg6 X6)) (k0_pay10 v18 v39 (block i k arg5 X5))
              (arg8.view.read (Elt Ideal) f8) (k0_pay11 v18 v39 (block i k arg5 X5))
              (k0_pay12 v18 v39 (block i k arg5 X5)) (k0_pay13 (F := Ideal))
              (cols arg7 f7 ![0, 128] inb_S256x512_S256x128_0_128)⟩,
          ⟨Rect.unit (s := S256x512) ![0, 0] S256x128.size inb_S256x512_S256x128_0_0,
            k0_pay17 v7 (mask i arg2 v0 v1 v47 k) (k0_pay9 (block i k arg6 X6)) (k0_pay10 v18 v39 (block i k arg5 X5))
              (arg8.view.read (Elt Ideal) f8) (k0_pay11 v18 v39 (block i k arg5 X5))
              (k0_pay12 v18 v39 (block i k arg5 X5)) (k0_pay13 (F := Ideal))
              (cols arg7 f7 ![0, 0] inb_S256x512_S256x128_0_0)⟩],
         [⟨Rect.unit (s := S1024x1) ![0, 0] S1024x1.size inb_S1024x1_S1024x1_0_0,
            k0_pay4 (blockKeep i arg5 arg2 v0 v1 v18 v39 v47 X5 k) (arg8.view.read (Elt Ideal) f8)⟩]) := by
  unfold tripL_k0_t1 trip_k0_t1
  dsimp only
  unfold trip_k0_t1.sl.r_7 trip_k0_t1.sl.r_6 trip_k0_t1.sl.v149 trip_k0_t1.sl.v143 trip_k0_t1.sl.v137
  rw [trip_word0, trip_word1, trip_word2, trip_word3, trip_word4, trip_word5,
    (View.readAt_full arg8.view f8 inb_S1024x1_S1024x1_0_0 :
      View.readAt (Elt Ideal) arg8.view (Rect.unit (s := S1024x1) ![0, 0] ![1024, 1] inb_S1024x1_S1024x1_0_0).toLoadRect f8 = _)]

/-- The output rows after a trip: what they were and the block's weighted values. -/
theorem rows_after (h : Fin 4) (r : Fin 256) (d : Fin 128) (e : Fin 512) (he : e.val = h.val * 128 + d.val) :
    arg7.view.read (Elt Ideal) (arg7.view.writes (Elt Ideal) f7
        (tripL_k0_t1 (F := Ideal) Variants.none c none i arg3 harg3 arg4 harg4 arg5 harg5 arg6 harg6 arg7 harg7 arg8 harg8
          arg2 v0 v1 v7 v18 v39 v47 X5 X6 k acc f7 f8).1) (ix2 r e)
      = arg7.view.read (Elt Ideal) f7 (ix2 r e)
        + blockOut i arg5 arg6 arg8 arg2 v0 v1 v7 v18 v39 v47 X5 X6 k f8 (ix3 h r d) := by
  rw [trip_eq]
  dsimp only
  have hd := d.isLt
  have hcol : ∀ (o : ℕ) (inb : ∀ a, (![0, o] : Fin 2 → ℕ) a + S256x128.size a ≤ S256x512.size a), e.val = o + d.val →
      cols arg7 f7 ![0, o] inb (ix2 r d) = arg7.view.read (Elt Ideal) f7 (ix2 r e) := by
    intro o inb ho
    unfold cols
    rw [View.readAt_unit _ _ inb rfl inb]
    refine congrArg (arg7.view.read (Elt Ideal) f7) (funext fun a => Fin.ext ?_)
    match a with
    | 0 => show 0 + 1 * r.val = r.val; omega
    | 1 => show o + 1 * d.val = e.val; omega
  match h with
  | 0 =>
    have he' : e.val = 0 + d.val := by simpa using he
    rw [View.read_writes_cons_unit_of_not_mem arg7.view _ _ _ _ (ix2 r e) rfl (1 : Fin 2) (.inl (by show e.val < 384; omega)),
      View.read_writes_cons_unit_of_not_mem arg7.view _ _ _ _ (ix2 r e) rfl (1 : Fin 2) (.inl (by show e.val < 256; omega)),
      View.read_writes_cons_unit_of_not_mem arg7.view _ _ _ _ (ix2 r e) rfl (1 : Fin 2) (.inl (by show e.val < 128; omega)),
      View.read_writes_cons_unit_of_mem (s := S256x512) (off' := ![0, 0]) (size := S256x128.size) arg7.view _ _ _ _ (ix2 r e) (ix2 r d) rfl
        (fun a : Fin 2 => match a with | 0 => (Nat.zero_add _).symm | 1 => he'), head0_apply, hcol 0 _ he']
  | 1 =>
    have he' : e.val = 128 + d.val := by simpa using he
    rw [View.read_writes_cons_unit_of_not_mem arg7.view _ _ _ _ (ix2 r e) rfl (1 : Fin 2) (.inl (by show e.val < 384; omega)),
      View.read_writes_cons_unit_of_not_mem arg7.view _ _ _ _ (ix2 r e) rfl (1 : Fin 2) (.inl (by show e.val < 256; omega)),
      View.read_writes_cons_unit_of_mem (s := S256x512) (off' := ![0, 128]) (size := S256x128.size) arg7.view _ _ _ _ (ix2 r e) (ix2 r d) rfl
        (fun a : Fin 2 => match a with | 0 => (Nat.zero_add _).symm | 1 => he'), head1_apply, hcol 128 _ he']
  | 2 =>
    have he' : e.val = 256 + d.val := by simpa using he
    rw [View.read_writes_cons_unit_of_not_mem arg7.view _ _ _ _ (ix2 r e) rfl (1 : Fin 2) (.inl (by show e.val < 384; omega)),
      View.read_writes_cons_unit_of_mem (s := S256x512) (off' := ![0, 256]) (size := S256x128.size) arg7.view _ _ _ _ (ix2 r e) (ix2 r d) rfl
        (fun a : Fin 2 => match a with | 0 => (Nat.zero_add _).symm | 1 => he'), head2_apply, hcol 256 _ he']
  | 3 =>
    have he' : e.val = 384 + d.val := by simpa using he
    rw [View.read_writes_cons_unit_of_mem (s := S256x512) (off' := ![0, 384]) (size := S256x128.size) arg7.view _ _ _ _ (ix2 r e) (ix2 r d) rfl
        (fun a : Fin 2 => match a with | 0 => (Nat.zero_add _).symm | 1 => he'), head3_apply, hcol 384 _ he']

/-- The carried logarithm after a trip: what it was and what the block's keys leave. -/
theorem carry_after (R : Fin 1024) :
    arg8.view.read (Elt Ideal) (arg8.view.writes (Elt Ideal) f8
        (tripL_k0_t1 (F := Ideal) Variants.none c none i arg3 harg3 arg4 harg4 arg5 harg5 arg6 harg6 arg7 harg7 arg8 harg8
          arg2 v0 v1 v7 v18 v39 v47 X5 X6 k acc f7 f8).2) (ix2 R 0)
      = arg8.view.read (Elt Ideal) f8 (ix2 R 0) + blockKeep i arg5 arg2 v0 v1 v18 v39 v47 X5 k (ix2 R 0) := by
  rw [trip_eq]
  dsimp only
  rw [View.read_writes_full, carry_apply]

end Trip

end Cert.Stick
end
-- ==== Proof.Loop.lean ====
/- The key loop: after `j` trips the carried logarithm and the output rows are the sums over the last `128 j` keys of the
   query block's prefix. -/
module

public import proofs.«01_k».proof.Proof.Trip

@[expose] public section

set_option maxRecDepth 16384

noncomputable section

namespace Cert.Stick
open Idealize.ShloMosaic Cert.KernelIdeal Cert.KernelIdeal.Gen

/-- Row `R`'s score against key `s`: the query and the key of head `R / 256`, scaled, and that head's bias. -/
def score (q k : ℕ → ℕ → ℝ) (β : ℕ → ℝ) (R s : ℕ) : ℝ :=
  (∑ d : Fin 128, q (R % 256) (R / 256 * 128 + d) * k s (R / 256 * 128 + d)) * scale + β (R / 256)

theorem block_apply (i : grid0.Coords) (k : Fin (k0_t1_loop i).trips) (A : Memref sig .tc .vmem S4096x512 .f32)
    (X : BufTy.Contents (Elt Ideal) A.view.ty) (x : ℕ → ℕ → ℝ)
    (hX : ∀ (s : Fin 4096) (e : Fin 512), A.view.read (Elt Ideal) X (ix2 s e) = ((x s e : ℝ) : EReal))
    (c : Fin 128) (e : Fin 512) :
    block i k A X (ix2 c e) = ((x ((2 * ((i 2).val + 1) - 1 - k.val) * 128 + c) e : ℝ) : EReal) := by
  have hi : (i 2).val < 16 := (i 2).isLt
  have hinb := k0_off2_inb i k
  rw [off2_eq] at hinb
  rw [block, View.readAt_unit A.view X (k0_off2_inb i k) (off2_eq i k) hinb]
  rw [← hX ⟨(2 * ((i 2).val + 1) - 1 - k.val) * 128 + c, by omega⟩ e]
  refine congrArg (A.view.read (Elt Ideal) X) (funext fun a => Fin.ext ?_)
  match a with
  | 0 => show (2 * ((i 2).val + 1) - 1 - k.val) * 128 + 1 * c.val = _; rw [Nat.one_mul]; rfl
  | 1 => show 0 + 1 * e.val = e.val; omega

section Loop
variable (c : Dev nD) (i : grid0.Coords) (arg3 : Memref sig .tc .smem S8 .f32) (harg3 : arg3.IsWhole)
  (arg4 : Memref sig .tc .vmem S256x512 .f32) (harg4 : arg4.IsWhole) (arg5 : Memref sig .tc .vmem S4096x512 .f32)
  (harg5 : arg5.IsWhole) (arg6 : Memref sig .tc .vmem S4096x512 .f32) (harg6 : arg6.IsWhole)
  (arg7 : Memref sig .tc .vmem S256x512 .f32) (harg7 : arg7.IsWhole) (arg8 : Memref sig .tc .vmem S1024x1 .f32)
  (harg8 : arg8.IsWhole)
  (v0 v1 : IVec S256x128 32) (v18 : FVec Ideal S4x256x128 .bf16) (v39 : FVec Ideal S1024x1 .f32)
  (X5 : BufTy.Contents (Elt Ideal) arg5.view.ty) (X6 : BufTy.Contents (Elt Ideal) arg6.view.ty)
  (G7 : BufTy.Contents (Elt Ideal) arg7.view.ty) (G8 : BufTy.Contents (Elt Ideal) arg8.view.ty) (init : BitVec 32)

/-- The stores of the first `j` trips. -/
abbrev loopState (j : ℕ) :=
  st_k0_t1 (F := Ideal) Variants.none c none i arg3 harg3 arg4 harg4 arg5 harg5 arg6 harg6 arg7 harg7 arg8 harg8
    (BitVec.ofNat 32 (i 2).val) v0 v1 (k0_pay30 (F := Ideal)) v18 v39
    (Scalar.muli (Scalar.addi (BitVec.ofNat 32 (i 2).val) 1#32) 2#32) X5 X6 G7 G8 init j

theorem loop_apply (q k v : ℕ → ℕ → ℝ) (β : ℕ → ℝ)
    (h0 : ∀ (r : Fin 256) (c : Fin 128), v0 (ix2 r c) = BitVec.ofNat 32 r.val)
    (h1 : ∀ (r : Fin 256) (c : Fin 128), v1 (ix2 r c) = BitVec.ofNat 32 c.val)
    (hq : ∀ (h : Fin 4) (r : Fin 256) (d : Fin 128), v18 (ix3 h r d) = ((q r (h * 128 + d) : ℝ) : EReal))
    (hb : ∀ R : Fin 1024, v39 (ix2 R 0) = ((β (R / 256) : ℝ) : EReal))
    (hk : ∀ (s : Fin 4096) (e : Fin 512), arg5.view.read (Elt Ideal) X5 (ix2 s e) = ((k s e : ℝ) : EReal))
    (hv : ∀ (s : Fin 4096) (e : Fin 512), arg6.view.read (Elt Ideal) X6 (ix2 s e) = ((v s e : ℝ) : EReal))
    (h7 : ∀ (r : Fin 256) (e : Fin 512), arg7.view.read (Elt Ideal) G7 (ix2 r e) = 0)
    (h8 : ∀ R : Fin 1024, arg8.view.read (Elt Ideal) G8 (ix2 R 0) = 0)
    (n : ℕ) (hn : n = 2 * ((i 2).val + 1)) (j : ℕ) (hj : j ≤ n) :
    (∀ R : Fin 1024, arg8.view.read (Elt Ideal) (arg8.view.writes (Elt Ideal) G8
        (loopState c i arg3 harg3 arg4 harg4 arg5 harg5 arg6 harg6 arg7 harg7 arg8 harg8 v0 v1 v18 v39 X5 X6 G7 G8 init j).2.2) (ix2 R 0)
      = ((∑ s ∈ Finset.Ico ((n - j) * 128) (n * 128), keep (score q k β R) ((i 2).val * 256 + R % 256) s : ℝ) : EReal)) ∧
    (∀ (h : Fin 4) (r : Fin 256) (d : Fin 128) (e : Fin 512) (R : ℕ), e.val = h.val * 128 + d.val → R = h.val * 256 + r.val →
      arg7.view.read (Elt Ideal) (arg7.view.writes (Elt Ideal) G7
        (loopState c i arg3 harg3 arg4 harg4 arg5 harg5 arg6 harg6 arg7 harg7 arg8 harg8 v0 v1 v18 v39 X5 X6 G7 G8 init j).2.1) (ix2 r e)
      = ((∑ s ∈ Finset.Ico ((n - j) * 128) (n * 128), weight (score q k β R) ((i 2).val * 256 + r) (n * 128) s * v s e : ℝ) : EReal)) := by
  induction j with
  | zero =>
    refine ⟨fun R => ?_, fun h r d e R _ _ => ?_⟩
    · rw [Nat.sub_zero, Finset.Ico_self, Finset.sum_empty, EReal.coe_zero]; exact h8 R
    · rw [Nat.sub_zero, Finset.Ico_self, Finset.sum_empty, EReal.coe_zero]; exact h7 r e
  | succ j ih =>
    obtain ⟨ih8, ih7⟩ := ih (by omega)
    have hlt : j < (k0_t1_loop i).trips := by rw [trips_eq]; omega
    have hi : (i 2).val < 16 := (i 2).isLt
    have hs := st_k0_t1_succ (F := Ideal) Variants.none c none i arg3 harg3 arg4 harg4 arg5 harg5 arg6 harg6 arg7 harg7 arg8 harg8
      (BitVec.ofNat 32 (i 2).val) v0 v1 (k0_pay30 (F := Ideal)) v18 v39
      (Scalar.muli (Scalar.addi (BitVec.ofNat 32 (i 2).val) 1#32) 2#32) X5 X6 G7 G8 init ⟨j, hlt⟩
    -- the block's place
    have hbase : (2 * ((i 2).val + 1) - 1 - j) * 128 = (n - (j + 1)) * 128 := by rw [hn]; congr 1; omega
    have hnext : (n - (j + 1)) * 128 + 128 = (n - j) * 128 := by
      rw [show n - j = n - (j + 1) + 1 by omega, Nat.add_mul]
    have hz : ∀ (R : Fin 1024) (x : Fin 128), k0_pay10 v18 v39 (block i ⟨j, hlt⟩ arg5 X5) (ix2 R x)
        = ((score q k β R ((n - (j + 1)) * 128 + x) : ℝ) : EReal) := fun R x => by
      rw [score_apply v18 v39 _ q (fun x e => k ((n - (j + 1)) * 128 + x) e) β hq hb
        (fun x e => by rw [block_apply i ⟨j, hlt⟩ arg5 X5 k hk, hbase]) R x, score]
    have hm : ∀ (R : Fin 1024) (x : Fin 128), mask i (BitVec.ofNat 32 (i 2).val) v0 v1
        (Scalar.muli (Scalar.addi (BitVec.ofNat 32 (i 2).val) 1#32) 2#32) ⟨j, hlt⟩ (ix2 R x)
        = BitVec.ofBool (decide ((n - (j + 1)) * 128 + x < (i 2).val * 256 + R % 256)) := fun R x => by
      rw [mask, mask_apply i ⟨j, hlt⟩ v0 v1 h0 h1 R x, hbase]
    refine ⟨fun R => ?_, fun h r d e R he hR => ?_⟩
    · rw [loopState, hs]
      dsimp only
      rw [View.writes_append, carry_after, ih8, blockKeep,
        keepSum_apply _ v18 v39 _ (score q k β R) ((i 2).val * 256 + R % 256) _ R (hm R) (hz R), hnext, ← EReal.coe_add, add_comm,
        Finset.sum_Ico_consecutive _ (by omega) (Nat.mul_le_mul_right _ (Nat.sub_le _ _))]
    · rw [loopState, hs]
      dsimp only
      have hRl : R < 1024 := by omega
      have hRm : R % 256 = r.val := by omega
      rw [View.writes_append, rows_after (h := h) (d := d) (he := he), ih7 h r d e R he hR, blockOut,
        blockOut_apply _ v18 v39 _ _ _ (score q k β R) ((i 2).val * 256 + R % 256) ((n - (j + 1)) * 128) (n * 128)
          (fun x e => v ((n - (j + 1)) * 128 + x) e) h r d ⟨R, hRl⟩ hR
          (by rw [hnext]; exact Nat.mul_le_mul_right _ (Nat.sub_le _ _)) (hm ⟨R, hRl⟩) (hz ⟨R, hRl⟩)
          (fun x => values_apply _ (fun x e => v ((n - (j + 1)) * 128 + x) e)
            (fun x e => by rw [block_apply i ⟨j, hlt⟩ arg6 X6 v hv, hbase]) h x d)
          (by rw [ih8 ⟨R, hRl⟩, hnext])]
      rw [← EReal.coe_add, add_comm, hRm, ← he, Fin.sum_univ_eq_sum_range
        (fun x => weight (score q k β R) ((i 2).val * 256 + r) (n * 128) ((n - (j + 1)) * 128 + x) * v ((n - (j + 1)) * 128 + x) e) 128]
      rw [← Finset.sum_Ico_consecutive (fun s => weight (score q k β R) ((i 2).val * 256 + r) (n * 128) s * v s e)
        (show (n - (j + 1)) * 128 ≤ (n - j) * 128 by omega) (Nat.mul_le_mul_right _ (Nat.sub_le _ _)),
        Finset.sum_Ico_eq_sum_range _ ((n - (j + 1)) * 128), ← hnext, Nat.add_sub_cancel_left]

end Loop

end Cert.Stick
end
-- ==== Proof.Point.lean ====
/- What one grid point stores: the attention of its 256 queries and 4 heads over the keys of the query block's prefix. -/
module

public import proofs.«01_k».proof.Proof.Loop
public import Idealize.ShloMosaic.Lib.Pipeline.ValueKit
import all proofs.«01_k».proof.Proof.Gen.KernelIdeal.Loops
import all proofs.«01_k».proof.Proof.Gen.KernelIdeal.Frame.RunA

@[expose] public section

set_option maxRecDepth 16384

noncomputable section

namespace Cert.Stick
open Idealize.ShloMosaic Cert.KernelIdeal Cert.KernelIdeal.Gen

section Point
variable (c : Dev nD) (i : grid0.Coords) (arg3 : Memref sig .tc .smem S8 .f32) (harg3 : arg3.IsWhole)
  (arg4 : Memref sig .tc .vmem S256x512 .f32) (harg4 : arg4.IsWhole) (arg5 : Memref sig .tc .vmem S4096x512 .f32)
  (harg5 : arg5.IsWhole) (arg6 : Memref sig .tc .vmem S4096x512 .f32) (harg6 : arg6.IsWhole)
  (arg7 : Memref sig .tc .vmem S256x512 .f32) (harg7 : arg7.IsWhole) (arg8 : Memref sig .tc .vmem S1024x1 .f32)
  (harg8 : arg8.IsWhole)
  (x0 : Vec Ideal S8 .f32) (x1 : Vec Ideal S256x512 .f32) (x2 x3 : Vec Ideal S4096x512 .f32)

theorem rowIota_apply (r : Fin 256) (x : Fin 128) : kernelRun0_A.sl.v0 (ix2 r x) = BitVec.ofNat 32 r.val := by
  pointwise [kernelRun0_A.sl.v0]

theorem colIota_apply (r : Fin 256) (x : Fin 128) : kernelRun0_A.sl.v1 (ix2 r x) = BitVec.ofNat 32 x.val := by
  pointwise [kernelRun0_A.sl.v1]

theorem zeroRows_apply (r : Fin 256) (e : Fin 512) : k0_pay33 (F := Ideal) (ix2 r e) = 0 := by
  pointwise [k0_pay33]

theorem zeroCarry_apply (R : Fin 1024) : k0_pay1 (F := Ideal) kernelRun0_A.sl.cst_6 (ix2 R 0) = 0 := by
  pointwise [k0_pay1, kernelRun0_A.sl.cst_6]

theorem biasRead (r : Fin 4) (inb : ∀ a, k0_off1 i (BitVec.ofNat 32 r.val) a + S1.size a ≤ S8.size a) (y : S1.Idx) (B : ℕ → ℝ)
    (hB : ∀ h : Fin 8, x0 (ix1 h) = ((B h : ℝ) : EReal)) :
    View.readAt (Elt Ideal) arg3.view (Rect.unit (s := S8) (k0_off1 i (BitVec.ofNat 32 r.val)) S1.size inb).toLoadRect
      (harg3.unread x0) y = ((B (4 * (i 1).val + r.val) : ℝ) : EReal) := by
  have hi : (i 1).val < 2 := (i 1).isLt
  have hr := r.isLt
  have hy : (y 0).val < 1 := (y 0).isLt
  have hinb := inb
  rw [k0_off1_eq] at hinb
  rw [View.readAt_unit arg3.view _ inb (k0_off1_eq i r) hinb, harg3.read_unread,
    ← hB ⟨4 * (i 1).val + r.val, by omega⟩]
  refine congrArg x0 (funext fun a => Fin.ext ?_)
  match a with
  | 0 => show 4 * (i 1).val + r.val + 1 * (y 0).val = 4 * (i 1).val + r.val; omega

theorem point_biases (B : ℕ → ℝ) (hB : ∀ h : Fin 8, x0 (ix1 h) = ((B h : ℝ) : EReal)) (R : Fin 1024) :
    kernelRun0_A.sl.r_5 (F := Ideal) c i arg3 harg3 x0 (ix2 R 0) = ((B (4 * (i 1).val + R / 256) : ℝ) : EReal) := by
  sl_unfold_words
  exact biases_apply _ _ _ _ (fun j => B (4 * (i 1).val + j))
    (biasRead i arg3 harg3 x0 0 (k0_off1_inb i 0) _ B hB) (biasRead i arg3 harg3 x0 1 (k0_off1_inb i 1) _ B hB)
    (biasRead i arg3 harg3 x0 2 (k0_off1_inb i 2) _ B hB) (biasRead i arg3 harg3 x0 3 (k0_off1_inb i 3) _ B hB) R

theorem point_queries (q : ℕ → ℕ → ℝ) (hq : ∀ (r : Fin 256) (e : Fin 512), x1 (ix2 r e) = ((q r e : ℝ) : EReal))
    (h : Fin 4) (r : Fin 256) (d : Fin 128) :
    kernelRun0_A.sl.r_4 (F := Ideal) c arg4 harg4 x1 (ix3 h r d) = ((q r (h * 128 + d) : ℝ) : EReal) := by
  unfold kernelRun0_A.sl.r_4
  rw [View.readAt_full, harg4.read_unread]
  exact queries_apply x1 q hq h r d

/-- The run's stores into the output block: the key loop's, over the zeros stored first. The second loop makes no trip. -/
theorem point_pieces :
    (kernelRun0_A (F := Ideal) c i arg3 harg3 arg4 harg4 arg5 harg5 arg6 harg6 arg7 harg7 arg8 harg8 x0 x1 x2 x3).1
      = (loopState c i arg3 harg3 arg4 harg4 arg5 harg5 arg6 harg6 arg7 harg7 arg8 harg8
          kernelRun0_A.sl.v0 kernelRun0_A.sl.v1 (kernelRun0_A.sl.r_4 c arg4 harg4 x1) (kernelRun0_A.sl.r_5 c i arg3 harg3 x0)
          (harg5.unread x2) (harg6.unread x3) (arg7.view.writes (Elt Ideal) arg7.view.junk kernelRun0_A.sl.H4_1)
          (arg8.view.writes (Elt Ideal) arg8.view.junk kernelRun0_A.sl.HS0_1) 0#32 (k0_t1_loop i).trips).2.1
        ++ kernelRun0_A.sl.H4_1 := by
  have t2 : (k0_t2_loop i).trips = 0 := Nat.le_zero.mp (k0_t2_abs i).2.1
  have e : ∀ (v52 : BitVec 32) (G7 : BufTy.Contents (Elt Ideal) arg7.view.ty) (G8 : BufTy.Contents (Elt Ideal) arg8.view.ty)
      (acc : BitVec 32), (st_k0_t2 (F := Ideal) Variants.none c none i arg3 harg3 arg4 harg4 arg5 harg5 arg6 harg6 arg7 harg7
        arg8 harg8 (BitVec.ofNat 32 (i 2).val) kernelRun0_A.sl.v0 kernelRun0_A.sl.v1 (k0_pay30 (F := Ideal))
        (kernelRun0_A.sl.r_4 c arg4 harg4 x1) (kernelRun0_A.sl.r_5 c i arg3 harg3 x0)
        (Scalar.muli (Scalar.addi (BitVec.ofNat 32 (i 2).val) 1#32) 2#32) v52 (harg5.unread x2) (harg6.unread x3)
        G7 G8 acc (k0_t2_loop i).trips).2.1 = [] := by
    intro v52 G7 G8 acc
    rw [t2]
    rfl
  unfold kernelRun0_A
  exact (congrArg (· ++ _) (e _ _ _ _)).trans (List.nil_append _)

theorem point_apply (q k v : ℕ → ℕ → ℝ) (B : ℕ → ℝ)
    (hB : ∀ h : Fin 8, x0 (ix1 h) = ((B h : ℝ) : EReal))
    (hq : ∀ (r : Fin 256) (e : Fin 512), x1 (ix2 r e) = ((q r e : ℝ) : EReal))
    (hk : ∀ (s : Fin 4096) (e : Fin 512), x2 (ix2 s e) = ((k s e : ℝ) : EReal))
    (hv : ∀ (s : Fin 4096) (e : Fin 512), x3 (ix2 s e) = ((v s e : ℝ) : EReal))
    (h : Fin 4) (r : Fin 256) (d : Fin 128) (e : Fin 512) (R : ℕ) (he : e.val = h.val * 128 + d.val)
    (hR : R = h.val * 256 + r.val) (n : ℕ) (hn : n = 2 * ((i 2).val + 1)) :
    out0_A_4 (F := Ideal) c i arg3 harg3 arg4 harg4 arg5 harg5 arg6 harg6 arg7 harg7 arg8 harg8 x0 x1 x2 x3 (ix2 r e)
      = ((∑ s ∈ Finset.Ico 0 (n * 128), weight (score q k (fun j => B (4 * (i 1).val + j)) R) ((i 2).val * 256 + r) (n * 128) s
          * v s e : ℝ) : EReal) := by
  have key := (loop_apply c i arg3 harg3 arg4 harg4 arg5 harg5 arg6 harg6 arg7 harg7 arg8 harg8
    kernelRun0_A.sl.v0 kernelRun0_A.sl.v1 (kernelRun0_A.sl.r_4 c arg4 harg4 x1) (kernelRun0_A.sl.r_5 c i arg3 harg3 x0)
    (harg5.unread x2) (harg6.unread x3) (arg7.view.writes (Elt Ideal) arg7.view.junk kernelRun0_A.sl.H4_1)
    (arg8.view.writes (Elt Ideal) arg8.view.junk kernelRun0_A.sl.HS0_1) 0#32 q k v (fun j => B (4 * (i 1).val + j))
    rowIota_apply colIota_apply (point_queries c arg4 harg4 x1 q hq) (point_biases c i arg3 harg3 x0 B hB)
    (fun s e => by rw [harg5.read_unread]; exact hk s e) (fun s e => by rw [harg6.read_unread]; exact hv s e)
    (fun r e => by unfold kernelRun0_A.sl.H4_1; rw [View.read_writes_full]; exact zeroRows_apply r e)
    (fun R => by
      unfold kernelRun0_A.sl.HS0_1
      exact (congrFun (View.read_writes_full arg8.view arg8.view.junk inb_S1024x1_S1024x1_0_0 _ []) _).trans (zeroCarry_apply R))
    n hn n (Nat.le_refl n)).2 h r d e R he hR
  rw [Nat.sub_self, Nat.zero_mul] at key
  rw [← key]
  have t1 : (k0_t1_loop i).trips = n := (trips_eq i).trans hn.symm
  unfold out0_A_4
  rw [View.read_writes_junk_eq_canon, ← View.read_writes_junk_eq_canon arg7.view, point_pieces, t1, View.writes_append]

end Point

end Cert.Stick
end
-- ==== Proof.Array.lean ====
/- The kernel's result array: at every row and column the attention's sum over the keys of the row's sequence. -/
module

public import proofs.«01_k».proof.Proof.Point
public import Idealize.ShloMosaic.Lib.Claim

@[expose] public section

set_option maxRecDepth 16384

noncomputable section

namespace Cert.Stick
open Idealize.ShloMosaic Idealize.ShloMosaic.TcCoe Idealize.SL.Sem Cert.KernelIdeal Cert.KernelIdeal.Gen

/-- The score of query row `row` against key `s` of its sequence, head `hd`. -/
def logit (X : ℕ → ℕ → ℝ) (B : ℕ → ℝ) (row hd s : ℕ) : ℝ :=
  (∑ d : Fin 128, X row (hd * 128 + d) * X (row / 4096 * 4096 + s) (1024 + hd * 128 + d)) * scale + B hd

/-- The attention's result at a row and a column. -/
def attend (X : ℕ → ℕ → ℝ) (B : ℕ → ℝ) (row col : ℕ) : ℝ :=
  ∑ s ∈ Finset.range 4096, weight (logit X B row (col / 128)) (row % 4096) 4096 s * X (row / 4096 * 4096 + s) (2048 + col)

theorem idx : ∀ t : Fin cfg0.N, win0_1.index t = ![(grid0.coords t 0).val * 16 + (grid0.coords t 2).val, (grid0.coords t 1).val]
    ∧ win0_2.index t = ![(grid0.coords t 0).val, 2 + (grid0.coords t 1).val]
    ∧ win0_3.index t = ![(grid0.coords t 0).val, 4 + (grid0.coords t 1).val]
    ∧ win0_4.index t = ![(grid0.coords t 0).val * 16 + (grid0.coords t 2).val, (grid0.coords t 1).val]
    ∧ win0_0.index t = ![0] :=
  (by decide +kernel : ∀ t : Fin grid0.N, _)

variable (m : (ℓ : Loc nD τ sig) → Buf (Elt Ideal) ℓ) (c : Dev nD) (X : ℕ → ℕ → ℝ) (B : ℕ → ℝ)
  (hX : ∀ (s : Fin 8704) (e : Fin 3072), m ((c : Thread nD τ).loc main_arg0) (ix2 s e) = ((X s e : ℝ) : EReal))
  (hB : ∀ h : Fin 8, m ((c : Thread nD τ).loc main_arg1) (ix2 0 h) = ((B h : ℝ) : EReal))
include hX hB

theorem block0 (t : Fin cfg0.N) (h : Fin 8) : iblk m c 0 t (ix1 h) = ((B h : ℝ) : EReal) := by
  rw [← hB]
  blk_simp [iblk, idx t]
  entry_read
  pointwise
  blk_ext [idx t]

theorem block1 (t : Fin cfg0.N) (r : Fin 256) (e : Fin 512) : iblk m c 1 t (ix2 r e)
    = ((X (((grid0.coords t 0).val * 16 + (grid0.coords t 2).val) * 256 + r) ((grid0.coords t 1).val * 512 + e) : ℝ) : EReal) := by
  have h0 : (grid0.coords t 0).val < 2 := (grid0.coords t 0).isLt
  have h1 : (grid0.coords t 1).val < 2 := (grid0.coords t 1).isLt
  have h2 : (grid0.coords t 2).val < 16 := (grid0.coords t 2).isLt
  rw [← hX ⟨((grid0.coords t 0).val * 16 + (grid0.coords t 2).val) * 256 + r, by omega⟩ ⟨(grid0.coords t 1).val * 512 + e, by omega⟩]
  blk_ext [iblk, V, idx t]

theorem block2 (t : Fin cfg0.N) (r : Fin 4096) (e : Fin 512) : X0_2 m c t (ix2 r e)
    = ((X ((grid0.coords t 0).val * 4096 + r) (1024 + (grid0.coords t 1).val * 512 + e) : ℝ) : EReal) := by
  have h0 : (grid0.coords t 0).val < 2 := (grid0.coords t 0).isLt
  have h1 : (grid0.coords t 1).val < 2 := (grid0.coords t 1).isLt
  rw [← hX ⟨(grid0.coords t 0).val * 4096 + r, by omega⟩ ⟨1024 + (grid0.coords t 1).val * 512 + e, by omega⟩]
  unfold X0_2 Pipeline.Window.fill
  rw [dif_pos (moved0_2 t _)]
  blk_ext [iblk, V, idx t]

theorem block3 (t : Fin cfg0.N) (r : Fin 4096) (e : Fin 512) : X0_3 m c t (ix2 r e)
    = ((X ((grid0.coords t 0).val * 4096 + r) (2048 + (grid0.coords t 1).val * 512 + e) : ℝ) : EReal) := by
  have h0 : (grid0.coords t 0).val < 2 := (grid0.coords t 0).isLt
  have h1 : (grid0.coords t 1).val < 2 := (grid0.coords t 1).isLt
  rw [← hX ⟨(grid0.coords t 0).val * 4096 + r, by omega⟩ ⟨2048 + (grid0.coords t 1).val * 512 + e, by omega⟩]
  unfold X0_3 Pipeline.Window.fill
  rw [dif_pos (moved0_3 t _)]
  blk_ext [iblk, V, idx t]

theorem stored (t : Fin cfg0.N) (r : Fin 256) (e : Fin 512) (y : S256x512.Idx) (hy : y = ix2 r e) : outsAt0 m c t y
    = ((attend X B (((grid0.coords t 0).val * 16 + (grid0.coords t 2).val) * 256 + r) ((grid0.coords t 1).val * 512 + e) : ℝ) : EReal) := by
  subst hy
  have h0 : (grid0.coords t 0).val < 2 := (grid0.coords t 0).isLt
  have h1 : (grid0.coords t 1).val < 2 := (grid0.coords t 1).isLt
  have h2 : (grid0.coords t 2).val < 16 := (grid0.coords t 2).isLt
  have hr := r.isLt
  have he := e.isLt
  generalize hi0 : (grid0.coords t 0).val = i0 at *
  generalize hi1 : (grid0.coords t 1).val = i1 at *
  generalize hi2 : (grid0.coords t 2).val = i2 at *
  unfold outsAt0
  rw [point_apply c (grid0.coords t) _ _ _ _ _ _ _ _ _ _ _ _ _ _ _ _ (fun r e => X ((i0 * 16 + i2) * 256 + r) (i1 * 512 + e))
    (fun s e => X (i0 * 4096 + s) (1024 + i1 * 512 + e)) (fun s e => X (i0 * 4096 + s) (2048 + i1 * 512 + e)) B
    (block0 m c X B hX hB t) (fun r e => by rw [block1 m c X B hX hB t, hi0, hi1, hi2])
    (fun r e => by rw [block2 m c X B hX hB t, hi0, hi1]) (fun r e => by rw [block3 m c X B hX hB t, hi0, hi1])
    ⟨e.val / 128, by omega⟩ r ⟨e.val % 128, by omega⟩ e (e.val / 128 * 256 + r.val)
    (by show e.val = e.val / 128 * 128 + e.val % 128; omega) rfl (2 * (i2 + 1)) (by rw [hi2])]
  rw [hi1, hi2]
  congr 1
  unfold attend
  rw [show ((i0 * 16 + i2) * 256 + r.val) % 4096 = i2 * 256 + r.val by omega,
    show ((i0 * 16 + i2) * 256 + r.val) / 4096 = i0 by omega,
    show (i1 * 512 + e.val) / 128 = 4 * i1 + e.val / 128 by omega,
    sum_weight_extend (v := fun s => X (i0 * 4096 + s) (2048 + (i1 * 512 + e.val))) (N := 2 * (i2 + 1) * 128) (by omega) (by omega)]
  have hz : score (fun r e => X ((i0 * 16 + i2) * 256 + r) (i1 * 512 + e)) (fun s e => X (i0 * 4096 + s) (1024 + i1 * 512 + e))
      (fun j => B (4 * i1 + j)) (e.val / 128 * 256 + r.val) = logit X B ((i0 * 16 + i2) * 256 + r.val) (4 * i1 + e.val / 128) := by
    funext s
    unfold score logit
    rw [show (e.val / 128 * 256 + r.val) % 256 = r.val by omega, show (e.val / 128 * 256 + r.val) / 256 = e.val / 128 by omega,
      show ((i0 * 16 + i2) * 256 + r.val) / 4096 = i0 by omega]
    congr 2
    refine Finset.sum_congr rfl fun d _ => ?_
    rw [show (4 * i1 + e.val / 128) * 128 + d.val = i1 * 512 + (e.val / 128 * 128 + d.val) by ring,
      show 1024 + (4 * i1 + e.val / 128) * 128 + d.val = 1024 + i1 * 512 + (e.val / 128 * 128 + d.val) by ring]
  rw [hz]
  exact Finset.sum_congr rfl fun s _ => by rw [← Nat.add_assoc]

theorem final : (dats m 0 c).arrAt 4 cfg0.N = fun y => ((attend X B (y 0).val (y 1).val : ℝ) : EReal) := by
  refine (dats m 0 c).arrAt_eq_of_covers 4 _ (by decide +kernel) fun t hf y => ?_
  blk_simp [idx t]
  rw [after0_4]
  have h0 : (grid0.coords t 0).val < 2 := (grid0.coords t 0).isLt
  have h1 : (grid0.coords t 1).val < 2 := (grid0.coords t 1).isLt
  have h2 : (grid0.coords t 2).val < 16 := (grid0.coords t 2).isLt
  exact stored m c X B hX hB t (y 0) (y 1) y (funext fun a => match a with | 0 => rfl | 1 => rfl)

end Cert.Stick
end
-- ==== Proof.Suffix.lean ====
/- A running sum from the end of the last axis, written as a window over that axis padded at the far end. -/
module

public import proofs.«01_k».proof.Proof.Spec
public import Idealize.ShloMosaic.Lib.Pointwise

@[expose] public section

set_option maxRecDepth 16384

noncomputable section

namespace Cert.Stick
open Idealize.ShloMosaic

/-- One window: the last axis whole, one place of every other. -/
abbrev Win (N : ℕ) : Shape := ⟨4, ![1, 1, 1, N]⟩

theorem win_numel (N : ℕ) : (Win N).numel = N := by
  show ∏ a : Fin 4, (![1, 1, 1, N] : Fin 4 → ℕ) a = N
  simp [Fin.prod_univ_four]

/-- The place `n` of a window: nothing along the first three axes, `n` along the last. -/
theorem win_symm {N : ℕ} (n : Fin (Win N).numel) :
    ((Win N).rowMajor.symm n 0).val = 0 ∧ ((Win N).rowMajor.symm n 1).val = 0 ∧ ((Win N).rowMajor.symm n 2).val = 0 ∧ ((Win N).rowMajor.symm n 3).val = n.val := by
  have h := Shape.rowMajor_val_four ((Win N).rowMajor.symm n)
  rw [Equiv.apply_symm_apply] at h
  have h0 : ((Win N).rowMajor.symm n 0).val < 1 := ((Win N).rowMajor.symm n 0).isLt
  have h1 : ((Win N).rowMajor.symm n 1).val < 1 := ((Win N).rowMajor.symm n 1).isLt
  have h2 : ((Win N).rowMajor.symm n 2).val < 1 := ((Win N).rowMajor.symm n 2).isLt
  have e : n.val = ((((Win N).rowMajor.symm n 0).val * 1 + ((Win N).rowMajor.symm n 1).val) * 1 + ((Win N).rowMajor.symm n 2).val) * N
      + ((Win N).rowMajor.symm n 3).val := h
  have z : ((((Win N).rowMajor.symm n 0).val * 1 + ((Win N).rowMajor.symm n 1).val) * 1 + ((Win N).rowMajor.symm n 2).val) = 0 := by omega
  rw [z, zero_mul, zero_add] at e
  omega

theorem foldl_add {ι : Type} (l : List ι) (f : ι → EReal) (g : ι → ℝ) (h : ∀ n ∈ l, f n = ((g n : ℝ) : EReal)) (a : ℝ) :
    l.foldl (fun r n => r + f n) ((a : ℝ) : EReal) = ((a + (l.map g).sum : ℝ) : EReal) := by
  induction l generalizing a with
  | nil => simp
  | cons n l ih =>
    rw [List.foldl_cons, h n List.mem_cons_self, ← EReal.coe_add, ih (fun k hk => h k (List.mem_cons_of_mem _ hk)), List.map_cons,
      List.sum_cons, add_assoc]

/-- The part of a window that lies inside the array. -/
theorem sum_inside {N : ℕ} (g : ℕ → ℝ) (s : ℕ) (hs : s < N) :
    ∑ n ∈ Finset.range N, (if s + n < N then g (s + n) else 0) = ∑ u ∈ Finset.Ico s N, g u := by
  rw [← Finset.sum_filter, Finset.sum_Ico_eq_sum_range]
  refine Finset.sum_congr (Finset.ext fun n => ?_) fun _ _ => rfl
  rw [Finset.mem_filter, Finset.mem_range, Finset.mem_range]
  omega

/-- A float sum over windows, over exact values, as the fold it is. -/
theorem reduceWindowAdd_fold {s t u : Shape} (window strides lo hi : Fin s.rank → ℕ) (x : FVec Ideal s .f32) (init : FVec Ideal u .f32)
    (h : s.ReduceWindows window strides lo hi t) (hu : 0 < u.numel) :
    Host.reduceWindowAdd window strides lo hi x init h hu
      = Host.reduceWindow (fun a b : EReal => a + b) window strides lo hi x (fun _ : (⟨0, ![]⟩ : Shape).Idx => init (Shape.Idx.first hu)) h (by decide) := rfl

theorem suffix {B H T N M : ℕ} (hM : M < N) (x : FVec Ideal ⟨4, ![B, H, T, N]⟩ .f32) (b : Fin B) (hd : Fin H) (t : Fin T) (g : ℕ → ℝ)
    (hx : ∀ u : Fin N, x (ix4 b hd t u) = ((g u.val : ℝ) : EReal)) (init : FVec Ideal ⟨0, ![]⟩ .f32) (hinit : ∀ i, init i = (0 : EReal))
    (h : (⟨4, ![B, H, T, N]⟩ : Shape).ReduceWindows (![1, 1, 1, N] : Fin 4 → ℕ) ![1, 1, 1, 1] ![0, 0, 0, 0] ![0, 0, 0, M] ⟨4, ![B, H, T, N]⟩)
    (hu : 0 < (⟨0, ![]⟩ : Shape).numel) (s : Fin N) :
    Host.reduceWindowAdd (![1, 1, 1, N] : Fin 4 → ℕ) ![1, 1, 1, 1] ![0, 0, 0, 0] ![0, 0, 0, M] x init h hu (ix4 b hd t s)
      = ((∑ u ∈ Finset.Ico s.val N, g u : ℝ) : EReal) := by
  rw [reduceWindowAdd_fold, hinit, ← EReal.coe_zero]
  unfold Host.reduceWindow
  refine (foldl_add _ _ (fun n : Fin (Win N).numel => if s.val + n.val < N then g (s.val + n.val) else 0) (fun n _ => ?_) 0).trans ?_
  · obtain ⟨w0, w1, w2, w3⟩ := win_symm n
    have hb := b.isLt
    have hh := hd.isLt
    have ht := t.isLt
    dsimp only
    split
    · next hin =>
      have h3 := hin 3
      change 0 ≤ s.val * 1 + ((Win N).rowMajor.symm n 3).val ∧ s.val * 1 + ((Win N).rowMajor.symm n 3).val - 0 < N at h3
      rw [w3] at h3
      rw [if_pos (by omega)]
      refine (congrArg x (funext fun a => Fin.ext ?_)).trans (hx ⟨s.val + n.val, by omega⟩)
      match a with
      | ⟨0, _⟩ =>
        show b.val * 1 + ((Win N).rowMajor.symm n 0).val - 0 = b.val
        omega
      | ⟨1, _⟩ =>
        show hd.val * 1 + ((Win N).rowMajor.symm n 1).val - 0 = hd.val
        omega
      | ⟨2, _⟩ =>
        show t.val * 1 + ((Win N).rowMajor.symm n 2).val - 0 = t.val
        omega
      | ⟨3, _⟩ =>
        show s.val * 1 + ((Win N).rowMajor.symm n 3).val - 0 = s.val + n.val
        omega
    · next hin =>
      rw [if_neg fun hle => hin fun a => by
        match a with
        | ⟨0, _⟩ =>
          show 0 ≤ b.val * 1 + ((Win N).rowMajor.symm n 0).val ∧ b.val * 1 + ((Win N).rowMajor.symm n 0).val - 0 < B
          omega
        | ⟨1, _⟩ =>
          show 0 ≤ hd.val * 1 + ((Win N).rowMajor.symm n 1).val ∧ hd.val * 1 + ((Win N).rowMajor.symm n 1).val - 0 < H
          omega
        | ⟨2, _⟩ =>
          show 0 ≤ t.val * 1 + ((Win N).rowMajor.symm n 2).val ∧ t.val * 1 + ((Win N).rowMajor.symm n 2).val - 0 < T
          omega
        | ⟨3, _⟩ =>
          show 0 ≤ s.val * 1 + ((Win N).rowMajor.symm n 3).val ∧ s.val * 1 + ((Win N).rowMajor.symm n 3).val - 0 < N
          omega]
  · rw [zero_add, ← List.ofFn_eq_map, List.sum_ofFn, ← sum_inside g s.val s.isLt,
      Fin.sum_univ_eq_sum_range (fun n => if s.val + n < N then g (s.val + n) else 0), win_numel N]

end Cert.Stick
-- ==== Proof.Reference.lean ====
/- The reference's result: the attention's sum at every row and column. -/
module

public import proofs.«01_k».proof.Proof.Array
public import proofs.«01_k».proof.Proof.Suffix
public import proofs.«01_k».proof.Proof.Gen.ReferenceIdeal.Read

@[expose] public section

set_option maxRecDepth 16384

noncomputable section

namespace Cert.Stick
open Idealize.ShloMosaic Cert.ReferenceIdeal Cert.ReferenceIdeal.Read

variable (x0 : (⟨S8704x3072, .f32⟩ : BufTy).Contents (Elt Ideal)) (x1 : (⟨S1x8, .f32⟩ : BufTy).Contents (Elt Ideal)) (X : ℕ → ℕ → ℝ) (B : ℕ → ℝ)

theorem ref_query (hX : ∀ i, x0 i = ((X (i 0).val (i 1).val : ℝ) : EReal)) (b : Fin 2) (t : Fin 4096) (h : Fin 8) (d : Fin 128) :
    val_main_v5 (F := Ideal) x0 (ix4 b t h d) = ((X (b.val * 4096 + t.val) (h.val * 128 + d.val) : ℝ) : EReal) := by
  rw [val_main_v5_apply, val_main_v2_apply, val_main_v1_apply, val_main_v0_apply, hX]
  refine congrArg Real.toEReal (congrArg₂ X ?_ ?_) <;> dsimp only [idx_main_v0, idx_main_v1, idx_main_v2, idx_main_v5] <;> simp [ix4] <;> omega

theorem ref_key (hX : ∀ i, x0 i = ((X (i 0).val (i 1).val : ℝ) : EReal)) (b : Fin 2) (t : Fin 4096) (h : Fin 8) (d : Fin 128) :
    val_main_v6 (F := Ideal) x0 (ix4 b t h d) = ((X (b.val * 4096 + t.val) (1024 + h.val * 128 + d.val) : ℝ) : EReal) := by
  rw [val_main_v6_apply, val_main_v3_apply, val_main_v1_apply, val_main_v0_apply, hX]
  refine congrArg Real.toEReal (congrArg₂ X ?_ ?_) <;> dsimp only [idx_main_v0, idx_main_v1, idx_main_v3, idx_main_v6] <;> simp [ix4] <;> omega

theorem ref_value (hX : ∀ i, x0 i = ((X (i 0).val (i 1).val : ℝ) : EReal)) (b : Fin 2) (t : Fin 4096) (h : Fin 8) (d : Fin 128) :
    val_main_v7 (F := Ideal) x0 (ix4 b t h d) = ((X (b.val * 4096 + t.val) (2048 + (h.val * 128 + d.val)) : ℝ) : EReal) := by
  rw [val_main_v7_apply, val_main_v4_apply, val_main_v1_apply, val_main_v0_apply, hX]
  refine congrArg Real.toEReal (congrArg₂ X ?_ ?_) <;> dsimp only [idx_main_v0, idx_main_v1, idx_main_v4, idx_main_v7] <;> simp [ix4] <;> omega

/-- The score of a query and a key. -/
theorem ref_score (hX : ∀ i, x0 i = ((X (i 0).val (i 1).val : ℝ) : EReal)) (hB : ∀ h : Fin 8, x1 (ix2 0 h) = ((B h.val : ℝ) : EReal))
    (b : Fin 2) (h : Fin 8) (t s : Fin 4096) :
    val_main_v14 (F := Ideal) x0 x1 (ix4 b h t s) = ((logit X B (b.val * 4096 + t.val) h.val s.val : ℝ) : EReal) := by
  have hdot : val_main_v9 (F := Ideal) x0 (ix4 b h t s)
      = ((∑ d : Fin 128, X (b.val * 4096 + t.val) (h.val * 128 + d.val) * X (b.val * 4096 + s.val) (1024 + h.val * 128 + d.val) : ℝ) : EReal) := by
    rw [val_main_v9_apply]
    refine (Finset.sum_congr rfl fun d _ => ?_).trans (sum_coe _ _)
    rw [show lidx_main_v9 (ix4 b h t s) d = ix4 b t h d from funext fun a => match a with | 0 => rfl | 1 => rfl | 2 => rfl | 3 => rfl,
      show ridx_main_v9 (ix4 b h t s) d = ix4 b s h d from funext fun a => match a with | 0 => rfl | 1 => rfl | 2 => rfl | 3 => rfl,
      ref_query x0 X hX, ref_key x0 X hX, EReal.coe_mul]
  have hbias : val_main_v13 (F := Ideal) x1 (ix4 b h t s) = ((B h.val : ℝ) : EReal) := by
    rw [val_main_v13_apply, val_main_v12_apply, val_main_v8_apply, ← hB]
    have hh := h.isLt
    refine congrArg x1 (funext fun a => match a with | 0 => rfl | 1 => Fin.ext ?_)
    exact Nat.mod_eq_of_lt hh
  rw [val_main_v14_apply, val_main_v11_apply, hdot, hbias, val_main_v10_apply, val_main_cst_apply]
  show _ * Ideal.ofBits .f32 0x3DB504F3#32 + _ = _
  rw [scale_coe, ← EReal.coe_mul, ← EReal.coe_add, logit, show (b.val * 4096 + t.val) / 4096 * 4096 = b.val * 4096 by omega]

theorem une_self (x : EReal) : Ideal.cmp .une x x = 0#1 := by simp [Ideal.cmp]

/-- The logarithm of the logistic function at `-w`, in the steps that compute it. -/
theorem log_logistic (w : ℝ) (u : EReal) :
    FloatOps.hostNegf (F := Ideal) (φ := .f32) (Scalar.select
        (FloatOps.cmpf (F := Ideal) (φ := .f32) CmpFPredicate.une (FloatOps.subf (F := Ideal) (φ := .f32) (w : EReal) (FloatOps.ofBits FTy.f32 0#32))
          (FloatOps.subf (F := Ideal) (φ := .f32) (w : EReal) (FloatOps.ofBits FTy.f32 0#32))) u
        (FloatOps.addf (F := Ideal) (φ := .f32) (FloatOps.maximumf (F := Ideal) (φ := .f32) (w : EReal) (FloatOps.ofBits FTy.f32 0#32))
          (FloatOps.hostUnary (F := Ideal) (φ := .f32) HostUnaryOp.log1p (FloatOps.hostUnary (F := Ideal) (φ := .f32) HostUnaryOp.exp
            (FloatOps.hostNegf (F := Ideal) (φ := .f32) (FloatOps.hostAbsf (F := Ideal) (φ := .f32)
              (FloatOps.subf (F := Ideal) (φ := .f32) (w : EReal) (FloatOps.ofBits FTy.f32 0#32))))))))
      = ((logKeep w : ℝ) : EReal) := by
  have e : (FloatOps.subf (F := Ideal) (φ := .f32) (w : EReal) (FloatOps.ofBits FTy.f32 0#32)) = (w : EReal) := by
    show (w : EReal) - Ideal.ofBits .f32 0#32 = _
    rw [Ideal.ofBits_zero_f32, sub_zero]
  rw [e]
  have hc : FloatOps.cmpf (F := Ideal) (φ := .f32) CmpFPredicate.une (w : EReal) (w : EReal) = 0#1 := une_self _
  rw [hc, ← logKeep_coe]
  show -(max (w : EReal) (Ideal.ofBits .f32 0#32) + Ideal.log1p (Ideal.exp (-(max (w : EReal) (-(w : EReal)))))) = _
  rw [Ideal.ofBits_zero_f32, zero_sub, zero_sub]

theorem logKeep_neg (z : ℝ) : logKeep (-z) = z + logKeep z := by
  have : max (-z) 0 = max z 0 - z := by
    rcases le_total z 0 with h | h
    · rw [max_eq_left (by linarith), max_eq_right h]; ring
    · rw [max_eq_right (by linarith), max_eq_left h]; ring
  unfold logKeep
  rw [abs_neg, this]
  ring

/-- The logarithm of the logistic function at minus the score. -/
theorem ref_logKeep (i : S2x8x4096x4096.Idx) (z : ℝ) (hz : val_main_v14 (F := Ideal) x0 x1 i = (z : EReal)) :
    val_main_v23 (F := Ideal) x0 x1 i = ((logKeep z : ℝ) : EReal) := by
  simp only [val_main_v23_apply, val_main_call0_v1_apply, val_main_call0_call0_v11_apply, val_main_call0_call0_v10_apply, val_main_call0_call0_v9_apply,
    val_main_call0_call0_v8_apply, val_main_call0_call0_v7_apply, val_main_call0_call0_v4_apply, val_main_call0_call0_v3_apply, val_main_call0_call0_v2_apply,
    val_main_call0_call0_v1_apply, val_main_call0_call0_v0_apply, val_main_call0_call0_cst_apply, val_main_call0_v0_apply, val_main_v22_apply, hz]
  rw [show FloatOps.hostNegf (F := Ideal) (φ := .f32) (FloatOps.hostNegf (F := Ideal) (φ := .f32) (z : EReal)) = (z : EReal) from neg_neg _]
  exact log_logistic z _

/-- The logarithm of the logistic function at the score. -/
theorem ref_logBreak (i : S2x8x4096x4096.Idx) (z : ℝ) (hz : val_main_v14 (F := Ideal) x0 x1 i = (z : EReal)) :
    val_main_v27 (F := Ideal) x0 x1 i = ((z + logKeep z : ℝ) : EReal) := by
  simp only [val_main_v27_apply, val_main_call3_v1_apply, val_main_call3_call0_v11_apply, val_main_call3_call0_v10_apply, val_main_call3_call0_v9_apply,
    val_main_call3_call0_v8_apply, val_main_call3_call0_v7_apply, val_main_call3_call0_v4_apply, val_main_call3_call0_v3_apply, val_main_call3_call0_v2_apply,
    val_main_call3_call0_v1_apply, val_main_call3_call0_v0_apply, val_main_call3_call0_cst_apply, val_main_call3_v0_apply, hz]
  rw [show FloatOps.hostNegf (F := Ideal) (φ := .f32) (z : EReal) = ((-z : ℝ) : EReal) from (EReal.coe_neg z).symm, ← logKeep_neg]
  exact log_logistic (-z) _

/-- Which keys a query sees: those before it. -/
theorem ref_mask (t s : Fin 4096) : val_main_v21 (F := Ideal) (ix2 t s) = BitVec.ofBool (decide (s.val < t.val)) := by
  rw [val_main_v21_apply, val_main_v19_apply, val_main_v17_apply, val_main_v16_apply, val_main_v20_apply, val_main_v18_apply, val_main_v15_apply]
  have hs := s.isLt
  have ht := t.isLt
  exact WordCmp.cmpi_slt_ofNat (a := s.val) (b := t.val) (by omega) (by omega)

theorem ref_keep (hX : ∀ i, x0 i = ((X (i 0).val (i 1).val : ℝ) : EReal)) (hB : ∀ h : Fin 8, x1 (ix2 0 h) = ((B h.val : ℝ) : EReal))
    (b : Fin 2) (h : Fin 8) (t s : Fin 4096) :
    val_main_v24 (F := Ideal) x0 x1 (ix4 b h t s) = ((keep (logit X B (b.val * 4096 + t.val) h.val) t.val s.val : ℝ) : EReal) := by
  rw [val_main_v24_apply, val_main_call1_v1_apply, val_main_call1_v2_apply, val_main_call1_v0_apply, val_main_cst_0_apply,
    ref_logKeep x0 x1 _ _ (ref_score x0 x1 X B hX hB b h t s),
    show idx_main_call1_v1 (ix4 b h t s) = ix2 t s from funext fun a => match a with | 0 => rfl | 1 => rfl, ref_mask]
  show Scalar.select _ _ (Ideal.ofBits .f32 0#32) = _
  by_cases hst : s.val < t.val <;> simp [hst, Scalar.select, keep, Ideal.ofBits_zero_f32]

theorem exp_step (a b c : ℝ) :
    FloatOps.hostUnary (F := Ideal) (φ := .f32) HostUnaryOp.exp (FloatOps.addf (F := Ideal) (φ := .f32) (a : EReal)
      (FloatOps.subf (F := Ideal) (φ := .f32) (b : EReal) (c : EReal))) = ((Real.exp (a + (b - c)) : ℝ) : EReal) := by
  show Ideal.exp ((a : EReal) + ((b : EReal) - (c : EReal))) = _
  rw [← EReal.coe_sub, ← EReal.coe_add, Ideal.exp_coe]

theorem ref_weight (hX : ∀ i, x0 i = ((X (i 0).val (i 1).val : ℝ) : EReal)) (hB : ∀ h : Fin 8, x1 (ix2 0 h) = ((B h.val : ℝ) : EReal))
    (b : Fin 2) (h : Fin 8) (t s : Fin 4096) :
    val_main_v30 (F := Ideal) x0 x1 (ix4 b h t s) = ((weight (logit X B (b.val * 4096 + t.val) h.val) t.val 4096 s.val : ℝ) : EReal) := by
  have hsum : val_main_v25 (F := Ideal) x0 x1 (ix4 b h t s)
      = ((∑ u ∈ Finset.Ico s.val 4096, keep (logit X B (b.val * 4096 + t.val) h.val) t.val u : ℝ) : EReal) := by
    unfold val_main_v25
    exact suffix (by omega) _ b h t _ (fun u => ref_keep x0 x1 X B hX hB b h t u) _ (fun i => by
      rw [val_main_call2_v0_apply]
      exact Ideal.ofBits_zero_f32) _ _ s
  have hs := s.isLt
  rw [val_main_v30_apply, val_main_call4_v1_apply, val_main_call4_v2_apply, val_main_call4_v0_apply, val_main_cst_1_apply, val_main_v29_apply,
    val_main_v28_apply, val_main_v26_apply, hsum, ref_keep x0 x1 X B hX hB, ref_logBreak x0 x1 _ _ (ref_score x0 x1 X B hX hB b h t s),
    show idx_main_call4_v1 (ix4 b h t s) = ix2 t s from funext fun a => match a with | 0 => rfl | 1 => rfl, ref_mask]
  rw [exp_step, Finset.sum_eq_sum_Ico_succ_bot hs]
  show Scalar.select _ _ (Ideal.ofBits .f32 0#32) = _
  by_cases hst : s.val < t.val
  · simp [hst, Scalar.select, weight, keep]
  · simp [hst, Scalar.select, weight, Ideal.ofBits_zero_f32]

/-- What the reference returns. -/
theorem reference_value (hX : ∀ i, x0 i = ((X (i 0).val (i 1).val : ℝ) : EReal)) (hB : ∀ h : Fin 8, x1 (ix2 0 h) = ((B h.val : ℝ) : EReal)) :
    val_main_v33 (F := Ideal) x0 x1 = fun y => ((attend X B (y 0).val (y 1).val : ℝ) : EReal) := by
  funext y
  have h0 : (y 0).val < 8192 := (y 0).isLt
  have h1 : (y 1).val < 1024 := (y 1).isLt
  have hp : idx_main_v32 (idx_main_v33 y) = ix4 (⟨(y 0).val / 4096, by omega⟩ : Fin 2) (⟨(y 1).val / 128, by omega⟩ : Fin 8)
      (⟨(y 1).val % 128, by omega⟩ : Fin 128) (⟨(y 0).val % 4096, by omega⟩ : Fin 4096) := by
    refine funext fun a => match a with
      | 0 => Fin.ext ?_
      | 1 => Fin.ext ?_
      | 2 => Fin.ext ?_
      | 3 => Fin.ext ?_
    · show ((y 0).val * 1024 + (y 1).val) / 4194304 = (y 0).val / 4096
      omega
    · show ((y 0).val * 1024 + (y 1).val) / 128 % 8 = (y 1).val / 128
      omega
    · show ((y 0).val * 1024 + (y 1).val) % 128 = (y 1).val % 128
      omega
    · show ((y 0).val * 1024 + (y 1).val) / 1024 % 4096 = (y 0).val % 4096
      omega
  rw [val_main_v33_apply, val_main_v32_apply, hp, val_main_v31_apply, attend, ← Fin.sum_univ_eq_sum_range
    (fun s => weight (logit X B (y 0).val ((y 1).val / 128)) ((y 0).val % 4096) 4096 s * X ((y 0).val / 4096 * 4096 + s) (2048 + (y 1).val)) 4096]
  refine (Finset.sum_congr rfl fun s _ => ?_).trans (sum_coe _ _)
  generalize hb : (⟨(y 0).val / 4096, by omega⟩ : Fin 2) = b
  generalize hh : (⟨(y 1).val / 128, by omega⟩ : Fin 8) = h
  generalize hd : (⟨(y 1).val % 128, by omega⟩ : Fin 128) = d
  generalize ht : (⟨(y 0).val % 4096, by omega⟩ : Fin 4096) = t
  rw [show lidx_main_v31 (ix4 b h d t) s = ix4 b s h d from funext fun a => match a with | 0 => rfl | 1 => rfl | 2 => rfl | 3 => rfl,
    show ridx_main_v31 (ix4 b h d t) s = ix4 b h t s from funext fun a => match a with | 0 => rfl | 1 => rfl | 2 => rfl | 3 => rfl,
    ref_value x0 X hX, ref_weight x0 x1 X B hX hB, ← EReal.coe_mul, mul_comm]
  subst hb hh hd ht
  have e0 : (y 0).val / 4096 * 4096 + (y 0).val % 4096 = (y 0).val := by omega
  have e1 : (y 1).val / 128 * 128 + (y 1).val % 128 = (y 1).val := by omega
  simp only [e0, e1]

end Cert.Stick
-- ==== Proof.Finite.lean ====
/- What the precondition gives: every argument is a real number. -/
module

public import proofs.«01_k».proof.Pre_finite
public import Idealize.ShloMosaic.PureOps.Ideal
public import Idealize.ShloMosaic.Lib.ReduceAll
public import Idealize.ShloMosaic.Lib.WordCmp

@[expose] public section

noncomputable section

namespace Cert.Stick
open Idealize.ShloMosaic

instance finiteFacts : Cert.Pre_finite.Facts where
  bcast_S_S8704x3072 := by decide
  reducesTo_S8704x3072_S_d0_1 := by decide
  h_S_ := by decide
  bcast_S_S1x8 := by decide
  reducesTo_S1x8_S_d0_1 := by decide

instance : Subsingleton (⟨0, ![]⟩ : Shape).Idx := ⟨fun a b => funext fun k => k.elim0⟩

theorem top_word : Ideal.ofBits .f32 0x7F800000#32 = (⊤ : EReal) := by
  simp [Ideal.ofBits, Ideal.ieee]

/-- A value whose magnitude is below infinity is a real number. -/
theorem real_of_abs_lt (a : EReal) (h : Ideal.cmp .olt (max a (-a)) (Ideal.ofBits .f32 0x7F800000#32) = 1#1) : a = ((a.toReal : ℝ) : EReal) := by
  rw [top_word] at h
  have h' : max a (-a) < ⊤ := by
    by_contra hn
    simp [Ideal.cmp, hn] at h
  rw [EReal.coe_toReal]
  · rintro rfl
    simp at h'
  · rintro rfl
    simp at h'

theorem one_of_and (a b : BitVec 1) (h : IntOp.andi a b = 1#1) : a = 1#1 ∧ b = 1#1 := by
  revert a b
  decide

theorem finite_args (A : FVec Ideal Cert.Pre_finite.S8704x3072 .f32) (C : FVec Ideal Cert.Pre_finite.S1x8 .f32)
    (h : Cert.Pre_finite.fn (F := Ideal) A C = fun _ => 1#1) :
    (∀ i, A i = (((A i : EReal).toReal : ℝ) : EReal)) ∧ (∀ i, C i = (((C i : EReal).toReal : ℝ) : EReal)) := by
  obtain ⟨h1, h2⟩ := one_of_and _ _ (congrFun h (fun k => k.elim0))
  exact ⟨fun i => real_of_abs_lt _ (Host.reduce_andi_all _ _ _ _ _ h1 i), fun i => real_of_abs_lt _ (Host.reduce_andi_all _ _ _ _ _ h2 i)⟩

end Cert.Stick
-- ==== Proof.Attention.lean ====
/- The claims about the attention, each as a theorem of its own. -/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Array
public import proofs.«01_k».proof.Proof.Reference
public import proofs.«01_k».proof.Proof.Finite

@[expose] public section

noncomputable section

namespace Cert.Stick
open Idealize.ShloMosaic Idealize.ShloMosaic.TcCoe Idealize.SL.Sem

/-- The kernel's frame over the float words. -/
theorem frame_kernel : Cert.quiescent_Kernel := fun m ρ _ => Cert.Kernel.Gen.frame m ρ

/-- The kernel's frame over the extended reals. -/
theorem frame_ideal : Cert.quiescent_KernelIdeal := fun m ρ _ => Cert.KernelIdeal.Gen.frame m ρ

/-- The reference's frame: it has no semaphore, and no operation writes an argument. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The real number at a place of the first argument. -/
def place (A : FVec Ideal Cert.Pre_finite.S8704x3072 .f32) (r c : ℕ) : ℝ :=
  if h : r < 8704 ∧ c < 3072 then (A (ix2 ⟨r, h.1⟩ ⟨c, h.2⟩) : EReal).toReal else 0

/-- The real number at a place of the second argument. -/
def offset (C : FVec Ideal Cert.Pre_finite.S1x8 .f32) (e : ℕ) : ℝ :=
  if h : e < 8 then (C (ix2 0 ⟨e, h⟩) : EReal).toReal else 0

theorem place_apply (A : FVec Ideal Cert.Pre_finite.S8704x3072 .f32) (hA : ∀ i, A i = (((A i : EReal).toReal : ℝ) : EReal))
    (r : Fin 8704) (c : Fin 3072) : A (ix2 r c) = ((place A r.val c.val : ℝ) : EReal) := by
  rw [place, dif_pos ⟨r.isLt, c.isLt⟩]
  exact hA _

theorem offset_apply (C : FVec Ideal Cert.Pre_finite.S1x8 .f32) (hC : ∀ i, C i = (((C i : EReal).toReal : ℝ) : EReal))
    (e : Fin 8) : C (ix2 0 e) = ((offset C e.val : ℝ) : EReal) := by
  rw [offset, dif_pos e.isLt]
  exact hC _

theorem index_two {a b : ℕ} (i : (⟨2, ![a, b]⟩ : Shape).Idx) : i = ix2 (i 0) (i 1) :=
  funext fun k => match k with | 0 => rfl | 1 => rfl

/-- Kernel and reference return the same attention. -/
theorem equal : Cert.algebraic_KernelIdeal_ReferenceIdeal_pre_finite := by
  intro m g m' g' hpre hag
  refine ⟨fun c => fun y => ((attend (place (m ((c : Thread Cert.KernelIdeal.nD Cert.KernelIdeal.τ).loc Cert.KernelIdeal.main_arg0)))
    (offset (m ((c : Thread Cert.KernelIdeal.nD Cert.KernelIdeal.τ).loc Cert.KernelIdeal.main_arg1))) (y 0).val (y 1).val : ℝ) : EReal), ?_, ?_⟩
  · refine (θ_run _ _ _).mono (fun r h c => ⟨(h c).1.trans ?_, (h c).2⟩) (Cert.KernelIdeal.Value.run_blocks m g)
    obtain ⟨hA, hC⟩ := finite_args _ _ (hpre c)
    exact final m c _ _ (place_apply _ hA) (offset_apply _ hC)
  · refine (θ_run _ _ _).mono (fun r h c => ⟨(h c).1.trans ?_, (h c).2⟩) (Cert.ReferenceIdeal.Value.run m' g')
    obtain ⟨hA, hC⟩ := finite_args _ _ (hpre c)
    rw [Cert.ReferenceIdeal.Read.val_main_v33_eq, (hag c).1, (hag c).2]
    refine reference_value _ _ _ _ (fun i => ?_) (offset_apply _ hC)
    rw [index_two i]
    exact place_apply _ hA _ _

end Cert.Stick
-- ==== Proof.Dense.lean ====
/- The mathematics of the layer's dense calls: a normalised row and a matrix product, over the extended reals and over
   indices that are natural numbers. -/
module

public import Idealize.ShloMosaic.Lib.Pointwise

@[expose] public section

noncomputable section

namespace Cert.Dense
open Idealize.ShloMosaic

/-- A row of `X` divided by the root of its mean square, times the gains `g`. -/
def norm (X : ℕ → ℕ → EReal) (g : ℕ → EReal) (r c : ℕ) : EReal :=
  X r c * Ideal.rsqrt (Ideal.div (∑ k : Fin 2048, X r k * X r k) (Ideal.ofBits .f32 0x45000000#32) + Ideal.ofBits .f32 0x358637BD#32) * g c

/-- The matrix product over `K` columns. -/
def dot (K : ℕ) (X W : ℕ → ℕ → EReal) (r c : ℕ) : EReal := ∑ k : Fin K, X r k * W k c

/-- An array read at natural numbers. -/
def read2 {m n : ℕ} (A : (⟨2, ![m, n]⟩ : Shape).Idx → EReal) (r c : ℕ) : EReal :=
  if h : r < m ∧ c < n then A (ix2 ⟨r, h.1⟩ ⟨c, h.2⟩) else 0

theorem read2_apply {m n : ℕ} (A : (⟨2, ![m, n]⟩ : Shape).Idx → EReal) (r : Fin m) (c : Fin n) : A (ix2 r c) = read2 A r c := by
  rw [read2, dif_pos ⟨r.isLt, c.isLt⟩]

/-- A vector read at natural numbers. -/
def read1 {n : ℕ} (A : (⟨1, ![n]⟩ : Shape).Idx → EReal) (c : ℕ) : EReal := if h : c < n then A (ix1 ⟨c, h⟩) else 0

theorem read1_apply {n : ℕ} (A : (⟨1, ![n]⟩ : Shape).Idx → EReal) (c : Fin n) : A (ix1 c) = read1 A c := by
  rw [read1, dif_pos c.isLt]

/-- A stack of matrices read at natural numbers. -/
def read3 {l m n : ℕ} (A : (⟨3, ![l, m, n]⟩ : Shape).Idx → EReal) (b r c : ℕ) : EReal :=
  if h : b < l ∧ r < m ∧ c < n then A (ix3 ⟨b, h.1⟩ ⟨r, h.2.1⟩ ⟨c, h.2.2⟩) else 0

theorem read3_apply {l m n : ℕ} (A : (⟨3, ![l, m, n]⟩ : Shape).Idx → EReal) (b : Fin l) (r : Fin m) (c : Fin n) :
    A (ix3 b r c) = read3 A b r c := by
  rw [read3, dif_pos ⟨b.isLt, r.isLt, c.isLt⟩]

theorem index_two {a b : ℕ} (i : (⟨2, ![a, b]⟩ : Shape).Idx) : i = ix2 (i 0) (i 1) :=
  funext fun k => match k with | 0 => rfl | 1 => rfl

/-- The reference's spelling of a normalised entry. -/
theorem norm_host (X : ℕ → ℕ → EReal) (G : ℕ → EReal) (r c : ℕ) (a g : Ideal .f32) (b : Fin 2048 → Ideal .f32)
    (ha : a = X r c) (hb : ∀ k : Fin 2048, b k = X r k) (hg : g = G c) :
    FloatOps.mulf (FloatOps.mulf a (FloatOps.hostUnary .rsqrt (FloatOps.addf (FloatOps.hostDivf
      (FloatOps.ofBits (F := Ideal) .f32 0x00000000#32 + ∑ k : Fin 2048, FloatOps.mulf (b k) (b k))
      (FloatOps.ofBits (F := Ideal) .f32 0x45000000#32)) (FloatOps.ofBits (F := Ideal) .f32 0x358637BD#32)))) g
      = norm X G r c := by
  obtain rfl : b = fun k : Fin 2048 => X r k := funext hb
  subst ha; subst hg
  rw [show FloatOps.ofBits (F := Ideal) .f32 0x00000000#32 + (∑ k : Fin 2048, FloatOps.mulf (F := Ideal) (φ := .f32) (X r k) (X r k))
    = ∑ k : Fin 2048, X r k * X r k from (congrArg (· + _) Ideal.ofBits_zero_f32).trans (zero_add _)]
  rfl

end Cert.Dense
end
-- ==== Proof.InputRegions.lean ====
/- The calls of the projections: what each leaves in its array, over the contents it is entered with. -/
module

public import proofs.«01_k».proof.Proof.Dense
public import proofs.«01_k».proof.Proof.Gen.InputIdeal.Frame
public import Idealize.ShloMosaic.Lib.Pipeline.ValueKit

@[expose] public section

set_option maxRecDepth 16384

noncomputable section

namespace Cert.Dense.Input
open Idealize.ShloMosaic Idealize.ShloMosaic.TcCoe Idealize.SL.Sem Cert.InputIdeal Cert.InputIdeal.Gen

/-! ## The normalisation -/

theorem payload0 (x : Vec Ideal S256x2048 .f32) (g : Vec Ideal S1x2048 .f32) (X : ℕ → ℕ → EReal) (G : ℕ → EReal) (r : Fin 256)
    (c : Fin 2048) (hx : ∀ c : Fin 2048, x (ix2 r c) = X r c) (hg : ∀ c : Fin 2048, g (ix2 0 c) = G c) :
    k0_pay1 x g (ix2 r c) = norm X G r c := by
  pointwise [k0_pay1]
  simp only [hx, hg]
  rfl

theorem out_eq0 (x : Vec Ideal S256x2048 .f32) (g : Vec Ideal S1x2048 .f32) : out0_2 x g = k0_pay1 x g := by
  unfold out0_2
  rw [View.canon_cons_unit_lit _ _ _ (by decide), View.ld_unit_lit _ x (by decide), View.ld_unit_lit _ g (by decide)]

theorem idx0 : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

variable (V : (c : Dev nD) → (b : Ref sig .tc) → Buf (Elt Ideal) ((c : Thread nD τ).loc b)) (c : Dev nD)

section
variable (X : ℕ → ℕ → EReal) (G : ℕ → EReal)
  (hX : ∀ (r : Fin 8704) (e : Fin 2048), V c main_v2 (ix2 r e) = X r e) (hG : ∀ e : Fin 2048, V c main_v4 (ix2 0 e) = G e)
include hX hG

theorem stored0 (t : Fin cfg0.N) (r : Fin 256) (e : Fin 2048) (y : S256x2048.Idx) (hy : y = ix2 r e) :
    k0_pay1 (iblk0 V c 0 t) (iblk0 V c 1 t) y = norm X G ((grid0.coords t 0).val * 256 + r) e := by
  subst hy
  have h0 : (grid0.coords t 0).val < 34 := (grid0.coords t 0).isLt
  rw [payload0 (iblk0 V c 0 t) (iblk0 V c 1 t) (fun r e => X ((grid0.coords t 0).val * 256 + r) e) G r e
    (fun e => ?_) (fun e => ?_)]
  · rfl
  · rw [← hX ⟨(grid0.coords t 0).val * 256 + r, by omega⟩ e]
    blk_ext [iblk0, idx0 t]
  · rw [← hG e]
    blk_ext [iblk0, idx0 t]

theorem array0 : (dat0 V c).arrAt 2 cfg0.N = fun y => norm X G (y 0).val (y 1).val := by
  refine (dat0 V c).arrAt_eq_of_covers 2 _ (by decide +kernel) fun t hf y => ?_
  blk_simp [idx0 t]
  rw [after0_2, out_eq0]
  exact stored0 V c X G hX hG t (y 0) (y 1) y (funext fun a => match a with | 0 => rfl | 1 => rfl)

end

/-! ## The product with the weights of queries, keys and values -/

theorem payload1 (x : Vec Ideal S512x2048 .bf16) (w : Vec Ideal S2048x1024 .bf16) (X W : ℕ → ℕ → EReal) (r : Fin 512)
    (c : Fin 1024) (hx : ∀ c : Fin 2048, x (ix2 r c) = X r c) (hw : ∀ e : Fin 2048, w (ix2 e c) = W e c) :
    k1_pay1 x w (ix2 r c) = dot 2048 X W r c := by
  pointwise [k1_pay1]
  simp only [hx, hw]
  rfl

theorem out_eq1 (x : Vec Ideal S512x2048 .bf16) (w : Vec Ideal S2048x1024 .bf16) : out1_2 x w = k1_pay1 x w := by
  unfold out1_2
  rw [View.canon_cons_unit_lit _ _ _ (by decide), View.ld_unit_lit _ x (by decide), View.ld_unit_lit _ w (by decide)]

theorem idx1 : ∀ t : Fin cfg1.N, win1_0.index t = ![(grid1.coords t 0).val, 0] ∧ win1_1.index t = ![0, (grid1.coords t 1).val]
    ∧ win1_2.index t = ![(grid1.coords t 0).val, (grid1.coords t 1).val] :=
  (by decide +kernel : ∀ t : Fin grid1.N, _)

section
variable (X W : ℕ → ℕ → EReal)
  (hX : ∀ (r : Fin 8704) (e : Fin 2048), V c main_v5 (ix2 r e) = X r e)
  (hW : ∀ (e : Fin 2048) (j : Fin 3072), V c main_v8 (ix2 e j) = W e j)
include hX hW

theorem stored1 (t : Fin cfg1.N) (r : Fin 512) (e : Fin 1024) (y : S512x1024.Idx) (hy : y = ix2 r e) :
    k1_pay1 (iblk1 V c 0 t) (iblk1 V c 1 t) y
      = dot 2048 X W ((grid1.coords t 0).val * 512 + r) ((grid1.coords t 1).val * 1024 + e) := by
  subst hy
  have h0 : (grid1.coords t 0).val < 17 := (grid1.coords t 0).isLt
  have h1 : (grid1.coords t 1).val < 3 := (grid1.coords t 1).isLt
  rw [payload1 (iblk1 V c 0 t) (iblk1 V c 1 t) (fun r e => X ((grid1.coords t 0).val * 512 + r) e)
    (fun e j => W e ((grid1.coords t 1).val * 1024 + j)) r e (fun e => ?_) (fun s => ?_)]
  · rfl
  · rw [← hX ⟨(grid1.coords t 0).val * 512 + r, by omega⟩ e]
    blk_ext [iblk1, idx1 t]
  · rw [← hW s ⟨(grid1.coords t 1).val * 1024 + e, by omega⟩]
    blk_ext [iblk1, idx1 t]

theorem array1 : (dat1 V c).arrAt 2 cfg1.N = fun y => dot 2048 X W (y 0).val (y 1).val := by
  refine (dat1 V c).arrAt_eq_of_covers 2 _ (by decide +kernel) fun t hf y => ?_
  blk_simp [idx1 t]
  rw [after1_2, out_eq1]
  exact stored1 V c X W hX hW t (y 0) (y 1) y (funext fun a => match a with | 0 => rfl | 1 => rfl)

end

/-! ## The product with the weights of the recurrence -/

theorem payload2 (x : Vec Ideal S512x2048 .bf16) (w : Vec Ideal S2048x1024 .bf16) (X W : ℕ → ℕ → EReal) (r : Fin 512)
    (c : Fin 1024) (hx : ∀ c : Fin 2048, x (ix2 r c) = X r c) (hw : ∀ e : Fin 2048, w (ix2 e c) = W e c) :
    k2_pay1 x w (ix2 r c) = dot 2048 X W r c := by
  pointwise [k2_pay1]
  simp only [hx, hw]
  rfl

theorem out_eq2 (x : Vec Ideal S512x2048 .bf16) (w : Vec Ideal S2048x1024 .bf16) : out2_2 x w = k2_pay1 x w := by
  unfold out2_2
  rw [View.canon_cons_unit_lit _ _ _ (by decide), View.ld_unit_lit _ x (by decide), View.ld_unit_lit _ w (by decide)]

theorem idx2 : ∀ t : Fin cfg2.N, win2_0.index t = ![(grid2.coords t 0).val, 0] ∧ win2_1.index t = ![0, (grid2.coords t 1).val]
    ∧ win2_2.index t = ![(grid2.coords t 0).val, (grid2.coords t 1).val] :=
  (by decide +kernel : ∀ t : Fin grid2.N, _)

section
variable (X W : ℕ → ℕ → EReal)
  (hX : ∀ (r : Fin 8704) (e : Fin 2048), V c main_v5 (ix2 r e) = X r e)
  (hW : ∀ (e : Fin 2048) (j : Fin 3072), V c main_v10 (ix2 e j) = W e j)
include hX hW

theorem stored2 (t : Fin cfg2.N) (r : Fin 512) (e : Fin 1024) (y : S512x1024.Idx) (hy : y = ix2 r e) :
    k2_pay1 (iblk2 V c 0 t) (iblk2 V c 1 t) y
      = dot 2048 X W ((grid2.coords t 0).val * 512 + r) ((grid2.coords t 1).val * 1024 + e) := by
  subst hy
  have h0 : (grid2.coords t 0).val < 17 := (grid2.coords t 0).isLt
  have h1 : (grid2.coords t 1).val < 3 := (grid2.coords t 1).isLt
  rw [payload2 (iblk2 V c 0 t) (iblk2 V c 1 t) (fun r e => X ((grid2.coords t 0).val * 512 + r) e)
    (fun e j => W e ((grid2.coords t 1).val * 1024 + j)) r e (fun e => ?_) (fun s => ?_)]
  · rfl
  · rw [← hX ⟨(grid2.coords t 0).val * 512 + r, by omega⟩ e]
    blk_ext [iblk2, idx2 t]
  · rw [← hW s ⟨(grid2.coords t 1).val * 1024 + e, by omega⟩]
    blk_ext [iblk2, idx2 t]

theorem array2 : (dat2 V c).arrAt 2 cfg2.N = fun y => dot 2048 X W (y 0).val (y 1).val := by
  refine (dat2 V c).arrAt_eq_of_covers 2 _ (by decide +kernel) fun t hf y => ?_
  blk_simp [idx2 t]
  rw [after2_2, out_eq2]
  exact stored2 V c X W hX hW t (y 0) (y 1) y (funext fun a => match a with | 0 => rfl | 1 => rfl)

end

/-! ## The product with the weights of the low-rank maps -/

theorem payload3 (x : Vec Ideal S512x2048 .bf16) (w : Vec Ideal S2048x288 .bf16) (X W : ℕ → ℕ → EReal) (r : Fin 512)
    (c : Fin 288) (hx : ∀ c : Fin 2048, x (ix2 r c) = X r c) (hw : ∀ e : Fin 2048, w (ix2 e c) = W e c) :
    k3_pay1 x w (ix2 r c) = dot 2048 X W r c := by
  pointwise [k3_pay1]
  simp only [hx, hw]
  rfl

theorem out_eq3 (x : Vec Ideal S512x2048 .bf16) (w : Vec Ideal S2048x288 .bf16) : out3_2 x w = k3_pay1 x w := by
  unfold out3_2
  rw [View.canon_cons_unit_lit _ _ _ (by decide), View.ld_unit_lit _ x (by decide), View.ld_unit_lit _ w (by decide)]

theorem idx3 : ∀ t : Fin cfg3.N, win3_0.index t = ![(grid3.coords t 0).val, 0] ∧ win3_1.index t = ![0, 0]
    ∧ win3_2.index t = ![(grid3.coords t 0).val, 0] :=
  (by decide +kernel : ∀ t : Fin grid3.N, _)

section
variable (X W : ℕ → ℕ → EReal)
  (hX : ∀ (r : Fin 8704) (e : Fin 2048), V c main_v5 (ix2 r e) = X r e)
  (hW : ∀ (e : Fin 2048) (j : Fin 288), V c main_v12 (ix2 e j) = W e j)
include hX hW

theorem stored3 (t : Fin cfg3.N) (r : Fin 512) (e : Fin 288) (y : S512x288.Idx) (hy : y = ix2 r e) :
    k3_pay1 (iblk3 V c 0 t) (iblk3 V c 1 t) y
      = dot 2048 X W ((grid3.coords t 0).val * 512 + r) e := by
  subst hy
  have h0 : (grid3.coords t 0).val < 17 := (grid3.coords t 0).isLt
  rw [payload3 (iblk3 V c 0 t) (iblk3 V c 1 t) (fun r e => X ((grid3.coords t 0).val * 512 + r) e)
    (fun e j => W e (j)) r e (fun e => ?_) (fun s => ?_)]
  · rfl
  · rw [← hX ⟨(grid3.coords t 0).val * 512 + r, by omega⟩ e]
    blk_ext [iblk3, idx3 t]
  · rw [← hW s e]
    blk_ext [iblk3, idx3 t]

theorem array3 : (dat3 V c).arrAt 2 cfg3.N = fun y => dot 2048 X W (y 0).val (y 1).val := by
  refine (dat3 V c).arrAt_eq_of_covers 2 _ (by decide +kernel) fun t hf y => ?_
  blk_simp [idx3 t]
  rw [after3_2, out_eq3]
  exact stored3 V c X W hX hW t (y 0) (y 1) y (funext fun a => match a with | 0 => rfl | 1 => rfl)

end

/-! ## The product with the weights of the gates -/

theorem payload4 (x : Vec Ideal S512x2048 .bf16) (w : Vec Ideal S2048x1024 .bf16) (X W : ℕ → ℕ → EReal) (r : Fin 512)
    (c : Fin 1024) (hx : ∀ c : Fin 2048, x (ix2 r c) = X r c) (hw : ∀ e : Fin 2048, w (ix2 e c) = W e c) :
    k4_pay1 x w (ix2 r c) = dot 2048 X W r c := by
  pointwise [k4_pay1]
  simp only [hx, hw]
  rfl

theorem out_eq4 (x : Vec Ideal S512x2048 .bf16) (w : Vec Ideal S2048x1024 .bf16) : out4_2 x w = k4_pay1 x w := by
  unfold out4_2
  rw [View.canon_cons_unit_lit _ _ _ (by decide), View.ld_unit_lit _ x (by decide), View.ld_unit_lit _ w (by decide)]

theorem idx4 : ∀ t : Fin cfg4.N, win4_0.index t = ![(grid4.coords t 0).val, 0] ∧ win4_1.index t = ![0, (grid4.coords t 1).val]
    ∧ win4_2.index t = ![(grid4.coords t 0).val, (grid4.coords t 1).val] :=
  (by decide +kernel : ∀ t : Fin grid4.N, _)

section
variable (X W : ℕ → ℕ → EReal)
  (hX : ∀ (r : Fin 8704) (e : Fin 2048), V c main_v5 (ix2 r e) = X r e)
  (hW : ∀ (e : Fin 2048) (j : Fin 4096), V c main_v14 (ix2 e j) = W e j)
include hX hW

theorem stored4 (t : Fin cfg4.N) (r : Fin 512) (e : Fin 1024) (y : S512x1024.Idx) (hy : y = ix2 r e) :
    k4_pay1 (iblk4 V c 0 t) (iblk4 V c 1 t) y
      = dot 2048 X W ((grid4.coords t 0).val * 512 + r) ((grid4.coords t 1).val * 1024 + e) := by
  subst hy
  have h0 : (grid4.coords t 0).val < 17 := (grid4.coords t 0).isLt
  have h1 : (grid4.coords t 1).val < 4 := (grid4.coords t 1).isLt
  rw [payload4 (iblk4 V c 0 t) (iblk4 V c 1 t) (fun r e => X ((grid4.coords t 0).val * 512 + r) e)
    (fun e j => W e ((grid4.coords t 1).val * 1024 + j)) r e (fun e => ?_) (fun s => ?_)]
  · rfl
  · rw [← hX ⟨(grid4.coords t 0).val * 512 + r, by omega⟩ e]
    blk_ext [iblk4, idx4 t]
  · rw [← hW s ⟨(grid4.coords t 1).val * 1024 + e, by omega⟩]
    blk_ext [iblk4, idx4 t]

theorem array4 : (dat4 V c).arrAt 2 cfg4.N = fun y => dot 2048 X W (y 0).val (y 1).val := by
  refine (dat4 V c).arrAt_eq_of_covers 2 _ (by decide +kernel) fun t hf y => ?_
  blk_simp [idx4 t]
  rw [after4_2, out_eq4]
  exact stored4 V c X W hX hW t (y 0) (y 1) y (funext fun a => match a with | 0 => rfl | 1 => rfl)

end

end Cert.Dense.Input
end
-- ==== Proof.InputRun.lean ====
/- The run of the projections: every buffer that is not a call's own ends at the last boundary's contents. -/
module

public import proofs.«01_k».proof.Proof.Gen.InputIdeal.Frame

@[expose] public section

set_option maxRecDepth 16384

noncomputable section

namespace Cert.Dense.Input
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InputIdeal Cert.InputIdeal.Gen

variable {F : FTy → Type} [FloatOps F] (m : (ℓ : Loc nD τ sig) → Buf (Elt F) ℓ) (ρ : Dev nD → PrngReg)

set_option backward.isDefEq.respectTransparency.types false in
/-- The launch over the generated segments, its final state read at every buffer. -/
theorem run : θ_run defs (onTc (τ := τ) (main (F := F))) ⟨m, fun _ => 0, ρ⟩ (fun r => ∀ c : Dev nD,
    ∀ b ∈ Pipeline.ucRefs τ sig, r.2.mem ((c : Thread nD τ).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Cert.Dense.Input
end
-- ==== Proof.Input.lean ====
/- The projections: kernel and reference give the same rows. -/
module

public import proofs.«01_k».proof.Defs
public import proofs.«01_k».proof.Proof.Dense
public import proofs.«01_k».proof.Proof.InputRegions
public import proofs.«01_k».proof.Proof.InputRun
public import proofs.«01_k».proof.Proof.Gen.Input.Frame
public import proofs.«01_k».proof.Proof.Gen.InputRefIdeal.Read
public import Idealize.ShloMosaic.Lib.Pipeline.ValueKit
public import Idealize.ShloMosaic.Lib.StableHlo.ReadAt
public import Idealize.ShloMosaic.Lib.Claim

@[expose] public section

set_option maxRecDepth 16384

noncomputable section

namespace Cert.Dense.Input
open Idealize.ShloMosaic Idealize.ShloMosaic.TcCoe Idealize.SL.Sem Cert.InputIdeal Cert.InputIdeal.Gen

section
variable (m : (ℓ : Loc nD τ sig) → Buf (Elt Ideal) ℓ) (ρ : Dev nD → PrngReg) (c : Dev nD)

/-- The rows of both inputs, one under the other. -/
def rows (r e : ℕ) : EReal := read2 (Cert.InputRefIdeal.Read.val_main_v2 (F := Ideal) (m ((c : Thread nD τ).loc main_arg0))
  (m ((c : Thread nD τ).loc main_arg1))) r e

/-- The normalised rows. -/
def normed (r e : ℕ) : EReal := norm (rows m c) (fun e => read2 (m ((c : Thread nD τ).loc main_arg2)) 0 e) r e

/-- The weights from column `o` on. -/
def weights (o k j : ℕ) : EReal := read3 (m ((c : Thread nD τ).loc main_arg3)) 0 k (o + j)

theorem entry_rows (r : Fin 8704) (e : Fin 2048) : V1 m ρ c main_v2 (ix2 r e) = rows m c r e := by
  rw [rows, ← read2_apply]
  refine congrFun ?_ _
  after_reads_simp
  rfl

theorem entry_gains (e : Fin 2048) : V1 m ρ c main_v4 (ix2 0 e) = read2 (m ((c : Thread nD τ).loc main_arg2)) 0 e := by
  rw [show read2 (m ((c : Thread nD τ).loc main_arg2)) 0 e = m ((c : Thread nD τ).loc main_arg2) (ix2 0 e) from (read2_apply _ 0 e).symm]
  after_reads_at

theorem entry_normed (r : Fin 8704) (e : Fin 2048) : V3 m ρ c main_v5 (ix2 r e) = normed m c r e := by
  have h : V3 m ρ c main_v5 = (dat0 (V1 m ρ) c).arrAt 2 cfg0.N :=
    (W3_of m ρ c main_v5 (by decide)).trans (W2_arr m ρ c 2)
  rw [h, array0 (V1 m ρ) c _ _ (entry_rows m ρ c) (entry_gains m ρ c)]
  rfl

theorem entry_arg3 : W2 m ρ c (Proc.devRef .tc main_arg3) = m ((c : Thread nD τ).loc main_arg3) := W2_args m ρ c main_arg3 (by decide)

theorem entry_weights1 (k : Fin 2048) (j : Fin 3072) : V3 m ρ c main_v8 (ix2 k j) = weights m c 0 k j := by
  have hj : 0 + j.val < 10528 := by omega
  rw [weights, show read3 (m ((c : Thread nD τ).loc main_arg3)) 0 k (0 + j) = m ((c : Thread nD τ).loc main_arg3) (ix3 0 k ⟨0 + j, hj⟩) from
    (read3_apply _ 0 k ⟨0 + j, hj⟩).symm, ← entry_arg3 m ρ c]
  after_reads_at

theorem entry_weights2 (k : Fin 2048) (j : Fin 3072) : V3 m ρ c main_v10 (ix2 k j) = weights m c 3072 k j := by
  have hj : 3072 + j.val < 10528 := by omega
  rw [weights, show read3 (m ((c : Thread nD τ).loc main_arg3)) 0 k (3072 + j) = m ((c : Thread nD τ).loc main_arg3) (ix3 0 k ⟨3072 + j, hj⟩) from
    (read3_apply _ 0 k ⟨3072 + j, hj⟩).symm, ← entry_arg3 m ρ c]
  after_reads_at

theorem entry_weights3 (k : Fin 2048) (j : Fin 288) : V3 m ρ c main_v12 (ix2 k j) = weights m c 6144 k j := by
  have hj : 6144 + j.val < 10528 := by omega
  rw [weights, show read3 (m ((c : Thread nD τ).loc main_arg3)) 0 k (6144 + j) = m ((c : Thread nD τ).loc main_arg3) (ix3 0 k ⟨6144 + j, hj⟩) from
    (read3_apply _ 0 k ⟨6144 + j, hj⟩).symm, ← entry_arg3 m ρ c]
  after_reads_at

theorem entry_weights4 (k : Fin 2048) (j : Fin 4096) : V3 m ρ c main_v14 (ix2 k j) = weights m c 6432 k j := by
  have hj : 6432 + j.val < 10528 := by omega
  rw [weights, show read3 (m ((c : Thread nD τ).loc main_arg3)) 0 k (6432 + j) = m ((c : Thread nD τ).loc main_arg3) (ix3 0 k ⟨6432 + j, hj⟩) from
    (read3_apply _ 0 k ⟨6432 + j, hj⟩).symm, ← entry_arg3 m ρ c]
  after_reads_at

/-- The columns from 0 on. -/
theorem result1 : W7 m ρ c (Proc.devRef .tc main_v15) = fun y => dot 2048 (normed m c) (weights m c 0) (y 0).val (y 1).val := by
  have hx (r : Fin 8704) (e : Fin 2048) : V3 m ρ c main_v5 (ix2 r e) = normed m c r e :=
    (congrFun (rfl : V3 m ρ c main_v5 = _) (ix2 r e)).trans (entry_normed m ρ c r e)
  have hw (k : Fin 2048) (j : Fin 3072) : V3 m ρ c main_v8 (ix2 k j) = weights m c 0 k j :=
    (congrFun (rfl : V3 m ρ c main_v8 = _) (ix2 k j)).trans (entry_weights1 m ρ c k j)
  have h : W7 m ρ c (Proc.devRef .tc main_v15) = (dat1 (V3 m ρ) c).arrAt 2 cfg1.N :=
    ((((W7_of m ρ c main_v15 (by decide)).trans (W6_of m ρ c main_v15 (by decide))).trans (W5_of m ρ c main_v15 (by decide)))).trans (W4_arr m ρ c 2)
  rw [h, array1 (V3 m ρ) c _ _ hx hw]

/-- The columns from 3072 on. -/
theorem result2 : W7 m ρ c (Proc.devRef .tc main_v16) = fun y => dot 2048 (normed m c) (weights m c 3072) (y 0).val (y 1).val := by
  have hx (r : Fin 8704) (e : Fin 2048) : V4 m ρ c main_v5 (ix2 r e) = normed m c r e :=
    (congrFun (W4_of m ρ c main_v5 (by decide)) (ix2 r e)).trans (entry_normed m ρ c r e)
  have hw (k : Fin 2048) (j : Fin 3072) : V4 m ρ c main_v10 (ix2 k j) = weights m c 3072 k j :=
    (congrFun (W4_of m ρ c main_v10 (by decide)) (ix2 k j)).trans (entry_weights2 m ρ c k j)
  have h : W7 m ρ c (Proc.devRef .tc main_v16) = (dat2 (V4 m ρ) c).arrAt 2 cfg2.N :=
    (((W7_of m ρ c main_v16 (by decide)).trans (W6_of m ρ c main_v16 (by decide)))).trans (W5_arr m ρ c 2)
  rw [h, array2 (V4 m ρ) c _ _ hx hw]

/-- The columns from 6144 on. -/
theorem result3 : W7 m ρ c (Proc.devRef .tc main_v17) = fun y => dot 2048 (normed m c) (weights m c 6144) (y 0).val (y 1).val := by
  have hx (r : Fin 8704) (e : Fin 2048) : V5 m ρ c main_v5 (ix2 r e) = normed m c r e :=
    (congrFun ((W5_of m ρ c main_v5 (by decide)).trans (W4_of m ρ c main_v5 (by decide))) (ix2 r e)).trans (entry_normed m ρ c r e)
  have hw (k : Fin 2048) (j : Fin 288) : V5 m ρ c main_v12 (ix2 k j) = weights m c 6144 k j :=
    (congrFun ((W5_of m ρ c main_v12 (by decide)).trans (W4_of m ρ c main_v12 (by decide))) (ix2 k j)).trans (entry_weights3 m ρ c k j)
  have h : W7 m ρ c (Proc.devRef .tc main_v17) = (dat3 (V5 m ρ) c).arrAt 2 cfg3.N :=
    ((W7_of m ρ c main_v17 (by decide))).trans (W6_arr m ρ c 2)
  rw [h, array3 (V5 m ρ) c _ _ hx hw]

/-- The columns from 6432 on. -/
theorem result4 : W7 m ρ c (Proc.devRef .tc main_v18) = fun y => dot 2048 (normed m c) (weights m c 6432) (y 0).val (y 1).val := by
  have hx (r : Fin 8704) (e : Fin 2048) : V6 m ρ c main_v5 (ix2 r e) = normed m c r e :=
    (congrFun (((W6_of m ρ c main_v5 (by decide)).trans (W5_of m ρ c main_v5 (by decide))).trans (W4_of m ρ c main_v5 (by decide))) (ix2 r e)).trans (entry_normed m ρ c r e)
  have hw (k : Fin 2048) (j : Fin 4096) : V6 m ρ c main_v14 (ix2 k j) = weights m c 6432 k j :=
    (congrFun (((W6_of m ρ c main_v14 (by decide)).trans (W5_of m ρ c main_v14 (by decide))).trans (W4_of m ρ c main_v14 (by decide))) (ix2 k j)).trans (entry_weights4 m ρ c k j)
  have h : W7 m ρ c (Proc.devRef .tc main_v18) = (dat4 (V6 m ρ) c).arrAt 2 cfg4.N :=
    (W7_arr m ρ c 2)
  rw [h, array4 (V6 m ρ) c _ _ hx hw]

end

theorem frame_word : Cert.quiescent_Input := fun m ρ _ => Cert.Input.Gen.frame m ρ

theorem frame_ideal : Cert.quiescent_InputIdeal := fun m ρ _ => Cert.InputIdeal.Gen.frame m ρ

theorem frame_reference : Cert.quiescent_InputRefIdeal := fun m ρ _ =>
  (θ_run Cert.InputRefIdeal.defs _ _).mono (fun r h => ⟨fun c => (h c).2.2.2.2, sem_eq_zero_of_no_sems (by decide) r.2⟩)
    (Cert.InputRefIdeal.Value.run (F := Ideal) m ρ)

section
open Cert.InputRefIdeal.Read
variable (A : FVec Ideal S2x4096x2048 .f32) (B : FVec Ideal S128x4x2048 .f32) (G : FVec Ideal S1x2048 .f32)
  (W : FVec Ideal S1x2048x10528 .f32)

theorem reference_normed (r : Fin 8704) (e : Fin 2048) :
    val_main_v16 (F := Ideal) A B G (ix2 r e) = norm (read2 (val_main_v2 (F := Ideal) A B)) (fun e => read2 G 0 e) r e := by
  rw [val_main_v16_apply, val_main_v13_apply, val_main_v12_apply, val_main_v11_apply, val_main_v10_apply, val_main_v8_apply,
    val_main_v9_apply, val_main_v6_apply, val_main_v7_apply, val_main_v5_apply, val_main_v15_apply, val_main_v14_apply,
    val_main_v3_apply]
  simp only [val_main_v4_apply, val_main_cst_apply, val_main_cst_0_apply, val_main_cst_1_apply]
  refine norm_host (read2 (val_main_v2 (F := Ideal) A B)) (fun e => read2 G 0 e) r e _ _ _ (read2_apply _ r e) (fun k => ?_) ?_
  · rw [← read2_apply]
    exact congrArg (val_main_v2 (F := Ideal) A B) (funext fun a => match a with | 0 => rfl | 1 => rfl)
  · refine Eq.trans ?_ (read2_apply G 0 e)
    exact congrArg G (funext fun a => match a with | 0 => rfl | 1 => Fin.ext (Nat.mod_eq_of_lt e.isLt))

theorem reference_apply (r : Fin 8704) (j : Fin 10528) : val_main_v18 (F := Ideal) A B G W (ix2 r j)
    = ∑ k : Fin 2048, norm (read2 (val_main_v2 (F := Ideal) A B)) (fun e => read2 G 0 e) r k * read3 W 0 k j := by
  rw [val_main_v18_apply]
  refine Finset.sum_congr rfl fun k _ => congrArg₂ (· * ·) ?_ ?_
  · rw [← reference_normed]
    exact congrArg (val_main_v16 (F := Ideal) A B G) (funext fun a => match a with | 0 => rfl | 1 => rfl)
  · rw [val_main_v17_apply]
    refine Eq.trans (congrArg W (funext fun a => ?_)) (read3_apply W 0 k j)
    have hk := k.isLt
    have hj := j.isLt
    refine match a with
    | 0 => rfl
    | 1 => Fin.ext ?_
    | 2 => Fin.ext ?_
    · show (k.val * 10528 + j.val) / 10528 % 2048 = k.val
      omega
    · show (k.val * 10528 + j.val) % 10528 = j.val
      omega

theorem reference_at (i : Cert.InputRefIdeal.S8704x10528.Idx) (o : ℕ) (r j : ℕ) (hr : (i 0).val = r) (hj : (i 1).val = o + j) :
    val_main_v18 (F := Ideal) A B G W i
      = dot 2048 (fun r e => norm (read2 (val_main_v2 (F := Ideal) A B)) (fun e => read2 G 0 e) r e) (fun k j => read3 W 0 k (o + j)) r j := by
  refine (congrArg (val_main_v18 (F := Ideal) A B G W) (index_two i)).trans ((reference_apply A B G W (i 0) (i 1)).trans ?_)
  rw [hr, hj]
  rfl

theorem reference_result1 : val_main_v19 (F := Ideal) A B G W
    = fun y => dot 2048 (fun r e => norm (read2 (val_main_v2 (F := Ideal) A B)) (fun e => read2 G 0 e) r e) (fun k j => read3 W 0 k (0 + j))
      (y 0).val (y 1).val := by
  funext y
  rw [val_main_v19_apply]
  exact reference_at A B G W _ 0 _ _ rfl (Nat.zero_add _).symm

theorem reference_result2 : val_main_v20 (F := Ideal) A B G W
    = fun y => dot 2048 (fun r e => norm (read2 (val_main_v2 (F := Ideal) A B)) (fun e => read2 G 0 e) r e) (fun k j => read3 W 0 k (3072 + j))
      (y 0).val (y 1).val := by
  funext y
  rw [val_main_v20_apply]
  exact reference_at A B G W _ 3072 _ _ rfl rfl

theorem reference_result3 : val_main_v21 (F := Ideal) A B G W
    = fun y => dot 2048 (fun r e => norm (read2 (val_main_v2 (F := Ideal) A B)) (fun e => read2 G 0 e) r e) (fun k j => read3 W 0 k (6144 + j))
      (y 0).val (y 1).val := by
  funext y
  rw [val_main_v21_apply]
  exact reference_at A B G W _ 6144 _ _ rfl rfl

theorem reference_result4 : val_main_v22 (F := Ideal) A B G W
    = fun y => dot 2048 (fun r e => norm (read2 (val_main_v2 (F := Ideal) A B)) (fun e => read2 G 0 e) r e) (fun k j => read3 W 0 k (6432 + j))
      (y 0).val (y 1).val := by
  funext y
  rw [val_main_v22_apply]
  exact reference_at A B G W _ 6432 _ _ rfl rfl

end

theorem equal : Cert.algebraic_InputIdeal_InputRefIdeal := by
  intro m g m' g' _ hag
  refine ⟨fun c y => dot 2048 (normed m c) (weights m c 0) (y 0).val (y 1).val,
    fun c y => dot 2048 (normed m c) (weights m c 3072) (y 0).val (y 1).val,
    fun c y => dot 2048 (normed m c) (weights m c 6144) (y 0).val (y 1).val,
    fun c y => dot 2048 (normed m c) (weights m c 6432) (y 0).val (y 1).val, ?_, ?_⟩
  · refine (θ_run _ _ _).mono (fun r h c => ?_) (run m g)
    exact ⟨(h c _ (mem_uc main_v15 (by decide))).trans (result1 m g c), (h c _ (mem_uc main_v16 (by decide))).trans (result2 m g c),
      (h c _ (mem_uc main_v17 (by decide))).trans (result3 m g c), (h c _ (mem_uc main_v18 (by decide))).trans (result4 m g c),
      (h c _ (mem_uc main_arg0 (by decide))).trans (W7_main_arg0 m g c), (h c _ (mem_uc main_arg1 (by decide))).trans (W7_main_arg1 m g c),
      (h c _ (mem_uc main_arg2 (by decide))).trans (W7_main_arg2 m g c), (h c _ (mem_uc main_arg3 (by decide))).trans (W7_main_arg3 m g c)⟩
  · refine (θ_run _ _ _).mono (fun r h c => ?_) (Cert.InputRefIdeal.Value.run m' g')
    refine ⟨(h c).1.trans ?_, (h c).2.1.trans ?_, (h c).2.2.1.trans ?_, (h c).2.2.2.1.trans ?_, (h c).2.2.2.2⟩
    · refine (Cert.InputRefIdeal.Read.val_main_v19_eq _ _ _ _).trans ?_
      rw [(hag c).1, (hag c).2.1, (hag c).2.2.1, (hag c).2.2.2]
      exact reference_result1 _ _ _ _
    · refine (Cert.InputRefIdeal.Read.val_main_v20_eq _ _ _ _).trans ?_
      rw [(hag c).1, (hag c).2.1, (hag c).2.2.1, (hag c).2.2.2]
      exact reference_result2 _ _ _ _
    · refine (Cert.InputRefIdeal.Read.val_main_v21_eq _ _ _ _).trans ?_
      rw [(hag c).1, (hag c).2.1, (hag c).2.2.1, (hag c).2.2.2]
      exact reference_result3 _ _ _ _
    · refine (Cert.InputRefIdeal.Read.val_main_v22_eq _ _ _ _).trans ?_
      rw [(hag c).1, (hag c).2.1, (hag c).2.2.1, (hag c).2.2.2]
      exact reference_result4 _ _ _ _

end Cert.Dense.Input
end
-- ==== Proof.OutputRegions.lean ====
/- The calls of the output stage: what each leaves in its array, over the contents it is entered with. -/
module

public import proofs.«01_k».proof.Proof.Dense
public import proofs.«01_k».proof.Proof.Gen.OutputIdeal.Frame
public import Idealize.ShloMosaic.Lib.Pipeline.ValueKit

@[expose] public section

set_option maxRecDepth 16384

noncomputable section

namespace Cert.Dense.Output
open Idealize.ShloMosaic Idealize.ShloMosaic.TcCoe Idealize.SL.Sem Cert.OutputIdeal Cert.OutputIdeal.Gen

variable (V : (c : Dev nD) → (b : Ref sig .tc) → Buf (Elt Ideal) ((c : Thread nD τ).loc b)) (c : Dev nD)

/-! ## The gated product of the first branch -/

theorem payload0 (x : Vec Ideal S512x1024 .bf16) (w : Vec Ideal S1024x1024 .bf16) (g : Vec Ideal S512x1024 .f32) (X W G : ℕ → ℕ → EReal) (r : Fin 512)
    (c : Fin 1024) (hx : ∀ e : Fin 1024, x (ix2 r e) = X r e) (hw : ∀ e : Fin 1024, w (ix2 e c) = W e c) (hg : g (ix2 r c) = G r c) :
    k0_pay1 x w g (ix2 r c) = Ideal.logistic (G r c) * dot 1024 X W r c := by
  pointwise [k0_pay1]
  simp only [hx, hw, hg]
  rfl

theorem out_eq0 (x : Vec Ideal S512x1024 .bf16) (w : Vec Ideal S1024x1024 .bf16) (g : Vec Ideal S512x1024 .f32) : out0_3 x w g = k0_pay1 x w g := by
  unfold out0_3
  rw [View.canon_cons_unit_lit _ _ _ (by decide), View.ld_unit_lit _ x (by decide), View.ld_unit_lit _ w (by decide), View.ld_unit_lit _ g (by decide)]

theorem idx0 : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

section
variable (X W G : ℕ → ℕ → EReal)
  (hX : ∀ (r : Fin 8704) (e : Fin 1024), V c main_v0 (ix2 r e) = X r e)
  (hW : ∀ (e : Fin 1024) (j : Fin 2048), V c main_v3 (ix2 e j) = W e j)
  (hG : ∀ (r : Fin 8704) (j : Fin 4096), V c main_arg3 (ix2 r j) = G r j)
include hX hW hG

theorem stored0 (t : Fin cfg0.N) (r : Fin 512) (e : Fin 1024) (y : S512x1024.Idx) (hy : y = ix2 r e) :
    k0_pay1 (iblk0 V c 0 t) (iblk0 V c 1 t) (iblk0 V c 2 t) y = Ideal.logistic (G ((grid0.coords t 0).val * 512 + r) ((grid0.coords t 1).val * 1024 + e)) * dot 1024 X W ((grid0.coords t 0).val * 512 + r) ((grid0.coords t 1).val * 1024 + e) := by
  subst hy
  have h0 : (grid0.coords t 0).val < 17 := (grid0.coords t 0).isLt
  have h1 : (grid0.coords t 1).val < 2 := (grid0.coords t 1).isLt
  rw [payload0 (iblk0 V c 0 t) (iblk0 V c 1 t) (iblk0 V c 2 t) (fun r e => X ((grid0.coords t 0).val * 512 + r) e) (fun e j => W e ((grid0.coords t 1).val * 1024 + j)) (fun r j => G ((grid0.coords t 0).val * 512 + r) ((grid0.coords t 1).val * 1024 + j)) r e (fun e => ?_) (fun s => ?_) ?_]
  · rfl
  · rw [← hG ⟨(grid0.coords t 0).val * 512 + r, by omega⟩ ⟨(grid0.coords t 1).val * 1024 + e, by omega⟩]
    blk_ext [iblk0, idx0 t]
  · rw [← hX ⟨(grid0.coords t 0).val * 512 + r, by omega⟩ e]
    blk_ext [iblk0, idx0 t]
  · rw [← hW s ⟨(grid0.coords t 1).val * 1024 + e, by omega⟩]
    blk_ext [iblk0, idx0 t]

theorem array0 : (dat0 V c).arrAt 3 cfg0.N = fun y => Ideal.logistic (G (y 0).val (y 1).val) * dot 1024 X W (y 0).val (y 1).val := by
  refine (dat0 V c).arrAt_eq_of_covers 3 _ (by decide +kernel) fun t hf y => ?_
  blk_simp [idx0 t]
  rw [after0_3, out_eq0]
  exact stored0 V c X W G hX hW hG t (y 0) (y 1) y (funext fun a => match a with | 0 => rfl | 1 => rfl)

end

/-! ## The gated product of the second branch, added -/

theorem payload1 (x : Vec Ideal S512x1024 .bf16) (w : Vec Ideal S1024x1024 .bf16) (g : Vec Ideal S512x1024 .f32) (p : Vec Ideal S512x1024 .f32) (X W G P : ℕ → ℕ → EReal) (r : Fin 512)
    (c : Fin 1024) (hx : ∀ e : Fin 1024, x (ix2 r e) = X r e) (hw : ∀ e : Fin 1024, w (ix2 e c) = W e c) (hg : g (ix2 r c) = G r c) (hp : p (ix2 r c) = P r c) :
    k1_pay1 x w g p (ix2 r c) = P r c + Ideal.logistic (G r c) * dot 1024 X W r c := by
  pointwise [k1_pay1]
  simp only [hx, hw, hg, hp]
  rfl

theorem out_eq1 (x : Vec Ideal S512x1024 .bf16) (w : Vec Ideal S1024x1024 .bf16) (g : Vec Ideal S512x1024 .f32) (p : Vec Ideal S512x1024 .f32) : out1_4 x w g p = k1_pay1 x w g p := by
  unfold out1_4
  rw [View.canon_cons_unit_lit _ _ _ (by decide), View.ld_unit_lit _ x (by decide), View.ld_unit_lit _ w (by decide), View.ld_unit_lit _ g (by decide), View.ld_unit_lit _ p (by decide)]

theorem idx1 : ∀ t : Fin cfg1.N, win1_0.index t = ![(grid1.coords t 0).val, 0]
    ∧ win1_1.index t = ![0, (grid1.coords t 1).val]
    ∧ win1_2.index t = ![(grid1.coords t 0).val, (grid1.coords t 1).val + 2]
    ∧ win1_3.index t = ![(grid1.coords t 0).val, (grid1.coords t 1).val]
    ∧ win1_4.index t = ![(grid1.coords t 0).val, (grid1.coords t 1).val] :=
  (by decide +kernel : ∀ t : Fin grid1.N, _)

section
variable (X W G P : ℕ → ℕ → EReal)
  (hX : ∀ (r : Fin 8704) (e : Fin 1024), V c main_v1 (ix2 r e) = X r e)
  (hW : ∀ (e : Fin 1024) (j : Fin 2048), V c main_v6 (ix2 e j) = W e j)
  (hG : ∀ (r : Fin 8704) (j : Fin 4096), V c main_arg3 (ix2 r j) = G r j)
  (hP : ∀ (r : Fin 8704) (j : Fin 2048), V c main_v4 (ix2 r j) = P r j)
include hX hW hG hP

theorem stored1 (t : Fin cfg1.N) (r : Fin 512) (e : Fin 1024) (y : S512x1024.Idx) (hy : y = ix2 r e) :
    k1_pay1 (iblk1 V c 0 t) (iblk1 V c 1 t) (iblk1 V c 2 t) (iblk1 V c 3 t) y = P ((grid1.coords t 0).val * 512 + r) ((grid1.coords t 1).val * 1024 + e) + Ideal.logistic (G ((grid1.coords t 0).val * 512 + r) ((grid1.coords t 1).val * 1024 + e + 2048)) * dot 1024 X W ((grid1.coords t 0).val * 512 + r) ((grid1.coords t 1).val * 1024 + e) := by
  subst hy
  have h0 : (grid1.coords t 0).val < 17 := (grid1.coords t 0).isLt
  have h1 : (grid1.coords t 1).val < 2 := (grid1.coords t 1).isLt
  rw [payload1 (iblk1 V c 0 t) (iblk1 V c 1 t) (iblk1 V c 2 t) (iblk1 V c 3 t) (fun r e => X ((grid1.coords t 0).val * 512 + r) e) (fun e j => W e ((grid1.coords t 1).val * 1024 + j)) (fun r j => G ((grid1.coords t 0).val * 512 + r) (((grid1.coords t 1).val + 2) * 1024 + j)) (fun r j => P ((grid1.coords t 0).val * 512 + r) ((grid1.coords t 1).val * 1024 + j)) r e (fun e => ?_) (fun s => ?_) ?_ ?_]
  · rw [show (grid1.coords t 1).val * 1024 + e.val + 2048 = ((grid1.coords t 1).val + 2) * 1024 + e.val by omega]
    rfl
  · rw [← hG ⟨(grid1.coords t 0).val * 512 + r, by omega⟩ ⟨((grid1.coords t 1).val + 2) * 1024 + e, by omega⟩]
    blk_ext [iblk1, idx1 t]
  · rw [← hP ⟨(grid1.coords t 0).val * 512 + r, by omega⟩ ⟨(grid1.coords t 1).val * 1024 + e, by omega⟩]
    blk_ext [iblk1, idx1 t]
  · rw [← hX ⟨(grid1.coords t 0).val * 512 + r, by omega⟩ e]
    blk_ext [iblk1, idx1 t]
  · rw [← hW s ⟨(grid1.coords t 1).val * 1024 + e, by omega⟩]
    blk_ext [iblk1, idx1 t]

theorem array1 : (dat1 V c).arrAt 4 cfg1.N = fun y => P (y 0).val (y 1).val + Ideal.logistic (G (y 0).val ((y 1).val + 2048)) * dot 1024 X W (y 0).val (y 1).val := by
  refine (dat1 V c).arrAt_eq_of_covers 4 _ (by decide +kernel) fun t hf y => ?_
  blk_simp [idx1 t]
  rw [after1_4, out_eq1]
  exact stored1 V c X W G P hX hW hG hP t (y 0) (y 1) y (funext fun a => match a with | 0 => rfl | 1 => rfl)

end

/-! ## The product with the output weights, added to the stream -/

theorem payload2 (x : Vec Ideal S512x2048 .bf16) (w : Vec Ideal S2048x1024 .bf16) (p : Vec Ideal S512x1024 .f32) (X W P : ℕ → ℕ → EReal) (r : Fin 512)
    (c : Fin 1024) (hx : ∀ e : Fin 2048, x (ix2 r e) = X r e) (hw : ∀ e : Fin 2048, w (ix2 e c) = W e c) (hp : p (ix2 r c) = P r c) :
    k2_pay1 x w p (ix2 r c) = P r c + dot 2048 X W r c := by
  pointwise [k2_pay1]
  simp only [hx, hw, hp]
  rfl

theorem out_eq2 (x : Vec Ideal S512x2048 .bf16) (w : Vec Ideal S2048x1024 .bf16) (p : Vec Ideal S512x1024 .f32) : out2_3 x w p = k2_pay1 x w p := by
  unfold out2_3
  rw [View.canon_cons_unit_lit _ _ _ (by decide), View.ld_unit_lit _ x (by decide), View.ld_unit_lit _ w (by decide), View.ld_unit_lit _ p (by decide)]

theorem idx2 : ∀ t : Fin cfg2.N, win2_0.index t = ![(grid2.coords t 0).val, 0]
    ∧ win2_1.index t = ![0, (grid2.coords t 1).val]
    ∧ win2_2.index t = ![(grid2.coords t 0).val, (grid2.coords t 1).val]
    ∧ win2_3.index t = ![(grid2.coords t 0).val, (grid2.coords t 1).val] :=
  (by decide +kernel : ∀ t : Fin grid2.N, _)

section
variable (X W P : ℕ → ℕ → EReal)
  (hX : ∀ (r : Fin 8704) (e : Fin 2048), V c main_v7 (ix2 r e) = X r e)
  (hW : ∀ (e : Fin 2048) (j : Fin 2048), V c main_v9 (ix2 e j) = W e j)
  (hP : ∀ (r : Fin 8704) (j : Fin 2048), V c main_arg0 (ix2 r j) = P r j)
include hX hW hP

theorem stored2 (t : Fin cfg2.N) (r : Fin 512) (e : Fin 1024) (y : S512x1024.Idx) (hy : y = ix2 r e) :
    k2_pay1 (iblk2 V c 0 t) (iblk2 V c 1 t) (iblk2 V c 2 t) y = P ((grid2.coords t 0).val * 512 + r) ((grid2.coords t 1).val * 1024 + e) + dot 2048 X W ((grid2.coords t 0).val * 512 + r) ((grid2.coords t 1).val * 1024 + e) := by
  subst hy
  have h0 : (grid2.coords t 0).val < 17 := (grid2.coords t 0).isLt
  have h1 : (grid2.coords t 1).val < 2 := (grid2.coords t 1).isLt
  rw [payload2 (iblk2 V c 0 t) (iblk2 V c 1 t) (iblk2 V c 2 t) (fun r e => X ((grid2.coords t 0).val * 512 + r) e) (fun e j => W e ((grid2.coords t 1).val * 1024 + j)) (fun r j => P ((grid2.coords t 0).val * 512 + r) ((grid2.coords t 1).val * 1024 + j)) r e (fun e => ?_) (fun s => ?_) ?_]
  · rfl
  · rw [← hP ⟨(grid2.coords t 0).val * 512 + r, by omega⟩ ⟨(grid2.coords t 1).val * 1024 + e, by omega⟩]
    blk_ext [iblk2, idx2 t]
  · rw [← hX ⟨(grid2.coords t 0).val * 512 + r, by omega⟩ e]
    blk_ext [iblk2, idx2 t]
  · rw [← hW s ⟨(grid2.coords t 1).val * 1024 + e, by omega⟩]
    blk_ext [iblk2, idx2 t]

theorem array2 : (dat2 V c).arrAt 3 cfg2.N = fun y => P (y 0).val (y 1).val + dot 2048 X W (y 0).val (y 1).val := by
  refine (dat2 V c).arrAt_eq_of_covers 3 _ (by decide +kernel) fun t hf y => ?_
  blk_simp [idx2 t]
  rw [after2_3, out_eq2]
  exact stored2 V c X W P hX hW hP t (y 0) (y 1) y (funext fun a => match a with | 0 => rfl | 1 => rfl)

end

/-! ## The normalisation -/

theorem payload3 (x : Vec Ideal S256x2048 .f32) (g : Vec Ideal S1x2048 .f32) (X : ℕ → ℕ → EReal) (G : ℕ → EReal) (r : Fin 256)
    (c : Fin 2048) (hx : ∀ c : Fin 2048, x (ix2 r c) = X r c) (hg : ∀ c : Fin 2048, g (ix2 0 c) = G c) :
    k3_pay1 x g (ix2 r c) = norm X G r c := by
  pointwise [k3_pay1]
  simp only [hx, hg]
  rfl

theorem out_eq3 (x : Vec Ideal S256x2048 .f32) (g : Vec Ideal S1x2048 .f32) : out3_2 x g = k3_pay1 x g := by
  unfold out3_2
  rw [View.canon_cons_unit_lit _ _ _ (by decide), View.ld_unit_lit _ x (by decide), View.ld_unit_lit _ g (by decide)]

theorem idx3 : ∀ t : Fin cfg3.N, win3_0.index t = ![(grid3.coords t 0).val, 0] ∧ win3_1.index t = ![0, 0]
    ∧ win3_2.index t = ![(grid3.coords t 0).val, 0] :=
  (by decide +kernel : ∀ t : Fin grid3.N, _)

section
variable (X : ℕ → ℕ → EReal) (G : ℕ → EReal)
  (hX : ∀ (r : Fin 8704) (e : Fin 2048), V c main_v10 (ix2 r e) = X r e) (hG : ∀ e : Fin 2048, V c main_v12 (ix2 0 e) = G e)
include hX hG

theorem stored3 (t : Fin cfg3.N) (r : Fin 256) (e : Fin 2048) (y : S256x2048.Idx) (hy : y = ix2 r e) :
    k3_pay1 (iblk3 V c 0 t) (iblk3 V c 1 t) y = norm X G ((grid3.coords t 0).val * 256 + r) e := by
  subst hy
  have h0 : (grid3.coords t 0).val < 34 := (grid3.coords t 0).isLt
  rw [payload3 (iblk3 V c 0 t) (iblk3 V c 1 t) (fun r e => X ((grid3.coords t 0).val * 256 + r) e) G r e
    (fun e => ?_) (fun e => ?_)]
  · rfl
  · rw [← hX ⟨(grid3.coords t 0).val * 256 + r, by omega⟩ e]
    blk_ext [iblk3, idx3 t]
  · rw [← hG e]
    blk_ext [iblk3, idx3 t]

theorem array3 : (dat3 V c).arrAt 2 cfg3.N = fun y => norm X G (y 0).val (y 1).val := by
  refine (dat3 V c).arrAt_eq_of_covers 2 _ (by decide +kernel) fun t hf y => ?_
  blk_simp [idx3 t]
  rw [after3_2, out_eq3]
  exact stored3 V c X G hX hG t (y 0) (y 1) y (funext fun a => match a with | 0 => rfl | 1 => rfl)

end

/-! ## The first product of the perceptron, its positive part squared -/

theorem payload4 (x : Vec Ideal S512x2048 .bf16) (w : Vec Ideal S2048x1024 .bf16) (X W : ℕ → ℕ → EReal) (r : Fin 512)
    (c : Fin 1024) (hx : ∀ e : Fin 2048, x (ix2 r e) = X r e) (hw : ∀ e : Fin 2048, w (ix2 e c) = W e c) :
    k4_pay1 x w (ix2 r c) = max (dot 2048 X W r c) 0 * max (dot 2048 X W r c) 0 := by
  pointwise [k4_pay1]
  simp only [hx, hw]
  rfl

theorem out_eq4 (x : Vec Ideal S512x2048 .bf16) (w : Vec Ideal S2048x1024 .bf16) : out4_2 x w = k4_pay1 x w := by
  unfold out4_2
  rw [View.canon_cons_unit_lit _ _ _ (by decide), View.ld_unit_lit _ x (by decide), View.ld_unit_lit _ w (by decide)]

theorem idx4 : ∀ t : Fin cfg4.N, win4_0.index t = ![(grid4.coords t 0).val, 0]
    ∧ win4_1.index t = ![0, (grid4.coords t 1).val]
    ∧ win4_2.index t = ![(grid4.coords t 0).val, (grid4.coords t 1).val] :=
  (by decide +kernel : ∀ t : Fin grid4.N, _)

section
variable (X W : ℕ → ℕ → EReal)
  (hX : ∀ (r : Fin 8704) (e : Fin 2048), V c main_v13 (ix2 r e) = X r e)
  (hW : ∀ (e : Fin 2048) (j : Fin 8192), V c main_v15 (ix2 e j) = W e j)
include hX hW

theorem stored4 (t : Fin cfg4.N) (r : Fin 512) (e : Fin 1024) (y : S512x1024.Idx) (hy : y = ix2 r e) :
    k4_pay1 (iblk4 V c 0 t) (iblk4 V c 1 t) y = max (dot 2048 X W ((grid4.coords t 0).val * 512 + r) ((grid4.coords t 1).val * 1024 + e)) 0 * max (dot 2048 X W ((grid4.coords t 0).val * 512 + r) ((grid4.coords t 1).val * 1024 + e)) 0 := by
  subst hy
  have h0 : (grid4.coords t 0).val < 17 := (grid4.coords t 0).isLt
  have h1 : (grid4.coords t 1).val < 8 := (grid4.coords t 1).isLt
  rw [payload4 (iblk4 V c 0 t) (iblk4 V c 1 t) (fun r e => X ((grid4.coords t 0).val * 512 + r) e) (fun e j => W e ((grid4.coords t 1).val * 1024 + j)) r e (fun e => ?_) (fun s => ?_)]
  · rfl
  · rw [← hX ⟨(grid4.coords t 0).val * 512 + r, by omega⟩ e]
    blk_ext [iblk4, idx4 t]
  · rw [← hW s ⟨(grid4.coords t 1).val * 1024 + e, by omega⟩]
    blk_ext [iblk4, idx4 t]

theorem array4 : (dat4 V c).arrAt 2 cfg4.N = fun y => max (dot 2048 X W (y 0).val (y 1).val) 0 * max (dot 2048 X W (y 0).val (y 1).val) 0 := by
  refine (dat4 V c).arrAt_eq_of_covers 2 _ (by decide +kernel) fun t hf y => ?_
  blk_simp [idx4 t]
  rw [after4_2, out_eq4]
  exact stored4 V c X W hX hW t (y 0) (y 1) y (funext fun a => match a with | 0 => rfl | 1 => rfl)

end

end Cert.Dense.Output
end
-- ==== Proof.OutputRun.lean ====
/- The run of the output stage: every buffer that is not a call's own ends at the last boundary's contents. -/
module

public import proofs.«01_k».proof.Proof.Gen.OutputIdeal.Frame

@[expose] public section

set_option maxRecDepth 16384

noncomputable section

namespace Cert.Dense.Output
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OutputIdeal Cert.OutputIdeal.Gen

variable {F : FTy → Type} [FloatOps F] (m : (ℓ : Loc nD τ sig) → Buf (Elt F) ℓ) (ρ : Dev nD → PrngReg)

set_option backward.isDefEq.respectTransparency.types false in
/-- The launch over the generated segments, its final state read at every buffer. -/
theorem run : θ_run defs (onTc (τ := τ) (main (F := F))) ⟨m, fun _ => 0, ρ⟩ (fun r => ∀ c : Dev nD,
    ∀ b ∈ Pipeline.ucRefs τ sig, r.2.mem ((c : Thread nD τ).1, b) = W10 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => h)

end Cert.Dense.Output
end
-- ==== Proof.Output.lean ====
/- The output stage: kernel and reference give the same rows. -/
module

public import proofs.«01_k».proof.Defs
public import proofs.«01_k».proof.Proof.Dense
public import proofs.«01_k».proof.Proof.OutputRegions
public import proofs.«01_k».proof.Proof.OutputRun
public import proofs.«01_k».proof.Proof.Gen.Output.Frame
public import proofs.«01_k».proof.Proof.Gen.OutputRefIdeal.Read
public import Idealize.ShloMosaic.Lib.Pipeline.ValueKit
public import Idealize.ShloMosaic.Lib.StableHlo.ReadAt
public import Idealize.ShloMosaic.Lib.Claim

@[expose] public section

set_option maxRecDepth 16384

noncomputable section

namespace Cert.Dense.Output
open Idealize.ShloMosaic Idealize.ShloMosaic.TcCoe Idealize.SL.Sem Cert.OutputIdeal Cert.OutputIdeal.Gen

section
variable (A0 : FVec Ideal S8704x2048 .f32) (A1 A2 : FVec Ideal S8704x1024 .f32) (A3 : FVec Ideal S8704x4096 .f32)
  (A4 A5 : FVec Ideal S1x1024x2048 .f32) (A6 : FVec Ideal S1x2048x2048 .f32) (A7 : FVec Ideal S1x2048 .f32)
  (A8 : FVec Ideal S1x2048x8192 .f32)

/-- The first branch under its gate. -/
def gated (r j : ℕ) : EReal := Ideal.logistic (read2 A3 r j) * dot 1024 (read2 A1) (read3 A4 0) r j

/-- Both branches under their gates, added. -/
def mixed (r j : ℕ) : EReal := gated A1 A3 A4 r j + Ideal.logistic (read2 A3 r (j + 2048)) * dot 1024 (read2 A2) (read3 A5 0) r j

/-- The stream with the mixed branches added. -/
def stream (r j : ℕ) : EReal := read2 A0 r j + dot 2048 (mixed A1 A2 A3 A4 A5) (read3 A6 0) r j

/-- The perceptron's inner rows. -/
def inner (r j : ℕ) : EReal :=
  max (dot 2048 (norm (stream A0 A1 A2 A3 A4 A5 A6) (read2 A7 0)) (read3 A8 0) r j) 0
    * max (dot 2048 (norm (stream A0 A1 A2 A3 A4 A5 A6) (read2 A7 0)) (read3 A8 0) r j) 0

end

section
variable (m : (ℓ : Loc nD τ sig) → Buf (Elt Ideal) ℓ) (ρ : Dev nD → PrngReg) (c : Dev nD)

theorem gates0 (r : Fin 8704) (e : Fin 4096) : V1 m ρ c main_arg3 (ix2 r e) = read2 (m ((c : Thread nD τ).loc main_arg3)) r e :=
  (congrFun (W1_args m ρ c main_arg3 (by decide) : V1 m ρ c main_arg3 = _) (ix2 r e)).trans (read2_apply _ r e)

theorem gates1 (r : Fin 8704) (e : Fin 4096) : V3 m ρ c main_arg3 (ix2 r e) = read2 (m ((c : Thread nD τ).loc main_arg3)) r e :=
  (congrFun (W3_args m ρ c main_arg3 (by decide) : V3 m ρ c main_arg3 = _) (ix2 r e)).trans (read2_apply _ r e)

theorem input2 (r : Fin 8704) (e : Fin 2048) : V5 m ρ c main_arg0 (ix2 r e) = read2 (m ((c : Thread nD τ).loc main_arg0)) r e :=
  (congrFun (W5_args m ρ c main_arg0 (by decide) : V5 m ρ c main_arg0 = _) (ix2 r e)).trans (read2_apply _ r e)

theorem branch0_0 (r : Fin 8704) (e : Fin 1024) : V1 m ρ c main_v0 (ix2 r e) = read2 (m ((c : Thread nD τ).loc main_arg1)) r e := by
  rw [← read2_apply]
  refine congrFun ?_ _
  after_reads_simp
  rfl

theorem branch1_0 (r : Fin 8704) (e : Fin 1024) : V1 m ρ c main_v1 (ix2 r e) = read2 (m ((c : Thread nD τ).loc main_arg2)) r e := by
  rw [← read2_apply]
  refine congrFun ?_ _
  after_reads_simp
  rfl

theorem branch1 (r : Fin 8704) (e : Fin 1024) : V3 m ρ c main_v1 (ix2 r e) = read2 (m ((c : Thread nD τ).loc main_arg2)) r e :=
  (congrFun (((W3_of m ρ c main_v1 (by decide)).trans (W2_of m ρ c main_v1 (by decide))) : V3 m ρ c main_v1 = V1 m ρ c main_v1) (ix2 r e)).trans (branch1_0 m ρ c r e)

theorem weights0 (e : Fin 1024) (j : Fin 2048) : V1 m ρ c main_v3 (ix2 e j) = read3 (m ((c : Thread nD τ).loc main_arg4)) 0 e j := by
  rw [show read3 (m ((c : Thread nD τ).loc main_arg4)) 0 e j = m ((c : Thread nD τ).loc main_arg4) (ix3 0 e j) from (read3_apply _ 0 e j).symm]
  after_reads_at

theorem weights1 (e : Fin 1024) (j : Fin 2048) : V3 m ρ c main_v6 (ix2 e j) = read3 (m ((c : Thread nD τ).loc main_arg5)) 0 e j := by
  rw [show read3 (m ((c : Thread nD τ).loc main_arg5)) 0 e j = m ((c : Thread nD τ).loc main_arg5) (ix3 0 e j) from (read3_apply _ 0 e j).symm,
    ← (W2_args m ρ c main_arg5 (by decide) : W2 m ρ c (Proc.devRef .tc main_arg5) = m ((c : Thread nD τ).loc main_arg5))]
  after_reads_at

theorem weights2 (e : Fin 2048) (j : Fin 2048) : V5 m ρ c main_v9 (ix2 e j) = read3 (m ((c : Thread nD τ).loc main_arg6)) 0 e j := by
  rw [show read3 (m ((c : Thread nD τ).loc main_arg6)) 0 e j = m ((c : Thread nD τ).loc main_arg6) (ix3 0 e j) from (read3_apply _ 0 e j).symm,
    ← (W4_args m ρ c main_arg6 (by decide) : W4 m ρ c (Proc.devRef .tc main_arg6) = m ((c : Thread nD τ).loc main_arg6))]
  after_reads_at

theorem weights4 (e : Fin 2048) (j : Fin 8192) : V9 m ρ c main_v15 (ix2 e j) = read3 (m ((c : Thread nD τ).loc main_arg8)) 0 e j := by
  rw [show read3 (m ((c : Thread nD τ).loc main_arg8)) 0 e j = m ((c : Thread nD τ).loc main_arg8) (ix3 0 e j) from (read3_apply _ 0 e j).symm,
    ← (W8_args m ρ c main_arg8 (by decide) : W8 m ρ c (Proc.devRef .tc main_arg8) = m ((c : Thread nD τ).loc main_arg8))]
  after_reads_at

theorem gains3 (e : Fin 2048) : V7 m ρ c main_v12 (ix2 0 e) = read2 (m ((c : Thread nD τ).loc main_arg7)) 0 e := by
  rw [show read2 (m ((c : Thread nD τ).loc main_arg7)) 0 e = m ((c : Thread nD τ).loc main_arg7) (ix2 0 e) from (read2_apply _ 0 e).symm,
    ← (W6_args m ρ c main_arg7 (by decide) : W6 m ρ c (Proc.devRef .tc main_arg7) = m ((c : Thread nD τ).loc main_arg7))]
  after_reads_at

/-- The first branch, entering the second call. -/
theorem entry_gated (r : Fin 8704) (e : Fin 2048) : V3 m ρ c main_v4 (ix2 r e) = gated (m ((c : Thread nD τ).loc main_arg1)) (m ((c : Thread nD τ).loc main_arg3)) (m ((c : Thread nD τ).loc main_arg4)) r e := by
  have h : V3 m ρ c main_v4 = (dat0 (V1 m ρ) c).arrAt 3 cfg0.N :=
    (W3_of m ρ c main_v4 (by decide)).trans (W2_arr m ρ c 3)
  rw [h, array0 (V1 m ρ) c _ _ _ (branch0_0 m ρ c) (weights0 m ρ c) (gates0 m ρ c)]
  rfl

/-- Both branches, entering the third call. -/
theorem entry_mixed (r : Fin 8704) (e : Fin 2048) : V5 m ρ c main_v7 (ix2 r e) = mixed (m ((c : Thread nD τ).loc main_arg1)) (m ((c : Thread nD τ).loc main_arg2)) (m ((c : Thread nD τ).loc main_arg3)) (m ((c : Thread nD τ).loc main_arg4)) (m ((c : Thread nD τ).loc main_arg5)) r e := by
  have h : V5 m ρ c main_v7 = (dat1 (V3 m ρ) c).arrAt 4 cfg1.N :=
    (W5_of m ρ c main_v7 (by decide)).trans (W4_arr m ρ c 4)
  rw [h, array1 (V3 m ρ) c _ _ _ _ (branch1 m ρ c) (weights1 m ρ c) (gates1 m ρ c) (entry_gated m ρ c)]
  rfl

/-- The stream, entering the normalisation. -/
theorem entry_stream (r : Fin 8704) (e : Fin 2048) : V7 m ρ c main_v10 (ix2 r e) = stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) r e := by
  have h : V7 m ρ c main_v10 = (dat2 (V5 m ρ) c).arrAt 3 cfg2.N :=
    (W7_of m ρ c main_v10 (by decide)).trans (W6_arr m ρ c 3)
  rw [h, array2 (V5 m ρ) c _ _ _ (entry_mixed m ρ c) (weights2 m ρ c) (input2 m ρ c)]
  rfl

/-- The normalised stream, entering the last call. -/
theorem entry_normed (r : Fin 8704) (e : Fin 2048) : V9 m ρ c main_v13 (ix2 r e) = norm (stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (read2 (m ((c : Thread nD τ).loc main_arg7)) 0) r e := by
  have h : V9 m ρ c main_v13 = (dat3 (V7 m ρ) c).arrAt 2 cfg3.N :=
    (W9_of m ρ c main_v13 (by decide)).trans (W8_arr m ρ c 2)
  rw [h, array3 (V7 m ρ) c _ _ (entry_stream m ρ c) (gains3 m ρ c)]
  rfl

theorem result1 : W10 m ρ c (Proc.devRef .tc main_v10) = fun y => stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (y 0).val (y 1).val := by
  have h : W10 m ρ c (Proc.devRef .tc main_v10) = (dat2 (V5 m ρ) c).arrAt 3 cfg2.N :=
    ((((W10_of m ρ c main_v10 (by decide)).trans (W9_of m ρ c main_v10 (by decide))).trans (W8_of m ρ c main_v10 (by decide))).trans (W7_of m ρ c main_v10 (by decide))).trans (W6_arr m ρ c 3)
  rw [h, array2 (V5 m ρ) c _ _ _ (entry_mixed m ρ c) (weights2 m ρ c) (input2 m ρ c)]
  rfl

theorem result2 : W10 m ρ c (Proc.devRef .tc main_v16) = fun y => inner (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (y 0).val (y 1).val := by
  have h : W10 m ρ c (Proc.devRef .tc main_v16) = (dat4 (V9 m ρ) c).arrAt 2 cfg4.N :=
    W10_arr m ρ c 2
  rw [h, array4 (V9 m ρ) c _ _ (entry_normed m ρ c) (weights4 m ρ c)]
  rfl

end

theorem frame_word : Cert.quiescent_Output := fun m ρ _ => Cert.Output.Gen.frame m ρ

theorem frame_ideal : Cert.quiescent_OutputIdeal := fun m ρ _ => Cert.OutputIdeal.Gen.frame m ρ

theorem frame_reference : Cert.quiescent_OutputRefIdeal := fun m ρ _ =>
  (θ_run Cert.OutputRefIdeal.defs _ _).mono (fun r h => ⟨fun c => (h c).2.2, sem_eq_zero_of_no_sems (by decide) r.2⟩)
    (Cert.OutputRefIdeal.Value.run (F := Ideal) m ρ)

section
open Cert.OutputRefIdeal.Read
variable (A0 : FVec Ideal S8704x2048 .f32) (A1 A2 : FVec Ideal S8704x1024 .f32) (A3 : FVec Ideal S8704x4096 .f32)
  (A4 A5 : FVec Ideal S1x1024x2048 .f32) (A6 : FVec Ideal S1x2048x2048 .f32) (A7 : FVec Ideal S1x2048 .f32)
  (A8 : FVec Ideal S1x2048x8192 .f32)

/-- The quotient the reference spells is the logistic function. -/
theorem logistic_host (x : Ideal .f32) :
    FloatOps.hostDivf (FloatOps.ofBits (F := Ideal) .f32 0x3F800000#32) (FloatOps.addf (FloatOps.ofBits (F := Ideal) .f32 0x3F800000#32)
      (FloatOps.hostUnary .exp (FloatOps.hostNegf x))) = Ideal.logistic x := by
  show Ideal.div (Ideal.ofBits .f32 0x3F800000#32) (Ideal.ofBits .f32 0x3F800000#32 + Ideal.exp (-x)) = _
  rw [Ideal.ofBits_one_f32]
  rfl

theorem reference_gate0 (r : Fin 8704) (j : Fin 2048) : val_main_v7 (F := Ideal) A3 (ix2 r j) = Ideal.logistic (read2 A3 r j) := by
  rw [val_main_v7_apply, val_main_v6_apply, val_main_v5_apply, val_main_v4_apply, val_main_v3_apply, val_main_v2_apply, val_main_cst_apply,
    val_main_cst_0_apply, val_main_v0_apply, logistic_host]
  have hj : j.val < 4096 := by omega
  refine congrArg Ideal.logistic (Eq.trans (congrArg A3 (funext fun a => ?_)) (read2_apply A3 r ⟨j.val, hj⟩))
  exact match a with | 0 => Fin.ext (by simp) | 1 => Fin.ext (by simp)

theorem reference_gate1 (r : Fin 8704) (j : Fin 2048) : val_main_v16 (F := Ideal) A3 (ix2 r j) = Ideal.logistic (read2 A3 r (j + 2048)) := by
  rw [val_main_v16_apply, val_main_v15_apply, val_main_v14_apply, val_main_v13_apply, val_main_v12_apply, val_main_v11_apply,
    val_main_cst_1_apply, val_main_cst_2_apply, val_main_v1_apply, logistic_host]
  have hj : j.val + 2048 < 4096 := by omega
  refine congrArg Ideal.logistic (Eq.trans (congrArg A3 (funext fun a => ?_)) (read2_apply A3 r ⟨j.val + 2048, hj⟩))
  exact match a with | 0 => Fin.ext (by simp) | 1 => Fin.ext (by simp [Nat.add_comm])

theorem reference_weights0 (k : Fin 1024) (j : Fin 2048) : val_main_v8 (F := Ideal) A4 (ix2 k j) = read3 A4 0 k j := by
  rw [val_main_v8_apply]
  refine Eq.trans (congrArg A4 (funext fun a => ?_)) (read3_apply A4 0 k j)
  have hk := k.isLt
  have hj := j.isLt
  refine match a with
  | 0 => rfl
  | 1 => Fin.ext ?_
  | 2 => Fin.ext ?_
  · show (k.val * 2048 + j.val) / 2048 % 1024 = k.val
    omega
  · show (k.val * 2048 + j.val) % 2048 = j.val
    omega

theorem reference_weights1 (k : Fin 1024) (j : Fin 2048) : val_main_v17 (F := Ideal) A5 (ix2 k j) = read3 A5 0 k j := by
  rw [val_main_v17_apply]
  refine Eq.trans (congrArg A5 (funext fun a => ?_)) (read3_apply A5 0 k j)
  have hk := k.isLt
  have hj := j.isLt
  refine match a with
  | 0 => rfl
  | 1 => Fin.ext ?_
  | 2 => Fin.ext ?_
  · show (k.val * 2048 + j.val) / 2048 % 1024 = k.val
    omega
  · show (k.val * 2048 + j.val) % 2048 = j.val
    omega

theorem reference_weights2 (k : Fin 2048) (j : Fin 2048) : val_main_v21 (F := Ideal) A6 (ix2 k j) = read3 A6 0 k j := by
  rw [val_main_v21_apply]
  refine Eq.trans (congrArg A6 (funext fun a => ?_)) (read3_apply A6 0 k j)
  have hk := k.isLt
  have hj := j.isLt
  refine match a with
  | 0 => rfl
  | 1 => Fin.ext ?_
  | 2 => Fin.ext ?_
  · show (k.val * 2048 + j.val) / 2048 % 2048 = k.val
    omega
  · show (k.val * 2048 + j.val) % 2048 = j.val
    omega

theorem reference_weights4 (k : Fin 2048) (j : Fin 8192) : val_main_v38 (F := Ideal) A8 (ix2 k j) = read3 A8 0 k j := by
  rw [val_main_v38_apply]
  refine Eq.trans (congrArg A8 (funext fun a => ?_)) (read3_apply A8 0 k j)
  have hk := k.isLt
  have hj := j.isLt
  refine match a with
  | 0 => rfl
  | 1 => Fin.ext ?_
  | 2 => Fin.ext ?_
  · show (k.val * 8192 + j.val) / 8192 % 2048 = k.val
    omega
  · show (k.val * 8192 + j.val) % 8192 = j.val
    omega

theorem reference_branch0 (r : Fin 8704) (j : Fin 2048) : val_main_v9 (F := Ideal) A1 A4 (ix2 r j) = dot 1024 (read2 A1) (read3 A4 0) r j := by
  rw [val_main_v9_apply]
  refine Finset.sum_congr rfl fun k _ => congrArg₂ (· * ·) ?_ ?_
  · refine Eq.trans ?_ (read2_apply A1 r k)
    exact congrArg A1 (funext fun a => match a with | 0 => rfl | 1 => rfl)
  · refine Eq.trans ?_ (reference_weights0 A4 k j)
    exact congrArg (val_main_v8 (F := Ideal) A4) (funext fun a => match a with | 0 => rfl | 1 => rfl)

theorem reference_branch1 (r : Fin 8704) (j : Fin 2048) : val_main_v18 (F := Ideal) A2 A5 (ix2 r j) = dot 1024 (read2 A2) (read3 A5 0) r j := by
  rw [val_main_v18_apply]
  refine Finset.sum_congr rfl fun k _ => congrArg₂ (· * ·) ?_ ?_
  · refine Eq.trans ?_ (read2_apply A2 r k)
    exact congrArg A2 (funext fun a => match a with | 0 => rfl | 1 => rfl)
  · refine Eq.trans ?_ (reference_weights1 A5 k j)
    exact congrArg (val_main_v17 (F := Ideal) A5) (funext fun a => match a with | 0 => rfl | 1 => rfl)

theorem reference_mixed (r : Fin 8704) (j : Fin 2048) :
    val_main_v20 (F := Ideal) A1 A2 A3 A4 A5 (ix2 r j) = mixed A1 A2 A3 A4 A5 r j := by
  rw [val_main_v20_apply, val_main_v19_apply, val_main_v10_apply, reference_gate0, reference_gate1, reference_branch0, reference_branch1]
  rfl

theorem reference_out (r : Fin 8704) (j : Fin 2048) : val_main_v22 (F := Ideal) A1 A2 A3 A4 A5 A6 (ix2 r j) = dot 2048 (mixed A1 A2 A3 A4 A5) (read3 A6 0) r j := by
  rw [val_main_v22_apply]
  refine Finset.sum_congr rfl fun k _ => congrArg₂ (· * ·) ?_ ?_
  · refine Eq.trans ?_ (reference_mixed A1 A2 A3 A4 A5 r k)
    exact congrArg (val_main_v20 (F := Ideal) A1 A2 A3 A4 A5) (funext fun a => match a with | 0 => rfl | 1 => rfl)
  · refine Eq.trans ?_ (reference_weights2 A6 k j)
    exact congrArg (val_main_v21 (F := Ideal) A6) (funext fun a => match a with | 0 => rfl | 1 => rfl)

theorem reference_stream (r : Fin 8704) (j : Fin 2048) :
    val_main_v23 (F := Ideal) A0 A1 A2 A3 A4 A5 A6 (ix2 r j) = stream A0 A1 A2 A3 A4 A5 A6 r j := by
  rw [val_main_v23_apply, reference_out, read2_apply A0]
  rfl

theorem reference_normed (r : Fin 8704) (e : Fin 2048) : val_main_v37 (F := Ideal) A0 A1 A2 A3 A4 A5 A6 A7 (ix2 r e)
    = norm (stream A0 A1 A2 A3 A4 A5 A6) (read2 A7 0) r e := by
  rw [val_main_v37_apply, val_main_v34_apply, val_main_v33_apply, val_main_v32_apply, val_main_v31_apply, val_main_v29_apply,
    val_main_v30_apply, val_main_v27_apply, val_main_v28_apply, val_main_v26_apply, val_main_v36_apply, val_main_v35_apply,
    val_main_v24_apply]
  simp only [val_main_v25_apply, val_main_cst_3_apply, val_main_cst_4_apply, val_main_cst_5_apply]
  refine norm_host (stream A0 A1 A2 A3 A4 A5 A6) (read2 A7 0) r e _ _ _ (reference_stream A0 A1 A2 A3 A4 A5 A6 r e) (fun k => ?_) ?_
  · rw [← reference_stream]
    exact congrArg (val_main_v23 (F := Ideal) A0 A1 A2 A3 A4 A5 A6) (funext fun a => match a with | 0 => rfl | 1 => rfl)
  · refine Eq.trans ?_ (read2_apply A7 0 e)
    exact congrArg A7 (funext fun a => match a with | 0 => rfl | 1 => Fin.ext (Nat.mod_eq_of_lt e.isLt))

theorem reference_up (r : Fin 8704) (j : Fin 8192) : val_main_v39 (F := Ideal) A0 A1 A2 A3 A4 A5 A6 A7 A8 (ix2 r j) = dot 2048 (norm (stream A0 A1 A2 A3 A4 A5 A6) (read2 A7 0)) (read3 A8 0) r j := by
  rw [val_main_v39_apply]
  refine Finset.sum_congr rfl fun k _ => congrArg₂ (· * ·) ?_ ?_
  · refine Eq.trans ?_ (reference_normed A0 A1 A2 A3 A4 A5 A6 A7 r k)
    exact congrArg (val_main_v37 (F := Ideal) A0 A1 A2 A3 A4 A5 A6 A7) (funext fun a => match a with | 0 => rfl | 1 => rfl)
  · refine Eq.trans ?_ (reference_weights4 A8 k j)
    exact congrArg (val_main_v38 (F := Ideal) A8) (funext fun a => match a with | 0 => rfl | 1 => rfl)

theorem reference_inner (r : Fin 8704) (j : Fin 8192) : val_main_v42 (F := Ideal) A0 A1 A2 A3 A4 A5 A6 A7 A8 (ix2 r j)
    = inner A0 A1 A2 A3 A4 A5 A6 A7 A8 r j := by
  rw [val_main_v42_apply, val_main_v41_apply, val_main_v40_apply, reference_up, val_main_call0_v0_apply, val_main_call0_cst_apply]
  show max _ (Ideal.ofBits .f32 0x00000000#32) * max _ (Ideal.ofBits .f32 0x00000000#32) = _
  rw [Ideal.ofBits_zero_f32]
  rfl

theorem reference_result1 : val_main_v23 (F := Ideal) A0 A1 A2 A3 A4 A5 A6
    = fun y => stream A0 A1 A2 A3 A4 A5 A6 (y 0).val (y 1).val :=
  funext fun y => (congrArg (val_main_v23 (F := Ideal) A0 A1 A2 A3 A4 A5 A6) (index_two y)).trans
    (reference_stream A0 A1 A2 A3 A4 A5 A6 (y 0) (y 1))

theorem reference_result2 : val_main_v42 (F := Ideal) A0 A1 A2 A3 A4 A5 A6 A7 A8
    = fun y => inner A0 A1 A2 A3 A4 A5 A6 A7 A8 (y 0).val (y 1).val :=
  funext fun y => (congrArg (val_main_v42 (F := Ideal) A0 A1 A2 A3 A4 A5 A6 A7 A8) (index_two y)).trans
    (reference_inner A0 A1 A2 A3 A4 A5 A6 A7 A8 (y 0) (y 1))

end

theorem equal : Cert.algebraic_OutputIdeal_OutputRefIdeal := by
  intro m g m' g' _ hag
  refine ⟨fun c y => stream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (y 0).val (y 1).val,
    fun c y => inner (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (y 0).val (y 1).val, ?_, ?_⟩
  · refine (θ_run _ _ _).mono (fun r h c => ?_) (run m g)
    exact ⟨(h c _ (mem_uc main_v10 (by decide))).trans (result1 m g c), (h c _ (mem_uc main_v16 (by decide))).trans (result2 m g c),
      (h c _ (mem_uc main_arg0 (by decide))).trans (W10_main_arg0 m g c), (h c _ (mem_uc main_arg1 (by decide))).trans (W10_main_arg1 m g c), (h c _ (mem_uc main_arg2 (by decide))).trans (W10_main_arg2 m g c), (h c _ (mem_uc main_arg3 (by decide))).trans (W10_main_arg3 m g c), (h c _ (mem_uc main_arg4 (by decide))).trans (W10_main_arg4 m g c), (h c _ (mem_uc main_arg5 (by decide))).trans (W10_main_arg5 m g c), (h c _ (mem_uc main_arg6 (by decide))).trans (W10_main_arg6 m g c), (h c _ (mem_uc main_arg7 (by decide))).trans (W10_main_arg7 m g c), (h c _ (mem_uc main_arg8 (by decide))).trans (W10_main_arg8 m g c)⟩
  · refine (θ_run _ _ _).mono (fun r h c => ?_) (Cert.OutputRefIdeal.Value.run m' g')
    obtain ⟨e0, e1, e2, e3, e4, e5, e6, e7, e8⟩ := hag c
    refine ⟨(h c).1.trans ?_, (h c).2.1.trans ?_, (h c).2.2⟩
    · refine (Cert.OutputRefIdeal.Read.val_main_v23_eq _ _ _ _ _ _ _).trans ?_
      rw [e0, e1, e2, e3, e4, e5, e6]
      exact reference_result1 _ _ _ _ _ _ _
    · refine (Cert.OutputRefIdeal.Read.val_main_v42_eq _ _).trans ?_
      rw [e0, e1, e2, e3, e4, e5, e6, e7, e8]
      exact reference_result2 _ _ _ _ _ _ _ _ _

end Cert.Dense.Output
end
-- ==== Proof.Down.lean ====
/- The second product of the perceptron: the kernel's four blocks of columns sum to the reference's product. -/
module

public import proofs.«01_k».proof.Defs
public import proofs.«01_k».proof.Proof.Dense
public import proofs.«01_k».proof.Proof.Gen.Down.Frame
public import proofs.«01_k».proof.Proof.Gen.DownIdeal.Value
public import proofs.«01_k».proof.Proof.Gen.DownRefIdeal.Read
public import Idealize.ShloMosaic.Lib.Pipeline.ValueKit
public import Idealize.ShloMosaic.Lib.Claim

@[expose] public section

set_option maxRecDepth 16384

noncomputable section

namespace Cert.Dense.Down
open Idealize.ShloMosaic Idealize.ShloMosaic.TcCoe Idealize.SL.Sem Cert.DownIdeal Cert.DownIdeal.Gen

/-! ## The payloads -/

theorem payload_zero (y : S512x1024.Idx) : k0_pay1 (F := Ideal) y = 0 := by
  pointwise [k0_pay1]

theorem payload_add (a : Vec Ideal S512x1024 .f32) (x : Vec Ideal S512x2048 .bf16) (w : Vec Ideal S2048x1024 .bf16) (r : Fin 512) (j : Fin 1024) :
    k0_pay2 a x w (ix2 r j) = a (ix2 r j) + ∑ k : Fin 2048, x (ix2 r k) * w (ix2 k j) := by
  pointwise [k0_pay2]

theorem payload_last (a b : Vec Ideal S512x1024 .f32) (y : S512x1024.Idx) : k0_pay3 a b y = b y + a y := rfl

/-! ## The windows -/

theorem idx : ∀ t : Fin cfg0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2] :=
  (by decide +kernel : ∀ t : Fin grid0.N, _)

section
variable (m : (ℓ : Loc nD τ sig) → Buf (Elt Ideal) ℓ) (c : Dev nD)

/-- The stream, the perceptron's rows and its weights. -/
def stream (r j : ℕ) : EReal := read2 (m ((c : Thread nD τ).loc main_arg0)) r j
def rows (r k : ℕ) : EReal := read2 (m ((c : Thread nD τ).loc main_arg1)) r k
def weights (k j : ℕ) : EReal := read3 (m ((c : Thread nD τ).loc main_arg2)) 0 k j

theorem block0 (t : Fin cfg0.N) (r : Fin 512) (k : Fin 2048) : iblk m c 0 t (ix2 r k) = rows m c (t.val / 8 * 512 + r) (t.val % 4 * 2048 + k) := by
  have ht : t.val < 136 := lt_of_lt_of_eq t.isLt (show cfg0.N = 136 from N_0)
  rw [rows, ← read2_apply (m ((c : Thread nD τ).loc main_arg1)) ⟨t.val / 8 * 512 + r, by omega⟩ ⟨t.val % 4 * 2048 + k, by omega⟩]
  blk_ext [iblk, V, idx t]

theorem block1 (t : Fin cfg0.N) (k : Fin 2048) (j : Fin 1024) : iblk m c 1 t (ix2 k j) = weights m c (t.val % 4 * 2048 + k) (t.val / 4 % 2 * 1024 + j) := by
  rw [weights, show read3 (m ((c : Thread nD τ).loc main_arg2)) 0 (t.val % 4 * 2048 + k) (t.val / 4 % 2 * 1024 + j)
      = m ((c : Thread nD τ).loc main_arg2) (ix3 0 ⟨t.val % 4 * 2048 + k, by omega⟩ ⟨t.val / 4 % 2 * 1024 + j, by omega⟩)
    from (read3_apply _ 0 ⟨t.val % 4 * 2048 + k, by omega⟩ ⟨t.val / 4 % 2 * 1024 + j, by omega⟩).symm]
  blk_simp [iblk, idx t]
  entry_read
  pointwise
  blk_ext [idx t]

theorem block2 (t : Fin cfg0.N) (r : Fin 512) (j : Fin 1024) : iblk m c 2 t (ix2 r j) = stream m c (t.val / 8 * 512 + r) (t.val / 4 % 2 * 1024 + j) := by
  have ht : t.val < 136 := lt_of_lt_of_eq t.isLt (show cfg0.N = 136 from N_0)
  rw [stream, ← read2_apply (m ((c : Thread nD τ).loc main_arg0)) ⟨t.val / 8 * 512 + r, by omega⟩ ⟨t.val / 4 % 2 * 1024 + j, by omega⟩]
  blk_ext [iblk, V, idx t]

/-! ## The accumulator -/

/-- What point `n` adds at row `r` and column `j` of its block. -/
def part (n : ℕ) (y : S512x1024.Idx) : EReal :=
  ∑ k : Fin 2048, rows m c (n / 8 * 512 + (y 0).val) (n % 4 * 2048 + k) * weights m c (n % 4 * 2048 + k) (n / 4 % 2 * 1024 + (y 1).val)

theorem add_part (t : Fin cfg0.N) (a : Vec Ideal S512x1024 .f32) (r : Fin 512) (j : Fin 1024) (y : S512x1024.Idx) (hy : y = ix2 r j) :
    k0_pay2 a (iblk m c 0 t) (iblk m c 1 t) y = a y + part m c t.val y := by
  subst hy
  rw [payload_add a (iblk m c 0 t) (iblk m c 1 t) r j]
  refine congrArg (a (ix2 r j) + ·) (Finset.sum_congr rfl fun k _ => ?_)
  rw [block0, block1]
  rfl

theorem scratch_first (t : Fin cfg0.N) (h : t.val % 4 = 0) :
    (outsAt0 m c t.val t.isLt).2 = k0_pay2 k0_pay1 (iblk m c 0 t) (iblk m c 1 t) := by
  rw [outsAt0_A m c t h (by omega)]
  frame_out

theorem scratch_next (t : Fin cfg0.N) (h : ¬t.val % 4 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 4 = 3
  · rw [outsAt0_C m c t h h1]
    frame_out
    exact congrArg (fun a => k0_pay2 a (iblk m c 0 t) (iblk m c 1 t)) (Memref.IsWhole.read_unread (Memref.isWhole_whole cc0_scratch0) _)
  · rw [outsAt0_B m c t h h1]
    frame_out
    exact congrArg (fun a => k0_pay2 a (iblk m c 0 t) (iblk m c 1 t)) (Memref.IsWhole.read_unread (Memref.isWhole_whole cc0_scratch0) _)

theorem out_last (t : Fin cfg0.N) (h : t.val % 4 = 3) :
    (outsAt0 m c t.val t.isLt).1 = k0_pay3 (outsAt0 m c t.val t.isLt).2 (iblk m c 2 t) := by
  rw [scratch_next m c t (by omega), outsAt0_C m c t (by omega) h]
  frame_out
  exact congrArg (fun a => k0_pay3 (k0_pay2 a (iblk m c 0 t) (iblk m c 1 t)) (iblk m c 2 t))
    (Memref.IsWhole.read_unread (Memref.isWhole_whole cc0_scratch0) _)

theorem scratch_last (t : Fin cfg0.N) (h : t.val % 4 = 3) (y : S512x1024.Idx) :
    (outsAt0 m c t.val t.isLt).2 y = 0 + ∑ s ∈ Finset.range (3 + 1), part m c (4 * (t.val / 4) + s) y :=
  Pipeline.eq_sum_of_reset_step_apply_of_mod (fun n h => (outsAt0 m c n h).2) 4 (fun _ => (0 : EReal)) (part m c)
    (fun t h y => by
      rw [scratch_first m c t h]
      refine (add_part m c t (k0_pay1 (F := Ideal)) (y 0) (y 1) y (index_two y)).trans ?_
      rw [payload_zero y])
    (fun t h y => by
      rw [scratch_next m c t h]
      exact add_part m c t _ (y 0) (y 1) y (index_two y))
    t h y

theorem parts (b : ℕ) (y : S512x1024.Idx) : ∑ s ∈ Finset.range (3 + 1), part m c (4 * b + s) y
    = dot 8192 (rows m c) (weights m c) (b / 2 * 512 + (y 0).val) (b % 2 * 1024 + (y 1).val) := by
  rw [Finset.sum_range]
  refine Fin.sum_mul_add_congr fun s k hl => ?_
  rw [show (4 * b + s.val) / 8 = b / 2 by omega, show (4 * b + s.val) % 4 = s.val by omega, show (4 * b + s.val) / 4 % 2 = b % 2 by omega]

theorem stored (t : Fin cfg0.N) (h : t.val % 4 = 3) (r : Fin 512) (j : Fin 1024) (y : S512x1024.Idx) (hy : y = ix2 r j) :
    (outsAt0 m c t.val t.isLt).1 y = stream m c (t.val / 8 * 512 + r) (t.val / 4 % 2 * 1024 + j)
      + dot 8192 (rows m c) (weights m c) (t.val / 8 * 512 + r) (t.val / 4 % 2 * 1024 + j) := by
  rw [out_last m c t h, payload_last, scratch_last m c t h y, parts, zero_add]
  subst hy
  rw [block2, show t.val / 4 / 2 = t.val / 8 by omega]
  rfl

theorem final : (dats m 0 c).arrAt 3 cfg0.N
    = fun y => stream m c (y 0).val (y 1).val + dot 8192 (rows m c) (weights m c) (y 0).val (y 1).val := by
  refine (dats m 0 c).arrAt_eq_of_covers 3 _ (by decide +kernel) fun t hf y => ?_
  blk_simp [idx t]
  rw [after0_3]
  exact stored m c t ((flush0_3 t).mp hf) (y 0) (y 1) y (funext fun a => match a with | 0 => rfl | 1 => rfl)

end

theorem frame_word : Cert.quiescent_Down := fun m ρ _ => Cert.Down.Gen.frame m ρ

theorem frame_ideal : Cert.quiescent_DownIdeal := fun m ρ _ => Cert.DownIdeal.Gen.frame m ρ

theorem frame_reference : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

section
open Cert.DownRefIdeal.Read

theorem reference_apply (A : FVec Ideal S8704x2048 .f32) (U : FVec Ideal S8704x8192 .bf16) (W : FVec Ideal S1x8192x2048 .f32)
    (r : Fin 8704) (j : Fin 2048) :
    val_main_v3 (F := Ideal) A U W (ix2 r j) = read2 A r j + dot 8192 (read2 U) (fun k j => read3 W 0 k j) r j := by
  rw [val_main_v3_apply, val_main_v2_apply]
  refine congrArg₂ (· + ·) (read2_apply A r j) (Finset.sum_congr rfl fun k _ => congrArg₂ (· * ·) ?_ ?_)
  · refine Eq.trans ?_ (read2_apply U r k)
    exact congrArg U (funext fun a => match a with | 0 => rfl | 1 => rfl)
  · rw [val_main_v1_apply]
    refine Eq.trans (congrArg W (funext fun a => ?_)) (read3_apply W 0 k j)
    have hk := k.isLt
    have hj := j.isLt
    refine match a with
    | 0 => rfl
    | 1 => Fin.ext ?_
    | 2 => Fin.ext ?_
    · show (k.val * 2048 + j.val) / 2048 % 8192 = k.val
      omega
    · show (k.val * 2048 + j.val) % 2048 = j.val
      omega

end

theorem equal : Cert.algebraic_DownIdeal_DownRefIdeal := by
  intro m g m' g' _ hag
  refine ⟨fun c y => stream m c (y 0).val (y 1).val + dot 8192 (rows m c) (weights m c) (y 0).val (y 1).val, ?_, ?_⟩
  · refine (θ_run _ _ _).mono (fun r h c => ⟨(h c).1.trans (final m c), (h c).2⟩) (Cert.DownIdeal.Value.run_blocks m g)
  · refine (θ_run _ _ _).mono (fun r h c => ⟨(h c).1.trans ?_, (h c).2⟩) (Cert.DownRefIdeal.Value.run m' g')
    rw [Cert.DownRefIdeal.Read.val_main_v3_eq, (hag c).1, (hag c).2.1, (hag c).2.2]
    funext y
    rw [index_two y]
    exact reference_apply _ _ _ _ _

end Cert.Dense.Down
end
-- ==== Proof.Norm.lean ====
/- The last normalisation: kernel and reference give the same rows. -/
module

public import proofs.«01_k».proof.Defs
public import proofs.«01_k».proof.Proof.Dense
public import proofs.«01_k».proof.Proof.Gen.Norm.Frame
public import proofs.«01_k».proof.Proof.Gen.NormIdeal.Value
public import proofs.«01_k».proof.Proof.Gen.NormRefIdeal.Read
public import Idealize.ShloMosaic.Lib.Pipeline.ValueKit
public import Idealize.ShloMosaic.Lib.Claim

@[expose] public section

set_option maxRecDepth 16384

noncomputable section

namespace Cert.Dense.Norm
open Idealize.ShloMosaic Idealize.ShloMosaic.TcCoe Idealize.SL.Sem Cert.NormIdeal Cert.NormIdeal.Gen

theorem payload_apply (x : Vec Ideal S256x2048 .f32) (g : Vec Ideal S1x2048 .f32) (X : ℕ → ℕ → EReal) (G : ℕ → EReal) (r : Fin 256)
    (c : Fin 2048) (hx : ∀ c : Fin 2048, x (ix2 r c) = X r c) (hg : ∀ c : Fin 2048, g (ix2 0 c) = G c) :
    k0_pay1 x g (ix2 r c) = norm X G r c := by
  pointwise [k0_pay1]
  simp only [hx, hg]
  rfl

theorem out_eq (x : Vec Ideal S256x2048 .f32) (g : Vec Ideal S1x2048 .f32) : out0_2 x g = k0_pay1 x g := by
  unfold out0_2
  rw [View.canon_cons_unit_lit _ _ _ (by decide), View.ld_unit_lit _ x (by decide), View.ld_unit_lit _ g (by decide)]

theorem idx : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

section
variable (m : (ℓ : Loc nD τ sig) → Buf (Elt Ideal) ℓ) (c : Dev nD)

theorem block0 (t : Fin cfg0.N) (r : Fin 256) (e : Fin 2048) : iblk m c 0 t (ix2 r e)
    = read2 (m ((c : Thread nD τ).loc main_arg0)) ((grid0.coords t 0).val * 256 + r) e := by
  have h0 : (grid0.coords t 0).val < 34 := (grid0.coords t 0).isLt
  rw [← read2_apply (m ((c : Thread nD τ).loc main_arg0)) ⟨(grid0.coords t 0).val * 256 + r, by omega⟩ e]
  blk_ext [iblk, V, idx t]

theorem block1 (t : Fin cfg0.N) (e : Fin 2048) : iblk m c 1 t (ix2 0 e)
    = read1 (m ((c : Thread nD τ).loc main_arg1)) e := by
  rw [← read1_apply]
  blk_simp [iblk, idx t]
  entry_read
  pointwise
  blk_ext [idx t]

theorem stored (t : Fin cfg0.N) (r : Fin 256) (e : Fin 2048) (y : S256x2048.Idx) (hy : y = ix2 r e) :
    k0_pay1 (iblk m c 0 t) (iblk m c 1 t) y = norm (read2 (m ((c : Thread nD τ).loc main_arg0)))
      (read1 (m ((c : Thread nD τ).loc main_arg1))) ((grid0.coords t 0).val * 256 + r) e := by
  subst hy
  rw [payload_apply (iblk m c 0 t) (iblk m c 1 t) (fun r e => read2 (m ((c : Thread nD τ).loc main_arg0)) ((grid0.coords t 0).val * 256 + r) e)
    (read1 (m ((c : Thread nD τ).loc main_arg1))) r e (fun e => block0 m c t r e) (fun e => block1 m c t e)]
  rfl

theorem final : (dats m 0 c).arrAt 2 cfg0.N
    = fun y => norm (read2 (m ((c : Thread nD τ).loc main_arg0))) (read1 (m ((c : Thread nD τ).loc main_arg1))) (y 0).val (y 1).val := by
  refine (dats m 0 c).arrAt_eq_of_covers 2 _ (by decide +kernel) fun t hf y => ?_
  blk_simp [idx t]
  rw [after0_2, out_eq]
  exact stored m c t (y 0) (y 1) y (funext fun a => match a with | 0 => rfl | 1 => rfl)

end

theorem frame_word : Cert.quiescent_Norm := fun m ρ _ => Cert.Norm.Gen.frame m ρ

theorem frame_ideal : Cert.quiescent_NormIdeal := fun m ρ _ => Cert.NormIdeal.Gen.frame m ρ

theorem frame_reference : Cert.quiescent_NormRefIdeal := fun m ρ _ =>
  (θ_run Cert.NormRefIdeal.defs _ _).mono (fun r h => ⟨fun c => (h c).2, sem_eq_zero_of_no_sems (by decide) r.2⟩)
    (Cert.NormRefIdeal.Value.run (F := Ideal) m ρ)

section
open Cert.NormRefIdeal.Read

theorem reference_apply (A : FVec Ideal S8704x2048 .f32) (G : FVec Ideal S2048 .f32) (r : Fin 8704) (e : Fin 2048) :
    val_main_v12 (F := Ideal) A G (ix2 r e) = norm (read2 A) (read1 G) r e := by
  rw [val_main_v12_apply, val_main_v9_apply, val_main_v8_apply, val_main_v7_apply, val_main_v6_apply, val_main_v4_apply,
    val_main_v5_apply, val_main_v2_apply, val_main_v3_apply, val_main_v1_apply, val_main_v11_apply, val_main_v10_apply]
  simp only [val_main_v0_apply, val_main_cst_apply, val_main_cst_0_apply, val_main_cst_1_apply]
  refine norm_host (read2 A) (read1 G) r e _ _ _ (read2_apply A r e) (fun k => ?_) ?_
  · rw [← read2_apply]
    exact congrArg A (funext fun a => match a with | 0 => rfl | 1 => rfl)
  · rw [← read1_apply]
    exact congrArg G (funext fun a => match a with | 0 => rfl)

end

theorem equal : Cert.algebraic_NormIdeal_NormRefIdeal := by
  intro m g m' g' _ hag
  refine ⟨fun c y => norm (read2 (m ((c : Thread nD τ).loc main_arg0))) (read1 (m ((c : Thread nD τ).loc main_arg1)))
    (y 0).val (y 1).val, ?_, ?_⟩
  · refine (θ_run _ _ _).mono (fun r h c => ⟨(h c).1.trans (final m c), (h c).2⟩) (Cert.NormIdeal.Value.run_blocks m g)
  · refine (θ_run _ _ _).mono (fun r h c => ⟨(h c).1.trans ?_, (h c).2⟩) (Cert.NormRefIdeal.Value.run m' g')
    rw [Cert.NormRefIdeal.Read.val_main_v12_eq, (hag c).1, (hag c).2]
    funext y
    rw [index_two y]
    exact reference_apply _ _ _ _

end Cert.Dense.Norm
end
-- ==== Proof.SamplePayload.lean ====
/- What one step of the paged attention computes. A step takes four pages; row `R` of its 64 is query `R % 8` of head
   `R / 8`. The definitions name the parts of the step, the theorems say what each part is at an index, over exact values. -/
module

public import proofs.«01_k».proof.Proof.Payload
public import proofs.«01_k».proof.Proof.Gen.SampleIdeal.Skeleton
public import Idealize.ShloMosaic.Lib.Pointwise
public import Idealize.ShloMosaic.Lib.WordCmp

@[expose] public section

set_option maxRecDepth 16384

noncomputable section

namespace Cert.Paged
open Idealize.ShloMosaic Idealize.ShloMosaic.WordCmp Cert.SampleIdeal Cert.SampleIdeal.Gen Cert.Stick

variable {F : FTy → Type} [FloatOps F]

/-- The rows of a page that hold one head: every eighth, from the head's number on. -/
def headRows (h : Fin 8) : LoadRect S1x1x1024x128 :=
  ⟨![0, 0, h.val, 0], S1x1x128x128.size, ![1, 1, 8, 1], by
    have := h.isLt
    intro a
    match a with
    | ⟨0, _⟩ => exact Or.inr (by show 0 + 1 * (1 - 1) < 1; decide)
    | ⟨1, _⟩ => exact Or.inr (by show 0 + 1 * (1 - 1) < 1; decide)
    | ⟨2, _⟩ => exact Or.inr (by show h.val + 8 * (128 - 1) < 1024; omega)
    | ⟨3, _⟩ => exact Or.inr (by show 0 + 1 * (128 - 1) < 128; decide)⟩

/-- One head of a page. -/
def head (x : Vec F S1x1x1024x128 .f32) (h : Fin 8) : FVec F S1x128x128 .bf16 :=
  shapeCast S1x128x128 (truncf .bf16 (shapeCast S128x128 (fun y => x ((headRows h).idx y) : Vec F S1x1x128x128 .f32)
    shapeCasts_S1x1x128x128_S128x128) bitsLt_bf16_f32) shapeCasts_S128x128_S1x128x128

/-- The heads of four pages, page by page. -/
def heads (x : Fin 4 → Vec F S1x1x1024x128 .f32) : FVec F S32x128x128 .bf16 :=
  concatenate S32x128x128 0 [⟨S1x128x128, head (x 0) 0⟩, ⟨S1x128x128, head (x 0) 1⟩, ⟨S1x128x128, head (x 0) 2⟩, ⟨S1x128x128, head (x 0) 3⟩, ⟨S1x128x128, head (x 0) 4⟩, ⟨S1x128x128, head (x 0) 5⟩, ⟨S1x128x128, head (x 0) 6⟩, ⟨S1x128x128, head (x 0) 7⟩, ⟨S1x128x128, head (x 1) 0⟩, ⟨S1x128x128, head (x 1) 1⟩, ⟨S1x128x128, head (x 1) 2⟩, ⟨S1x128x128, head (x 1) 3⟩, ⟨S1x128x128, head (x 1) 4⟩, ⟨S1x128x128, head (x 1) 5⟩, ⟨S1x128x128, head (x 1) 6⟩, ⟨S1x128x128, head (x 1) 7⟩, ⟨S1x128x128, head (x 2) 0⟩, ⟨S1x128x128, head (x 2) 1⟩, ⟨S1x128x128, head (x 2) 2⟩, ⟨S1x128x128, head (x 2) 3⟩, ⟨S1x128x128, head (x 2) 4⟩, ⟨S1x128x128, head (x 2) 5⟩, ⟨S1x128x128, head (x 2) 6⟩, ⟨S1x128x128, head (x 2) 7⟩, ⟨S1x128x128, head (x 3) 0⟩, ⟨S1x128x128, head (x 3) 1⟩, ⟨S1x128x128, head (x 3) 2⟩, ⟨S1x128x128, head (x 3) 3⟩, ⟨S1x128x128, head (x 3) 4⟩, ⟨S1x128x128, head (x 3) 5⟩, ⟨S1x128x128, head (x 3) 6⟩, ⟨S1x128x128, head (x 3) 7⟩]
    concatenates_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S1x128x128_S32x128x128_d0

/-- One head of the padded new keys or values. -/
def newHead (x : Vec F S128x128 .f32) : FVec F S1x128x128 .bf16 :=
  shapeCast S1x128x128 (truncf .bf16 x bitsLt_bf16_f32) shapeCasts_S128x128_S1x128x128

def newHeads (x : Fin 8 → Vec F S128x128 .f32) : FVec F S8x128x128 .bf16 :=
  concatenate S8x128x128 0 [⟨S1x128x128, newHead (x 0)⟩, ⟨S1x128x128, newHead (x 1)⟩, ⟨S1x128x128, newHead (x 2)⟩, ⟨S1x128x128, newHead (x 3)⟩, ⟨S1x128x128, newHead (x 4)⟩, ⟨S1x128x128, newHead (x 5)⟩, ⟨S1x128x128, newHead (x 6)⟩, ⟨S1x128x128, newHead (x 7)⟩]
    concatenates_S1x128x128_S1x128x128_S1x128x128_S1x128x128_S1x128x128_S1x128x128_S1x128x128_S1x128x128_S8x128x128_d0

/-- The scores of four pages. -/
def scores (q : FVec F S8x8x128 .bf16) (k : FVec F S32x128x128 .bf16) (β : Vec F S64x128 .f32) : FVec F S4x64x128 .f32 :=
  addf (mulf (shapeCast S4x64x128 (matmul dot_S32x8x128_S32x128x128_S32x8x128_2_2_1_1_0_0 none
      (concatenate S32x8x128 0 [⟨S8x8x128, q⟩, ⟨S8x8x128, q⟩, ⟨S8x8x128, q⟩, ⟨S8x8x128, q⟩] concatenates_S8x8x128_S8x8x128_S8x8x128_S8x8x128_S32x8x128_d0)
      k (constant S32x8x128 .f32 0x00000000#32)) shapeCasts_S32x8x128_S4x64x128) (broadcast S4x64x128 (Scalar.ofBits .f32 0x3DB504F3#32)))
    (broadcastTo S4x64x128 (shapeCast S1x64x128 (shapeCast S64x128 β shapeCasts_S64x128_S64x128) shapeCasts_S64x128_S1x64x128) broadcasts_S1x64x128_S4x64x128)

/-- The scores of the new keys. -/
def newScores (q : FVec F S8x8x128 .bf16) (k : FVec F S8x128x128 .bf16) (β : Vec F S64x128 .f32) : FVec F S64x128 .f32 :=
  shapeCast S64x128 (addf (mulf (shapeCast S1x64x128 (matmul dot_S8x8x128_S8x128x128_S8x8x128_2_2_1_1_0_0 none q
      k (constant S8x8x128 .f32 0x00000000#32)) shapeCasts_S8x8x128_S1x64x128) (broadcast S1x64x128 (Scalar.ofBits .f32 0x3DB504F3#32)))
    (shapeCast S1x64x128 (shapeCast S64x128 β shapeCasts_S64x128_S64x128) shapeCasts_S64x128_S1x64x128)) shapeCasts_S1x64x128_S64x128

/-- The logarithms a block of keys leaves. -/
def left (z : FVec F S64x128 .f32) : FVec F S64x128 .f32 :=
  subf (broadcast S64x128 (Scalar.ofBits .f32 0x00000000#32)) (addf (maximumf z (broadcast S64x128 (Scalar.ofBits .f32 0x00000000#32)))
    (log1p (exp (subf (broadcast S64x128 (Scalar.ofBits .f32 0x00000000#32)) (absf z)))))

/-- What the later keys of the block leave. -/
def after (l : FVec F S64x128 .f32) : FVec F S64x128 .f32 :=
  have s : FVec F S128x128 .f32 := matmul dot_S128x128_S128x128_S128x128_1_0_0_1_n_n none
    (concatenate S128x128 0 [⟨S64x128, truncf .bf16 l bitsLt_bf16_f32⟩,
      ⟨S64x128, truncf .bf16 (subf l (extf .f32 (truncf .bf16 l bitsLt_bf16_f32) bitsLt_bf16_f32)) bitsLt_bf16_f32⟩] concatenates_S64x128_S64x128_S128x128_d0)
    (k0_pay28 (F := F)) (constant S128x128 .f32 0x00000000#32)
  addf (extractStridedSlice S64x128 ![0, 0] s slices_S128x128_o0_0_S64x128) (extractStridedSlice S64x128 ![64, 0] s slices_S128x128_o64_0_S64x128)

/-- The weights of a block of keys, given what the keys after it leave. -/
def weights (z : FVec F S64x128 .f32) (κ : FVec F S64x1 .f32) : FVec F S64x128 .f32 :=
  exp (addf (addf (addf z (left z)) (after (left z))) (broadcastTo S64x128 κ broadcasts_S64x1_S64x128))

/-- A block's sum of what its keys leave, added to the keys' after it. -/
def carry (z : FVec F S64x128 .f32) (κ : FVec F S64x1 .f32) : FVec F S64x1 .f32 :=
  addf κ (shapeCast S64x1 (multiReduction .add [1] S64 (left z) 0x00000000#32 reduces_S64x128_S64 (.inl rfl) rfl) shapeCasts_S64_S64x1)

/-- The scores of the pages, one by one. -/
def slot0 (z : FVec F S4x64x128 .f32) : FVec F S64x128 .f32 :=
  shapeCast S64x128 (extractStridedSlice S1x64x128 ![0, 0, 0] z slices_S4x64x128_o0_0_0_S1x64x128) shapeCasts_S1x64x128_S64x128

def slot1 (z : FVec F S4x64x128 .f32) : FVec F S64x128 .f32 :=
  shapeCast S64x128 (extractStridedSlice S1x64x128 ![1, 0, 0] z slices_S4x64x128_o1_0_0_S1x64x128) shapeCasts_S1x64x128_S64x128

def slot2 (z : FVec F S4x64x128 .f32) : FVec F S64x128 .f32 :=
  shapeCast S64x128 (extractStridedSlice S1x64x128 ![2, 0, 0] z slices_S4x64x128_o2_0_0_S1x64x128) shapeCasts_S1x64x128_S64x128

def slot3 (z : FVec F S4x64x128 .f32) : FVec F S64x128 .f32 :=
  shapeCast S64x128 (extractStridedSlice S1x64x128 ![3, 0, 0] z slices_S4x64x128_o3_0_0_S1x64x128) shapeCasts_S1x64x128_S64x128

/-- What a step leaves in the carry. -/
def stepCarry (z : FVec F S4x64x128 .f32) (κ : FVec F S64x1 .f32) : FVec F S64x1 .f32 :=
  carry (slot3 z) (carry (slot2 z) (carry (slot1 z) (carry (slot0 z) κ)))

/-- A step's weights. -/
def stepWeights (z : FVec F S4x64x128 .f32) (κ : FVec F S64x1 .f32) : FVec F S4x64x128 .f32 :=
  concatenate S4x64x128 0 [⟨S1x64x128, shapeCast S1x64x128 (weights (slot0 z) κ) shapeCasts_S64x128_S1x64x128⟩,
    ⟨S1x64x128, shapeCast S1x64x128 (weights (slot1 z) (carry (slot0 z) κ)) shapeCasts_S64x128_S1x64x128⟩,
    ⟨S1x64x128, shapeCast S1x64x128 (weights (slot2 z) (carry (slot1 z) (carry (slot0 z) κ))) shapeCasts_S64x128_S1x64x128⟩,
    ⟨S1x64x128, shapeCast S1x64x128 (weights (slot3 z) (carry (slot2 z) (carry (slot1 z) (carry (slot0 z) κ)))) shapeCasts_S64x128_S1x64x128⟩]
    concatenates_S1x64x128_S1x64x128_S1x64x128_S1x64x128_S4x64x128_d0

/-- The weighted sum of four pages' values, added to what was there. -/
def stepOut (w : FVec F S4x64x128 .f32) (v : FVec F S32x128x128 .bf16) (acc : Vec F S64x128 .f32) : FVec F S64x128 .f32 :=
  addf acc (multiReduction .add [0] S64x128 (shapeCast S4x64x128 (matmul dot_S32x8x128_S32x128x128_S32x8x128_2_1_1_2_0_0 none
    (truncf .bf16 (shapeCast S32x8x128 w shapeCasts_S4x64x128_S32x8x128) bitsLt_bf16_f32) v (constant S32x8x128 .f32 0x00000000#32))
    shapeCasts_S32x8x128_S4x64x128) 0x00000000#32 reduces_S4x64x128_S64x128 (.inl rfl) rfl)

/-- The mask of the new keys: those before the query's own. -/
def mask : IVec S64x128 1 := k0_pay10 (iota .tc S64x128 32 [1] iota_S64x128_d1_w32) k0_pay7 k0_pay8 k0_pay9

/-- What the new keys leave. -/
def newLeft (z : FVec F S64x128 .f32) : FVec F S64x128 .f32 :=
  select mask (left z) (broadcast S64x128 (Scalar.ofBits .f32 0x00000000#32))

def newCarry (z : FVec F S64x128 .f32) : FVec F S64x1 .f32 :=
  shapeCast S64x1 (multiReduction .add [1] S64 (newLeft z) 0x00000000#32 reduces_S64x128_S64 (.inl rfl) rfl) shapeCasts_S64_S64x1

def newWeights (z : FVec F S64x128 .f32) : FVec F S64x128 .bf16 :=
  truncf .bf16 (select mask (exp (addf (addf (addf z (newLeft z)) (after (newLeft z))) (broadcast S64x128 (Scalar.ofBits .f32 0x00000000#32))))
    (broadcast S64x128 (Scalar.ofBits .f32 0x00000000#32))) bitsLt_bf16_f32

def newOut (w : FVec F S64x128 .bf16) (v : FVec F S8x128x128 .bf16) : FVec F S64x128 .f32 :=
  shapeCast S64x128 (shapeCast S1x64x128 (matmul dot_S8x8x128_S8x128x128_S8x8x128_2_1_1_2_0_0 none
    (shapeCast S8x8x128 w shapeCasts_S64x128_S8x8x128) v (constant S8x8x128 .f32 0x00000000#32)) shapeCasts_S8x8x128_S1x64x128) shapeCasts_S1x64x128_S64x128

/-! ## The parts at an index -/

theorem head_apply (x : Vec Ideal S1x1x1024x128 .f32) (h : Fin 8) (c d : Fin 128) :
    head x h (ix3 0 c d) = x (ix4 0 0 ⟨c.val * 8 + h.val, by omega⟩ d) := by
  pointwise [head]
  refine congrArg x (funext fun a => Fin.ext ?_)
  match a with
  | ⟨0, _⟩ => rfl
  | ⟨1, _⟩ => rfl
  | ⟨2, _⟩ => show h.val + 8 * c.val = c.val * 8 + h.val; omega
  | ⟨3, _⟩ => show 0 + 1 * d.val = d.val; omega

set_option maxHeartbeats 1600000 in
theorem heads_apply (x : Fin 4 → Vec Ideal S1x1x1024x128 .f32) (p : Fin 4) (h : Fin 8) (c d : Fin 128) :
    heads x (ix3 ⟨p.val * 8 + h.val, by omega⟩ c d) = x p (ix4 0 0 ⟨c.val * 8 + h.val, by omega⟩ d) := by
  refine Eq.trans ?_ (head_apply (x p) h c d)
  fin_cases p <;> fin_cases h <;> rfl

theorem newHeads_apply (x : Fin 8 → Vec Ideal S128x128 .f32) (h : Fin 8) (c d : Fin 128) :
    newHeads x (ix3 h c d) = x h (ix2 c d) := by
  have e : ∀ y : Vec Ideal S128x128 .f32, newHead y (ix3 0 c d) = y (ix2 c d) := fun y => by pointwise [newHead]
  refine Eq.trans ?_ (e (x h))
  fin_cases h <;> rfl

theorem scores_apply (q : FVec Ideal S8x8x128 .bf16) (k : FVec Ideal S32x128x128 .bf16) (β : Vec Ideal S64x128 .f32) (p : Fin 4) (h r : Fin 8)
    (c : Fin 128) (qr : ℕ → ℝ) (kr : ℕ → ℝ) (br : ℝ) (R : Fin 64) (hR : R.val = h.val * 8 + r.val)
    (hq : ∀ d : Fin 128, q (ix3 h r d) = ((qr d : ℝ) : EReal)) (hk : ∀ d : Fin 128, k (ix3 ⟨p.val * 8 + h.val, by omega⟩ c d) = ((kr d : ℝ) : EReal))
    (hb : β (ix2 R c) = ((br : ℝ) : EReal)) :
    scores q k β (ix3 p R c) = (((∑ d : Fin 128, qr d * kr d) * scale + br : ℝ) : EReal) := by
  have hlt : h.val * 8 + r.val < 64 := by omega
  obtain rfl : R = ⟨h.val * 8 + r.val, hlt⟩ := Fin.ext hR
  pointwise [scores]
  have hh : (h.val * 8 + r.val) / 8 = h.val := by omega
  simp only [hh, hb, scale_coe, hk]
  rw [EReal.coe_add, EReal.coe_mul, ← sum_coe]
  congr 2
  refine Finset.sum_congr rfl fun d _ => ?_
  rw [EReal.coe_mul, ← hq d]
  congr 1
  split_ifs <;> congr 2 <;> exact Fin.ext (by show _ = h.val; dsimp only; omega)

theorem newScores_apply (q : FVec Ideal S8x8x128 .bf16) (k : FVec Ideal S8x128x128 .bf16) (β : Vec Ideal S64x128 .f32) (h r : Fin 8)
    (c : Fin 128) (qr : ℕ → ℝ) (kr : ℕ → ℝ) (br : ℝ) (R : Fin 64) (hR : R.val = h.val * 8 + r.val)
    (hq : ∀ d : Fin 128, q (ix3 h r d) = ((qr d : ℝ) : EReal)) (hk : ∀ d : Fin 128, k (ix3 h c d) = ((kr d : ℝ) : EReal))
    (hb : β (ix2 R c) = ((br : ℝ) : EReal)) :
    newScores q k β (ix2 R c) = (((∑ d : Fin 128, qr d * kr d) * scale + br : ℝ) : EReal) := by
  have hlt : h.val * 8 + r.val < 64 := by omega
  obtain rfl : R = ⟨h.val * 8 + r.val, hlt⟩ := Fin.ext hR
  pointwise [newScores]
  simp only [hq, hk, hb, scale_coe]
  rw [EReal.coe_add, EReal.coe_mul, ← sum_coe]
  simp only [EReal.coe_mul]

theorem left_apply (z : FVec Ideal S64x128 .f32) (R : Fin 64) (c : Fin 128) (x : ℝ) (hz : z (ix2 R c) = ((x : ℝ) : EReal)) :
    left z (ix2 R c) = ((logKeep x : ℝ) : EReal) := by
  pointwise [left]
  rw [hz, Ideal.absf_def, logKeep_coe]

theorem triangle_apply (a c : Fin 128) :
    k0_pay28 (F := Ideal) (ix2 a c) = (((if c.val < a.val then 1 else 0 : ℝ)) : EReal) := by
  pointwise [k0_pay28]
  rw [cmpi_sgt_ofNat (by omega) (by omega)]
  show (((BitVec.setWidth 32 (BitVec.ofBool (decide (c.val < a.val)))).toInt : ℝ) : EReal) = _
  by_cases h : c.val < a.val <;> simp [h]

theorem after_apply (l : FVec Ideal S64x128 .f32) (R : Fin 64) (c : Fin 128) (f : ℕ → ℝ) (b : ℕ)
    (hl : ∀ c : Fin 128, l (ix2 R c) = ((f (b + c) : ℝ) : EReal)) :
    after l (ix2 R c) = ((∑ u ∈ Finset.Ico (b + c + 1) (b + 128), f u : ℝ) : EReal) := by
  pointwise [after]
  simp only [hl, triangle_apply, ← EReal.coe_sub, ← EReal.coe_mul, sum_coe, ← EReal.coe_add, sub_self, zero_mul,
    Finset.sum_const_zero, add_zero, sum_after]

theorem carry_apply (z : FVec Ideal S64x128 .f32) (κ : FVec Ideal S64x1 .f32) (R : Fin 64) (y : ℕ → ℝ) (b : ℕ) (k : ℝ)
    (hz : ∀ c : Fin 128, z (ix2 R c) = ((y (b + c) : ℝ) : EReal)) (hκ : κ (ix2 R 0) = ((k : ℝ) : EReal)) :
    carry z κ (ix2 R 0) = ((k + ∑ u ∈ Finset.Ico b (b + 128), logKeep (y u) : ℝ) : EReal) := by
  pointwise [carry]
  simp only [fun c => left_apply z R c _ (hz c), hκ]
  rw [sum_coe, ← EReal.coe_add, Finset.sum_Ico_eq_sum_range, show b + 128 - b = 128 by omega,
    ← Fin.sum_univ_eq_sum_range (fun c => logKeep (y (b + c)))]

theorem mask_apply (R : Fin 64) (c : Fin 128) : mask (ix2 R c) = BitVec.ofBool (decide (c.val < R.val % 8)) := by
  revert R c
  pointwise [mask, k0_pay10, k0_pay9, k0_pay8, k0_pay7]
  decide +kernel

theorem newLeft_apply (z : FVec Ideal S64x128 .f32) (R : Fin 64) (y : ℕ → ℝ) (b t : ℕ) (ht : t = b + R.val % 8)
    (hz : ∀ c : Fin 128, z (ix2 R c) = ((y (b + c) : ℝ) : EReal)) (c : Fin 128) :
    newLeft z (ix2 R c) = ((keep y t (b + c) : ℝ) : EReal) := by
  pointwise [newLeft]
  rw [mask_apply, left_apply z R c _ (hz c), keep]
  by_cases h : c.val < R.val % 8
  · simp [h, Scalar.select, show b + c.val < t by omega]
  · simp [h, Scalar.select, show ¬b + c.val < t by omega]

theorem newCarry_apply (z : FVec Ideal S64x128 .f32) (R : Fin 64) (y : ℕ → ℝ) (b t : ℕ) (ht : t = b + R.val % 8)
    (hz : ∀ c : Fin 128, z (ix2 R c) = ((y (b + c) : ℝ) : EReal)) :
    newCarry z (ix2 R 0) = ((∑ u ∈ Finset.Ico b (b + 128), keep y t u : ℝ) : EReal) := by
  pointwise [newCarry]
  simp only [newLeft_apply z R y b t ht hz]
  rw [sum_coe, Finset.sum_Ico_eq_sum_range, show b + 128 - b = 128 by omega, ← Fin.sum_univ_eq_sum_range (fun c => keep y t (b + c))]

theorem newWeights_apply (z : FVec Ideal S64x128 .f32) (R : Fin 64) (y : ℕ → ℝ) (b t : ℕ) (ht : t = b + R.val % 8)
    (hz : ∀ c : Fin 128, z (ix2 R c) = ((y (b + c) : ℝ) : EReal)) (c : Fin 128) :
    newWeights z (ix2 R c) = ((weight y t (b + 128) (b + c) : ℝ) : EReal) := by
  pointwise [newWeights]
  rw [mask_apply, hz, newLeft_apply z R y b t ht hz, after_apply _ R c (keep y t) b (newLeft_apply z R y b t ht hz), weight,
    ← EReal.coe_add, ← EReal.coe_add, Ideal.exp_coe]
  by_cases h : c.val < R.val % 8
  · simp [h, Scalar.select, show b + c.val < t by omega]
  · simp [h, Scalar.select, show ¬b + c.val < t by omega]

/-- The weights of a block of keys the query sees whole. -/
theorem weights_apply (z : FVec Ideal S64x128 .f32) (κ : FVec Ideal S64x1 .f32) (R : Fin 64) (y : ℕ → ℝ) (b t N : ℕ) (hb : b + 128 ≤ t) (hN : t ≤ N)
    (hz : ∀ c : Fin 128, z (ix2 R c) = ((y (b + c) : ℝ) : EReal))
    (hκ : κ (ix2 R 0) = ((∑ u ∈ Finset.Ico (b + 128) N, keep y t u : ℝ) : EReal)) (c : Fin 128) :
    weights z κ (ix2 R c) = ((weight y t N (b + c) : ℝ) : EReal) := by
  have hl : ∀ c : Fin 128, left z (ix2 R c) = ((keep y t (b + c) : ℝ) : EReal) := fun c => by
    rw [left_apply z R c _ (hz c), keep, if_pos (by omega)]
  pointwise [weights]
  rw [hz, hl, after_apply _ R c (keep y t) b hl, hκ, weight, if_pos (by omega), ← EReal.coe_add, ← EReal.coe_add, ← EReal.coe_add, Ideal.exp_coe,
    add_assoc (y (b + c.val) + _), Finset.sum_Ico_consecutive _ (by omega) (by omega)]

theorem carry_keep (z : FVec Ideal S64x128 .f32) (κ : FVec Ideal S64x1 .f32) (R : Fin 64) (y : ℕ → ℝ) (b t N : ℕ) (hb : b + 128 ≤ t) (hN : t ≤ N)
    (hz : ∀ c : Fin 128, z (ix2 R c) = ((y (b + c) : ℝ) : EReal))
    (hκ : κ (ix2 R 0) = ((∑ u ∈ Finset.Ico (b + 128) N, keep y t u : ℝ) : EReal)) :
    carry z κ (ix2 R 0) = ((∑ u ∈ Finset.Ico b N, keep y t u : ℝ) : EReal) := by
  have e : ∑ u ∈ Finset.Ico b (b + 128), logKeep (y u) = ∑ u ∈ Finset.Ico b (b + 128), keep y t u :=
    Finset.sum_congr rfl fun u hu => (if_pos (by rw [Finset.mem_Ico] at hu; omega)).symm
  rw [carry_apply z κ R y b _ hz hκ, e, ← Finset.sum_Ico_consecutive (keep y t) (by omega : b ≤ b + 128) (by omega : b + 128 ≤ N), add_comm]

theorem stepOut_apply (w : FVec Ideal S4x64x128 .f32) (v : FVec Ideal S32x128x128 .bf16) (acc : Vec Ideal S64x128 .f32) (R : Fin 64) (h : Fin 8)
    (hR : R.val / 8 = h.val) (d : Fin 128) (wr vr : Fin 4 → ℕ → ℝ) (ar : ℝ)
    (hw : ∀ (p : Fin 4) (c : Fin 128), w (ix3 p R c) = ((wr p c : ℝ) : EReal))
    (hv : ∀ (p : Fin 4) (c : Fin 128), v (ix3 ⟨p.val * 8 + h.val, by omega⟩ c d) = ((vr p c : ℝ) : EReal))
    (ha : acc (ix2 R d) = ((ar : ℝ) : EReal)) :
    stepOut w v acc (ix2 R d) = ((ar + ∑ p : Fin 4, ∑ c : Fin 128, wr p c * vr p c : ℝ) : EReal) := by
  pointwise [stepOut]
  simp only [hR, hw, hv, ha, ← EReal.coe_mul, sum_coe, ← EReal.coe_add]

theorem newOut_apply (w : FVec Ideal S64x128 .bf16) (v : FVec Ideal S8x128x128 .bf16) (R : Fin 64) (h : Fin 8)
    (hR : R.val / 8 = h.val) (d : Fin 128) (wr vr : ℕ → ℝ)
    (hw : ∀ c : Fin 128, w (ix2 R c) = ((wr c : ℝ) : EReal))
    (hv : ∀ c : Fin 128, v (ix3 h c d) = ((vr c : ℝ) : EReal)) :
    newOut w v (ix2 R d) = ((∑ c : Fin 128, wr c * vr c : ℝ) : EReal) := by
  pointwise [newOut]
  simp only [hR, hw, hv, ← EReal.coe_mul, sum_coe]

theorem stepWeights_apply (z : FVec Ideal S4x64x128 .f32) (κ : FVec Ideal S64x1 .f32) (R : Fin 64) (c : Fin 128) :
    stepWeights z κ (ix3 0 R c) = weights (slot0 z) κ (ix2 R c) ∧ stepWeights z κ (ix3 1 R c) = weights (slot1 z) (carry (slot0 z) κ) (ix2 R c)
    ∧ stepWeights z κ (ix3 2 R c) = weights (slot2 z) (carry (slot1 z) (carry (slot0 z) κ)) (ix2 R c)
    ∧ stepWeights z κ (ix3 3 R c) = weights (slot3 z) (carry (slot2 z) (carry (slot1 z) (carry (slot0 z) κ))) (ix2 R c) := by
  refine ⟨?_, ?_, ?_, ?_⟩ <;> pointwise [stepWeights]

theorem slot_apply (z : FVec Ideal S4x64x128 .f32) (R : Fin 64) (c : Fin 128) :
    slot0 z (ix2 R c) = z (ix3 0 R c) ∧ slot1 z (ix2 R c) = z (ix3 1 R c) ∧ slot2 z (ix2 R c) = z (ix3 2 R c) ∧ slot3 z (ix2 R c) = z (ix3 3 R c) := by
  refine ⟨?_, ?_, ?_, ?_⟩
  · pointwise [slot0]
  · pointwise [slot1]
  · pointwise [slot2]
  · pointwise [slot3]

end Cert.Paged
end
-- ==== Proof.SampleOuts.lean ====
/- What the paged attention's output and its two carried arrays, the sums and the carry of logarithms, hold after each point
   of the grid, over any float values and any page table that names pages of the pool. The grid goes over sequences and,
   inside, over steps of four pages: case A is a sequence's first step, C its last, B the others. -/
module

public import proofs.«01_k».proof.Proof.Gen.SampleIdeal.Frame.RunC
public import Idealize.ShloMosaic.Lib.Claim

@[expose] public section

set_option maxRecDepth 16384

noncomputable section

namespace Cert.Paged

open Idealize.ShloMosaic Idealize.ShloMosaic.TcCoe Idealize.ShloMosaic.Tactic Cert.SampleIdeal Cert.SampleIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Output 12's staging buffer after a sequence's first step, which stores nothing into it: no later point reads it and it is not written back. -/
def out0_A_12 (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : cond0_0 i) (hc1 : ¬cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) : Vec F S1x4x1024 .f32 :=
  VO0_12.read (Elt F) (VO0_12.writes (Elt F) VO0_12.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0).1)

/-- A sequence's first step stores every element of the output's sums, `arg16`. -/
theorem scover0_A_0 (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : cond0_0 i) (hc1 : ¬cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) (y : S64x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0).2.1 S64x128.size (by sl_kernel_rfl) y

/-- What a sequence's first step leaves in the output's sums, `arg16`. -/
def sout0_A_0 (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : cond0_0 i) (hc1 : ¬cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) : Vec F S64x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0).2.1)

/-- A sequence's first step stores every element of the carry, `arg17`. -/
theorem scover0_A_1 (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : cond0_0 i) (hc1 : ¬cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) (y : S64x1.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0).2.2.1 S64x1.size (by sl_kernel_rfl) y

/-- What a sequence's first step leaves in the carry, `arg17`. -/
def sout0_A_1 (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : cond0_0 i) (hc1 : ¬cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) : Vec F S64x1 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0).2.2.1)

/-- Output 12's staging buffer after a step between, which stores nothing into it: no later point reads it and it is not written back. -/
def out0_B_12 (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : ¬cond0_0 i) (hc1 : ¬cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) (xs0 : Vec F S64x128 .f32) (xs1 : Vec F S64x1 .f32) : Vec F S1x4x1024 .f32 :=
  VO0_12.read (Elt F) (VO0_12.writes (Elt F) VO0_12.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1).1)

/-- A step between stores every element of the output's sums, `arg16`. -/
theorem scover0_B_0 (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : ¬cond0_0 i) (hc1 : ¬cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) (xs0 : Vec F S64x128 .f32) (xs1 : Vec F S64x1 .f32) (y : S64x128.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1).2.1 S64x128.size (by sl_kernel_rfl) y

/-- What a step between leaves in the output's sums, `arg16`. -/
def sout0_B_0 (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : ¬cond0_0 i) (hc1 : ¬cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) (xs0 : Vec F S64x128 .f32) (xs1 : Vec F S64x1 .f32) : Vec F S64x128 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1).2.1)

/-- A step between stores every element of the carry, `arg17`. -/
theorem scover0_B_1 (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : ¬cond0_0 i) (hc1 : ¬cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) (xs0 : Vec F S64x128 .f32) (xs1 : Vec F S64x1 .f32) (y : S64x1.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1).2.2.1 S64x1.size (by sl_kernel_rfl) y

/-- What a step between leaves in the carry, `arg17`. -/
def sout0_B_1 (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : ¬cond0_0 i) (hc1 : ¬cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) (xs0 : Vec F S64x128 .f32) (xs1 : Vec F S64x1 .f32) : Vec F S64x1 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1).2.2.1)

/-- A sequence's last step stores every element of output 12's block: one store for each head. -/
theorem cover0_C_12 (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : ¬cond0_0 i) (hc1 : cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) (xs0 : Vec F S64x128 .f32) (xs1 : Vec F S64x1 .f32) (y : S1x4x1024.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1).1 S1x4x128.size (by sl_kernel_rfl) y

/-- What a sequence's last step leaves in output 12's staging buffer. -/
def out0_C_12 (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : ¬cond0_0 i) (hc1 : cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) (xs0 : Vec F S64x128 .f32) (xs1 : Vec F S64x1 .f32) : Vec F S1x4x1024 .f32 :=
  VO0_12.read (Elt F) (VO0_12.writes (Elt F) VO0_12.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1).1)

/-- A sequence's last step stores every element of the output's sums, `arg16`. -/
theorem scover0_C_0 (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : ¬cond0_0 i) (hc1 : cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) (xs0 : Vec F S64x128 .f32) (xs1 : Vec F S64x1 .f32) (y : S64x128.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1).2.1 S64x128.size (by sl_kernel_rfl) y

/-- What a sequence's last step leaves in the output's sums, `arg16`. -/
def sout0_C_0 (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : ¬cond0_0 i) (hc1 : cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) (xs0 : Vec F S64x128 .f32) (xs1 : Vec F S64x1 .f32) : Vec F S64x128 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1).2.1)

/-- A sequence's last step stores every element of the carry, `arg17`. -/
theorem scover0_C_1 (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : ¬cond0_0 i) (hc1 : cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) (xs0 : Vec F S64x128 .f32) (xs1 : Vec F S64x1 .f32) (y : S64x1.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1).2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1).2.2.1 S64x1.size (by sl_kernel_rfl) y

/-- What a sequence's last step leaves in the carry, `arg17`. -/
def sout0_C_1 (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : ¬cond0_0 i) (hc1 : cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) (xs0 : Vec F S64x128 .f32) (xs1 : Vec F S64x1 .f32) : Vec F S64x1 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1).2.2.1)

/-! ## What the outputs hold after each point -/

/-- What the output's window and the two carried arrays hold after a sequence's first step. -/
def caseA (hO : Ok m) (c : Dev nD) (t : Fin (cfgM m hO).N) (h0 : t.val % 4 = 0) (h1 : ¬t.val % 4 = 3) : Vec F S1x4x1024 .f32 × Vec F S64x128 .f32 × Vec F S64x1 .f32 :=
  (out0_A_12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0))

/-- What the output's window and the two carried arrays hold after a step that is neither a sequence's first nor its last, from what the step before left. -/
def caseB (hO : Ok m) (c : Dev nD) (t : Fin (cfgM m hO).N) (h0 : ¬t.val % 4 = 0) (h1 : ¬t.val % 4 = 3) (prev : Vec F S1x4x1024 .f32 × Vec F S64x128 .f32 × Vec F S64x1 .f32) : Vec F S1x4x1024 .f32 × Vec F S64x128 .f32 × Vec F S64x1 .f32 :=
  (out0_B_12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) prev.2.1 prev.2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) prev.2.1 prev.2.2, sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) prev.2.1 prev.2.2)

/-- What the output's window and the two carried arrays hold after a sequence's last step, from what the step before left. -/
def caseC (hO : Ok m) (c : Dev nD) (t : Fin (cfgM m hO).N) (h0 : ¬t.val % 4 = 0) (h1 : t.val % 4 = 3) (prev : Vec F S1x4x1024 .f32 × Vec F S64x128 .f32 × Vec F S64x1 .f32) : Vec F S1x4x1024 .f32 × Vec F S64x128 .f32 × Vec F S64x1 .f32 :=
  (out0_C_12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) prev.2.1 prev.2.2, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) prev.2.1 prev.2.2, sout0_C_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) prev.2.1 prev.2.2)

/-- What they hold after the step at position `n + 1`, from what the step before left. -/
def next (hO : Ok m) (c : Dev nD) (n : ℕ) (prev : Vec F S1x4x1024 .f32 × Vec F S64x128 .f32 × Vec F S64x1 .f32) (hn : n + 1 < (cfgM m hO).N) : Vec F S1x4x1024 .f32 × Vec F S64x128 .f32 × Vec F S64x1 .f32 :=
  if h0 : (n + 1) % 4 = 0 then caseA m hO c ⟨n + 1, hn⟩ h0 (by show ¬(n + 1) % 4 = 3; omega)
  else if h1 : (n + 1) % 4 = 3 then caseC m hO c ⟨n + 1, hn⟩ h0 h1 prev
  else caseB m hO c ⟨n + 1, hn⟩ h0 h1 prev

/-- What they hold after the step at position `n`. -/
def outsAt0 (hO : Ok m) (c : Dev nD) (n : ℕ) : n < (cfgM m hO).N → Vec F S1x4x1024 .f32 × Vec F S64x128 .f32 × Vec F S64x1 .f32 :=
  Nat.rec (motive := fun n => n < (cfgM m hO).N → Vec F S1x4x1024 .f32 × Vec F S64x128 .f32 × Vec F S64x1 .f32)
    (fun hn => caseA m hO c ⟨0, hn⟩ (Nat.zero_mod _) (fun h => absurd ((Nat.zero_mod _).symm.trans h) (by decide)))
    (fun n ih hn => next m hO c n (ih (Nat.lt_of_succ_lt hn)) hn) n

theorem outsAt0_succ (hO : Ok m) (c : Dev nD) (n : ℕ) (hn : n + 1 < (cfgM m hO).N) :
    outsAt0 m hO c (n + 1) hn = next m hO c n (outsAt0 m hO c n (Nat.lt_of_succ_lt hn)) hn := rfl

theorem outsAt0_A (hO : Ok m) (c : Dev nD) (t : Fin (cfgM m hO).N) (h0 : t.val % 4 = 0) (h1 : ¬t.val % 4 = 3) :
    outsAt0 m hO c t.val t.isLt = caseA m hO c t h0 h1 := by
  obtain ⟨n, hn⟩ := t
  cases n with
  | zero => rfl
  | succ n => exact (outsAt0_succ m hO c n hn).trans (dif_pos h0)

theorem outsAt0_B (hO : Ok m) (c : Dev nD) (t : Fin (cfgM m hO).N) (h0 : ¬t.val % 4 = 0) (h1 : ¬t.val % 4 = 3) :
    outsAt0 m hO c t.val t.isLt = caseB m hO c t h0 h1 (outsAt0 m hO c (t.val - 1) (Nat.lt_of_le_of_lt (Nat.sub_le _ _) t.isLt)) := by
  obtain ⟨n, hn⟩ := t
  cases n with
  | zero => exact absurd (Nat.zero_mod _) h0
  | succ n => exact (outsAt0_succ m hO c n hn).trans ((dif_neg h0).trans (dif_neg h1))

theorem outsAt0_C (hO : Ok m) (c : Dev nD) (t : Fin (cfgM m hO).N) (h0 : ¬t.val % 4 = 0) (h1 : t.val % 4 = 3) :
    outsAt0 m hO c t.val t.isLt = caseC m hO c t h0 h1 (outsAt0 m hO c (t.val - 1) (Nat.lt_of_le_of_lt (Nat.sub_le _ _) t.isLt)) := by
  obtain ⟨n, hn⟩ := t
  cases n with
  | zero => exact absurd (Nat.zero_mod _) h0
  | succ n => exact (outsAt0_succ m hO c n hn).trans ((dif_neg h0).trans (dif_pos h1))

end Cert.Paged

end
-- ==== Proof.SampleStep.lean ====
/- The steps of the paged attention's call in closed form: what each leaves, from its windows' blocks and what the step
   before left. -/
module

public import proofs.«01_k».proof.Proof.SamplePayload
public import proofs.«01_k».proof.Proof.SampleOuts
public import Idealize.ShloMosaic.Lib.Pipeline.ValueKit
public import Idealize.ShloMosaic.Lib.WholeRead

@[expose] public section

set_option maxRecDepth 65536

noncomputable section

namespace Cert.Paged

open Idealize.ShloMosaic Idealize.ShloMosaic.TcCoe Idealize.ShloMosaic.Tactic Cert.SampleIdeal Cert.SampleIdeal.Gen

variable {F : FTy → Type} [FloatOps F]

/-- Four pages as one family. -/
def four (a b c d : Vec F S1x1x1024x128 .f32) : Fin 4 → Vec F S1x1x1024x128 .f32 :=
  fun | 0 => a | 1 => b | 2 => c | 3 => d

theorem readAt_unread {sp : CoreSpace} {sh : Shape} {e : EltTy} (M : Memref sig .tc sp sh e) (h : Memref.IsWhole M) (X : sh.Idx → Elt F e) (B : LoadRect sh) :
    View.readAt (Elt F) M.view B (Memref.IsWhole.unread h X) = fun y => X (B.idx y) := funext fun y => Memref.IsWhole.readAt_unread h X B y

theorem scores_eq (q : FVec F S8x8x128 .bf16) (a b c d : Vec F S1x1x1024x128 .f32) (β : Vec F S64x128 .f32) :
    k0_pay64 q (k0_pay32 (fun y => a (({ off := ![0, 0, 0, 0], size := ![1, 1, 128, 128], stride := ![1, 1, 8, 1], inb := inb_S1x1x1024x128_S1x1x128x128_0_0_0_0_s_1_1_8_1 } : LoadRect S1x1x1024x128).idx y))) (k0_pay33 (fun y => a (({ off := ![0, 0, 1, 0], size := ![1, 1, 128, 128], stride := ![1, 1, 8, 1], inb := inb_S1x1x1024x128_S1x1x128x128_0_0_1_0_s_1_1_8_1 } : LoadRect S1x1x1024x128).idx y))) (k0_pay34 (fun y => a (({ off := ![0, 0, 2, 0], size := ![1, 1, 128, 128], stride := ![1, 1, 8, 1], inb := inb_S1x1x1024x128_S1x1x128x128_0_0_2_0_s_1_1_8_1 } : LoadRect S1x1x1024x128).idx y))) (k0_pay35 (fun y => a (({ off := ![0, 0, 3, 0], size := ![1, 1, 128, 128], stride := ![1, 1, 8, 1], inb := inb_S1x1x1024x128_S1x1x128x128_0_0_3_0_s_1_1_8_1 } : LoadRect S1x1x1024x128).idx y))) (k0_pay36 (fun y => a (({ off := ![0, 0, 4, 0], size := ![1, 1, 128, 128], stride := ![1, 1, 8, 1], inb := inb_S1x1x1024x128_S1x1x128x128_0_0_4_0_s_1_1_8_1 } : LoadRect S1x1x1024x128).idx y))) (k0_pay37 (fun y => a (({ off := ![0, 0, 5, 0], size := ![1, 1, 128, 128], stride := ![1, 1, 8, 1], inb := inb_S1x1x1024x128_S1x1x128x128_0_0_5_0_s_1_1_8_1 } : LoadRect S1x1x1024x128).idx y))) (k0_pay38 (fun y => a (({ off := ![0, 0, 6, 0], size := ![1, 1, 128, 128], stride := ![1, 1, 8, 1], inb := inb_S1x1x1024x128_S1x1x128x128_0_0_6_0_s_1_1_8_1 } : LoadRect S1x1x1024x128).idx y))) (k0_pay39 (fun y => a (({ off := ![0, 0, 7, 0], size := ![1, 1, 128, 128], stride := ![1, 1, 8, 1], inb := inb_S1x1x1024x128_S1x1x128x128_0_0_7_0_s_1_1_8_1 } : LoadRect S1x1x1024x128).idx y))) (k0_pay40 (fun y => b (({ off := ![0, 0, 0, 0], size := ![1, 1, 128, 128], stride := ![1, 1, 8, 1], inb := inb_S1x1x1024x128_S1x1x128x128_0_0_0_0_s_1_1_8_1 } : LoadRect S1x1x1024x128).idx y))) (k0_pay41 (fun y => b (({ off := ![0, 0, 1, 0], size := ![1, 1, 128, 128], stride := ![1, 1, 8, 1], inb := inb_S1x1x1024x128_S1x1x128x128_0_0_1_0_s_1_1_8_1 } : LoadRect S1x1x1024x128).idx y))) (k0_pay42 (fun y => b (({ off := ![0, 0, 2, 0], size := ![1, 1, 128, 128], stride := ![1, 1, 8, 1], inb := inb_S1x1x1024x128_S1x1x128x128_0_0_2_0_s_1_1_8_1 } : LoadRect S1x1x1024x128).idx y))) (k0_pay43 (fun y => b (({ off := ![0, 0, 3, 0], size := ![1, 1, 128, 128], stride := ![1, 1, 8, 1], inb := inb_S1x1x1024x128_S1x1x128x128_0_0_3_0_s_1_1_8_1 } : LoadRect S1x1x1024x128).idx y))) (k0_pay44 (fun y => b (({ off := ![0, 0, 4, 0], size := ![1, 1, 128, 128], stride := ![1, 1, 8, 1], inb := inb_S1x1x1024x128_S1x1x128x128_0_0_4_0_s_1_1_8_1 } : LoadRect S1x1x1024x128).idx y))) (k0_pay45 (fun y => b (({ off := ![0, 0, 5, 0], size := ![1, 1, 128, 128], stride := ![1, 1, 8, 1], inb := inb_S1x1x1024x128_S1x1x128x128_0_0_5_0_s_1_1_8_1 } : LoadRect S1x1x1024x128).idx y))) (k0_pay46 (fun y => b (({ off := ![0, 0, 6, 0], size := ![1, 1, 128, 128], stride := ![1, 1, 8, 1], inb := inb_S1x1x1024x128_S1x1x128x128_0_0_6_0_s_1_1_8_1 } : LoadRect S1x1x1024x128).idx y))) (k0_pay47 (fun y => b (({ off := ![0, 0, 7, 0], size := ![1, 1, 128, 128], stride := ![1, 1, 8, 1], inb := inb_S1x1x1024x128_S1x1x128x128_0_0_7_0_s_1_1_8_1 } : LoadRect S1x1x1024x128).idx y))) (k0_pay48 (fun y => c (({ off := ![0, 0, 0, 0], size := ![1, 1, 128, 128], stride := ![1, 1, 8, 1], inb := inb_S1x1x1024x128_S1x1x128x128_0_0_0_0_s_1_1_8_1 } : LoadRect S1x1x1024x128).idx y))) (k0_pay49 (fun y => c (({ off := ![0, 0, 1, 0], size := ![1, 1, 128, 128], stride := ![1, 1, 8, 1], inb := inb_S1x1x1024x128_S1x1x128x128_0_0_1_0_s_1_1_8_1 } : LoadRect S1x1x1024x128).idx y))) (k0_pay50 (fun y => c (({ off := ![0, 0, 2, 0], size := ![1, 1, 128, 128], stride := ![1, 1, 8, 1], inb := inb_S1x1x1024x128_S1x1x128x128_0_0_2_0_s_1_1_8_1 } : LoadRect S1x1x1024x128).idx y))) (k0_pay51 (fun y => c (({ off := ![0, 0, 3, 0], size := ![1, 1, 128, 128], stride := ![1, 1, 8, 1], inb := inb_S1x1x1024x128_S1x1x128x128_0_0_3_0_s_1_1_8_1 } : LoadRect S1x1x1024x128).idx y))) (k0_pay52 (fun y => c (({ off := ![0, 0, 4, 0], size := ![1, 1, 128, 128], stride := ![1, 1, 8, 1], inb := inb_S1x1x1024x128_S1x1x128x128_0_0_4_0_s_1_1_8_1 } : LoadRect S1x1x1024x128).idx y))) (k0_pay53 (fun y => c (({ off := ![0, 0, 5, 0], size := ![1, 1, 128, 128], stride := ![1, 1, 8, 1], inb := inb_S1x1x1024x128_S1x1x128x128_0_0_5_0_s_1_1_8_1 } : LoadRect S1x1x1024x128).idx y))) (k0_pay55 (k0_pay54 (fun y => c (({ off := ![0, 0, 6, 0], size := ![1, 1, 128, 128], stride := ![1, 1, 8, 1], inb := inb_S1x1x1024x128_S1x1x128x128_0_0_6_0_s_1_1_8_1 } : LoadRect S1x1x1024x128).idx y)))) (k0_pay56 (fun y => c (({ off := ![0, 0, 7, 0], size := ![1, 1, 128, 128], stride := ![1, 1, 8, 1], inb := inb_S1x1x1024x128_S1x1x128x128_0_0_7_0_s_1_1_8_1 } : LoadRect S1x1x1024x128).idx y))) (k0_pay57 (fun y => d (({ off := ![0, 0, 0, 0], size := ![1, 1, 128, 128], stride := ![1, 1, 8, 1], inb := inb_S1x1x1024x128_S1x1x128x128_0_0_0_0_s_1_1_8_1 } : LoadRect S1x1x1024x128).idx y))) (k0_pay58 (fun y => d (({ off := ![0, 0, 1, 0], size := ![1, 1, 128, 128], stride := ![1, 1, 8, 1], inb := inb_S1x1x1024x128_S1x1x128x128_0_0_1_0_s_1_1_8_1 } : LoadRect S1x1x1024x128).idx y))) (k0_pay59 (fun y => d (({ off := ![0, 0, 2, 0], size := ![1, 1, 128, 128], stride := ![1, 1, 8, 1], inb := inb_S1x1x1024x128_S1x1x128x128_0_0_2_0_s_1_1_8_1 } : LoadRect S1x1x1024x128).idx y))) (k0_pay60 (fun y => d (({ off := ![0, 0, 3, 0], size := ![1, 1, 128, 128], stride := ![1, 1, 8, 1], inb := inb_S1x1x1024x128_S1x1x128x128_0_0_3_0_s_1_1_8_1 } : LoadRect S1x1x1024x128).idx y))) (k0_pay61 (fun y => d (({ off := ![0, 0, 4, 0], size := ![1, 1, 128, 128], stride := ![1, 1, 8, 1], inb := inb_S1x1x1024x128_S1x1x128x128_0_0_4_0_s_1_1_8_1 } : LoadRect S1x1x1024x128).idx y))) (k0_pay62 (fun y => d (({ off := ![0, 0, 5, 0], size := ![1, 1, 128, 128], stride := ![1, 1, 8, 1], inb := inb_S1x1x1024x128_S1x1x128x128_0_0_5_0_s_1_1_8_1 } : LoadRect S1x1x1024x128).idx y))) (k0_pay63 (fun y => d (({ off := ![0, 0, 6, 0], size := ![1, 1, 128, 128], stride := ![1, 1, 8, 1], inb := inb_S1x1x1024x128_S1x1x128x128_0_0_6_0_s_1_1_8_1 } : LoadRect S1x1x1024x128).idx y))) (fun y => d (({ off := ![0, 0, 7, 0], size := ![1, 1, 128, 128], stride := ![1, 1, 8, 1], inb := inb_S1x1x1024x128_S1x1x128x128_0_0_7_0_s_1_1_8_1 } : LoadRect S1x1x1024x128).idx y)) β = scores q (heads (four a b c d)) β := rfl

theorem pay65_eq (v8 : FVec F S8x8x128 .bf16) (v14 : FVec F S128x128 .bf16) (v17 : FVec F S128x128 .bf16) (v20 : FVec F S128x128 .bf16) (v23 : FVec F S128x128 .bf16) (v26 : FVec F S128x128 .bf16) (v29 : FVec F S128x128 .bf16) (v32 : FVec F S128x128 .bf16) (v35 : FVec F S128x128 .bf16) (v38 : FVec F S128x128 .bf16) (v41 : FVec F S128x128 .bf16) (v44 : FVec F S128x128 .bf16) (v47 : FVec F S128x128 .bf16) (v50 : FVec F S128x128 .bf16) (v53 : FVec F S128x128 .bf16) (v56 : FVec F S128x128 .bf16) (v59 : FVec F S128x128 .bf16) (v62 : FVec F S128x128 .bf16) (v65 : FVec F S128x128 .bf16) (v68 : FVec F S128x128 .bf16) (v71 : FVec F S128x128 .bf16) (v74 : FVec F S128x128 .bf16) (v77 : FVec F S128x128 .bf16) (v80 : FVec F S128x128 .bf16) (v83 : FVec F S128x128 .bf16) (v86 : FVec F S128x128 .bf16) (v89 : FVec F S128x128 .bf16) (v92 : FVec F S128x128 .bf16) (v95 : FVec F S128x128 .bf16) (v98 : FVec F S128x128 .bf16) (v101 : FVec F S128x128 .bf16) (v104 : FVec F S128x128 .bf16) (v105 : Vec F S1x1x128x128 .f32) (v146 : Vec F S64x128 .f32) : k0_pay65 v8 v14 v17 v20 v23 v26 v29 v32 v35 v38 v41 v44 v47 v50 v53 v56 v59 v62 v65 v68 v71 v74 v77 v80 v83 v86 v89 v92 v95 v98 v101 v104 v105 v146 = slot0 (k0_pay64 v8 v14 v17 v20 v23 v26 v29 v32 v35 v38 v41 v44 v47 v50 v53 v56 v59 v62 v65 v68 v71 v74 v77 v80 v83 v86 v89 v92 v95 v98 v101 v104 v105 v146) := rfl
theorem pay66_eq (v8 : FVec F S8x8x128 .bf16) (v14 : FVec F S128x128 .bf16) (v17 : FVec F S128x128 .bf16) (v20 : FVec F S128x128 .bf16) (v23 : FVec F S128x128 .bf16) (v26 : FVec F S128x128 .bf16) (v29 : FVec F S128x128 .bf16) (v32 : FVec F S128x128 .bf16) (v35 : FVec F S128x128 .bf16) (v38 : FVec F S128x128 .bf16) (v41 : FVec F S128x128 .bf16) (v44 : FVec F S128x128 .bf16) (v47 : FVec F S128x128 .bf16) (v50 : FVec F S128x128 .bf16) (v53 : FVec F S128x128 .bf16) (v56 : FVec F S128x128 .bf16) (v59 : FVec F S128x128 .bf16) (v62 : FVec F S128x128 .bf16) (v65 : FVec F S128x128 .bf16) (v68 : FVec F S128x128 .bf16) (v71 : FVec F S128x128 .bf16) (v74 : FVec F S128x128 .bf16) (v77 : FVec F S128x128 .bf16) (v80 : FVec F S128x128 .bf16) (v83 : FVec F S128x128 .bf16) (v86 : FVec F S128x128 .bf16) (v89 : FVec F S128x128 .bf16) (v92 : FVec F S128x128 .bf16) (v95 : FVec F S128x128 .bf16) (v98 : FVec F S128x128 .bf16) (v101 : FVec F S128x128 .bf16) (v104 : FVec F S128x128 .bf16) (v105 : Vec F S1x1x128x128 .f32) (v146 : Vec F S64x128 .f32) : k0_pay66 v8 v14 v17 v20 v23 v26 v29 v32 v35 v38 v41 v44 v47 v50 v53 v56 v59 v62 v65 v68 v71 v74 v77 v80 v83 v86 v89 v92 v95 v98 v101 v104 v105 v146 = maximumf (slot0 (k0_pay64 v8 v14 v17 v20 v23 v26 v29 v32 v35 v38 v41 v44 v47 v50 v53 v56 v59 v62 v65 v68 v71 v74 v77 v80 v83 v86 v89 v92 v95 v98 v101 v104 v105 v146)) (broadcast S64x128 (Scalar.ofBits .f32 0x00000000#32)) := rfl
theorem pay67_eq (v8 : FVec F S8x8x128 .bf16) (v14 : FVec F S128x128 .bf16) (v17 : FVec F S128x128 .bf16) (v20 : FVec F S128x128 .bf16) (v23 : FVec F S128x128 .bf16) (v26 : FVec F S128x128 .bf16) (v29 : FVec F S128x128 .bf16) (v32 : FVec F S128x128 .bf16) (v35 : FVec F S128x128 .bf16) (v38 : FVec F S128x128 .bf16) (v41 : FVec F S128x128 .bf16) (v44 : FVec F S128x128 .bf16) (v47 : FVec F S128x128 .bf16) (v50 : FVec F S128x128 .bf16) (v53 : FVec F S128x128 .bf16) (v56 : FVec F S128x128 .bf16) (v59 : FVec F S128x128 .bf16) (v62 : FVec F S128x128 .bf16) (v65 : FVec F S128x128 .bf16) (v68 : FVec F S128x128 .bf16) (v71 : FVec F S128x128 .bf16) (v74 : FVec F S128x128 .bf16) (v77 : FVec F S128x128 .bf16) (v80 : FVec F S128x128 .bf16) (v83 : FVec F S128x128 .bf16) (v86 : FVec F S128x128 .bf16) (v89 : FVec F S128x128 .bf16) (v92 : FVec F S128x128 .bf16) (v95 : FVec F S128x128 .bf16) (v98 : FVec F S128x128 .bf16) (v101 : FVec F S128x128 .bf16) (v104 : FVec F S128x128 .bf16) (v105 : Vec F S1x1x128x128 .f32) (v146 : Vec F S64x128 .f32) : k0_pay67 v8 v14 v17 v20 v23 v26 v29 v32 v35 v38 v41 v44 v47 v50 v53 v56 v59 v62 v65 v68 v71 v74 v77 v80 v83 v86 v89 v92 v95 v98 v101 v104 v105 v146 = absf (slot0 (k0_pay64 v8 v14 v17 v20 v23 v26 v29 v32 v35 v38 v41 v44 v47 v50 v53 v56 v59 v62 v65 v68 v71 v74 v77 v80 v83 v86 v89 v92 v95 v98 v101 v104 v105 v146)) := rfl

theorem out_eq (w : FVec F S4x64x128 .f32) (a b c d : Vec F S1x1x1024x128 .f32) (x : Vec F S64x128 .f32) :
    k0_pay120 w (k0_pay88 (fun y => a (({ off := ![0, 0, 1, 0], size := ![1, 1, 128, 128], stride := ![1, 1, 8, 1], inb := inb_S1x1x1024x128_S1x1x128x128_0_0_1_0_s_1_1_8_1 } : LoadRect S1x1x1024x128).idx y))) (k0_pay89 (fun y => a (({ off := ![0, 0, 2, 0], size := ![1, 1, 128, 128], stride := ![1, 1, 8, 1], inb := inb_S1x1x1024x128_S1x1x128x128_0_0_2_0_s_1_1_8_1 } : LoadRect S1x1x1024x128).idx y))) (k0_pay90 (fun y => a (({ off := ![0, 0, 3, 0], size := ![1, 1, 128, 128], stride := ![1, 1, 8, 1], inb := inb_S1x1x1024x128_S1x1x128x128_0_0_3_0_s_1_1_8_1 } : LoadRect S1x1x1024x128).idx y))) (k0_pay91 (fun y => a (({ off := ![0, 0, 4, 0], size := ![1, 1, 128, 128], stride := ![1, 1, 8, 1], inb := inb_S1x1x1024x128_S1x1x128x128_0_0_4_0_s_1_1_8_1 } : LoadRect S1x1x1024x128).idx y))) (k0_pay92 (fun y => a (({ off := ![0, 0, 5, 0], size := ![1, 1, 128, 128], stride := ![1, 1, 8, 1], inb := inb_S1x1x1024x128_S1x1x128x128_0_0_5_0_s_1_1_8_1 } : LoadRect S1x1x1024x128).idx y))) (k0_pay93 (fun y => a (({ off := ![0, 0, 6, 0], size := ![1, 1, 128, 128], stride := ![1, 1, 8, 1], inb := inb_S1x1x1024x128_S1x1x128x128_0_0_6_0_s_1_1_8_1 } : LoadRect S1x1x1024x128).idx y))) (k0_pay94 (fun y => a (({ off := ![0, 0, 7, 0], size := ![1, 1, 128, 128], stride := ![1, 1, 8, 1], inb := inb_S1x1x1024x128_S1x1x128x128_0_0_7_0_s_1_1_8_1 } : LoadRect S1x1x1024x128).idx y))) (k0_pay95 (fun y => b (({ off := ![0, 0, 0, 0], size := ![1, 1, 128, 128], stride := ![1, 1, 8, 1], inb := inb_S1x1x1024x128_S1x1x128x128_0_0_0_0_s_1_1_8_1 } : LoadRect S1x1x1024x128).idx y))) (k0_pay96 (fun y => b (({ off := ![0, 0, 1, 0], size := ![1, 1, 128, 128], stride := ![1, 1, 8, 1], inb := inb_S1x1x1024x128_S1x1x128x128_0_0_1_0_s_1_1_8_1 } : LoadRect S1x1x1024x128).idx y))) (k0_pay97 (fun y => b (({ off := ![0, 0, 2, 0], size := ![1, 1, 128, 128], stride := ![1, 1, 8, 1], inb := inb_S1x1x1024x128_S1x1x128x128_0_0_2_0_s_1_1_8_1 } : LoadRect S1x1x1024x128).idx y))) (k0_pay98 (fun y => b (({ off := ![0, 0, 3, 0], size := ![1, 1, 128, 128], stride := ![1, 1, 8, 1], inb := inb_S1x1x1024x128_S1x1x128x128_0_0_3_0_s_1_1_8_1 } : LoadRect S1x1x1024x128).idx y))) (k0_pay99 (fun y => b (({ off := ![0, 0, 4, 0], size := ![1, 1, 128, 128], stride := ![1, 1, 8, 1], inb := inb_S1x1x1024x128_S1x1x128x128_0_0_4_0_s_1_1_8_1 } : LoadRect S1x1x1024x128).idx y))) (k0_pay100 (fun y => b (({ off := ![0, 0, 5, 0], size := ![1, 1, 128, 128], stride := ![1, 1, 8, 1], inb := inb_S1x1x1024x128_S1x1x128x128_0_0_5_0_s_1_1_8_1 } : LoadRect S1x1x1024x128).idx y))) (k0_pay101 (fun y => b (({ off := ![0, 0, 6, 0], size := ![1, 1, 128, 128], stride := ![1, 1, 8, 1], inb := inb_S1x1x1024x128_S1x1x128x128_0_0_6_0_s_1_1_8_1 } : LoadRect S1x1x1024x128).idx y))) (k0_pay102 (fun y => b (({ off := ![0, 0, 7, 0], size := ![1, 1, 128, 128], stride := ![1, 1, 8, 1], inb := inb_S1x1x1024x128_S1x1x128x128_0_0_7_0_s_1_1_8_1 } : LoadRect S1x1x1024x128).idx y))) (k0_pay103 (fun y => c (({ off := ![0, 0, 0, 0], size := ![1, 1, 128, 128], stride := ![1, 1, 8, 1], inb := inb_S1x1x1024x128_S1x1x128x128_0_0_0_0_s_1_1_8_1 } : LoadRect S1x1x1024x128).idx y))) (k0_pay104 (fun y => c (({ off := ![0, 0, 1, 0], size := ![1, 1, 128, 128], stride := ![1, 1, 8, 1], inb := inb_S1x1x1024x128_S1x1x128x128_0_0_1_0_s_1_1_8_1 } : LoadRect S1x1x1024x128).idx y))) (k0_pay105 (fun y => c (({ off := ![0, 0, 2, 0], size := ![1, 1, 128, 128], stride := ![1, 1, 8, 1], inb := inb_S1x1x1024x128_S1x1x128x128_0_0_2_0_s_1_1_8_1 } : LoadRect S1x1x1024x128).idx y))) (k0_pay106 (fun y => c (({ off := ![0, 0, 3, 0], size := ![1, 1, 128, 128], stride := ![1, 1, 8, 1], inb := inb_S1x1x1024x128_S1x1x128x128_0_0_3_0_s_1_1_8_1 } : LoadRect S1x1x1024x128).idx y))) (k0_pay107 (fun y => c (({ off := ![0, 0, 4, 0], size := ![1, 1, 128, 128], stride := ![1, 1, 8, 1], inb := inb_S1x1x1024x128_S1x1x128x128_0_0_4_0_s_1_1_8_1 } : LoadRect S1x1x1024x128).idx y))) (k0_pay108 (fun y => c (({ off := ![0, 0, 5, 0], size := ![1, 1, 128, 128], stride := ![1, 1, 8, 1], inb := inb_S1x1x1024x128_S1x1x128x128_0_0_5_0_s_1_1_8_1 } : LoadRect S1x1x1024x128).idx y))) (k0_pay109 (fun y => c (({ off := ![0, 0, 6, 0], size := ![1, 1, 128, 128], stride := ![1, 1, 8, 1], inb := inb_S1x1x1024x128_S1x1x128x128_0_0_6_0_s_1_1_8_1 } : LoadRect S1x1x1024x128).idx y))) (k0_pay110 (fun y => c (({ off := ![0, 0, 7, 0], size := ![1, 1, 128, 128], stride := ![1, 1, 8, 1], inb := inb_S1x1x1024x128_S1x1x128x128_0_0_7_0_s_1_1_8_1 } : LoadRect S1x1x1024x128).idx y))) (k0_pay111 (fun y => d (({ off := ![0, 0, 0, 0], size := ![1, 1, 128, 128], stride := ![1, 1, 8, 1], inb := inb_S1x1x1024x128_S1x1x128x128_0_0_0_0_s_1_1_8_1 } : LoadRect S1x1x1024x128).idx y))) (k0_pay112 (fun y => d (({ off := ![0, 0, 1, 0], size := ![1, 1, 128, 128], stride := ![1, 1, 8, 1], inb := inb_S1x1x1024x128_S1x1x128x128_0_0_1_0_s_1_1_8_1 } : LoadRect S1x1x1024x128).idx y))) (k0_pay113 (fun y => d (({ off := ![0, 0, 2, 0], size := ![1, 1, 128, 128], stride := ![1, 1, 8, 1], inb := inb_S1x1x1024x128_S1x1x128x128_0_0_2_0_s_1_1_8_1 } : LoadRect S1x1x1024x128).idx y))) (k0_pay114 (fun y => d (({ off := ![0, 0, 3, 0], size := ![1, 1, 128, 128], stride := ![1, 1, 8, 1], inb := inb_S1x1x1024x128_S1x1x128x128_0_0_3_0_s_1_1_8_1 } : LoadRect S1x1x1024x128).idx y))) (k0_pay115 (fun y => d (({ off := ![0, 0, 4, 0], size := ![1, 1, 128, 128], stride := ![1, 1, 8, 1], inb := inb_S1x1x1024x128_S1x1x128x128_0_0_4_0_s_1_1_8_1 } : LoadRect S1x1x1024x128).idx y))) (k0_pay116 (fun y => d (({ off := ![0, 0, 5, 0], size := ![1, 1, 128, 128], stride := ![1, 1, 8, 1], inb := inb_S1x1x1024x128_S1x1x128x128_0_0_5_0_s_1_1_8_1 } : LoadRect S1x1x1024x128).idx y))) (k0_pay117 (fun y => d (({ off := ![0, 0, 6, 0], size := ![1, 1, 128, 128], stride := ![1, 1, 8, 1], inb := inb_S1x1x1024x128_S1x1x128x128_0_0_6_0_s_1_1_8_1 } : LoadRect S1x1x1024x128).idx y))) (k0_pay118 (fun y => d (({ off := ![0, 0, 7, 0], size := ![1, 1, 128, 128], stride := ![1, 1, 8, 1], inb := inb_S1x1x1024x128_S1x1x128x128_0_0_7_0_s_1_1_8_1 } : LoadRect S1x1x1024x128).idx y))) (k0_pay119 (k0_pay87 (fun y => a (({ off := ![0, 0, 0, 0], size := ![1, 1, 128, 128], stride := ![1, 1, 8, 1], inb := inb_S1x1x1024x128_S1x1x128x128_0_0_0_0_s_1_1_8_1 } : LoadRect S1x1x1024x128).idx y)))) x = stepOut w (heads (four a b c d)) x := shapeCast_self _ _

theorem weights_eq (z : FVec F S4x64x128 .f32) (κ : Vec F S64x1 .f32) :
    k0_pay86 (k0_pay69 k0_pay28 κ (slot0 z) (maximumf (slot0 z) (broadcast S64x128 (Scalar.ofBits .f32 0x00000000#32))) (absf (slot0 z)))
        (k0_pay73 k0_pay28 z κ (maximumf (slot0 z) (broadcast S64x128 (Scalar.ofBits .f32 0x00000000#32))) (absf (slot0 z)))
        (k0_pay78 k0_pay28 z (k0_pay70 κ (maximumf (slot0 z) (broadcast S64x128 (Scalar.ofBits .f32 0x00000000#32))) (absf (slot0 z))) (k0_pay74 z))
        (k0_pay79 z (k0_pay70 κ (maximumf (slot0 z) (broadcast S64x128 (Scalar.ofBits .f32 0x00000000#32))) (absf (slot0 z))) (k0_pay74 z))
        (k0_pay80 z) (k0_pay81 z) (k0_pay83 k0_pay28 z) (k0_pay84 k0_pay28 z)
      = stepWeights z κ := rfl

/-- The new keys, or values, padded with zeros to 128 rows. -/
def padK (x : Vec F S1x4x1024 .f32) : Vec F S128x1024 .f32 :=
  View.canon (Val := Elt F) (s := S128x1024) (e := .f32) [⟨Rect.unit ![0, 0] ![4, 1024] inb_S128x1024_S4x1024_0_0, k0_pay5 x⟩,
    ⟨Rect.unit ![0, 0] ![128, 1024] inb_S128x1024_S128x1024_0_0, k0_pay3⟩]

def padV (x : Vec F S1x4x1024 .f32) : Vec F S128x1024 .f32 :=
  View.canon (Val := Elt F) (s := S128x1024) (e := .f32) [⟨Rect.unit ![0, 0] ![4, 1024] inb_S128x1024_S4x1024_0_0, k0_pay6 x⟩,
    ⟨Rect.unit ![0, 0] ![128, 1024] inb_S128x1024_S128x1024_0_0, k0_pay4⟩]

/-- The eight heads' columns. -/
def cols (X : Vec F S128x1024 .f32) : Fin 8 → Vec F S128x128 .f32 :=
  fun | 0 => (fun j => X ((Rect.unit ![0, 0] ![128, 128] inb_S128x1024_S128x128_0_0 : Rect S128x1024).toLoadRect.idx j)) | 1 => (fun j => X ((Rect.unit ![0, 128] ![128, 128] inb_S128x1024_S128x128_0_128 : Rect S128x1024).toLoadRect.idx j)) | 2 => (fun j => X ((Rect.unit ![0, 256] ![128, 128] inb_S128x1024_S128x128_0_256 : Rect S128x1024).toLoadRect.idx j)) | 3 => (fun j => X ((Rect.unit ![0, 384] ![128, 128] inb_S128x1024_S128x128_0_384 : Rect S128x1024).toLoadRect.idx j)) | 4 => (fun j => X ((Rect.unit ![0, 512] ![128, 128] inb_S128x1024_S128x128_0_512 : Rect S128x1024).toLoadRect.idx j)) | 5 => (fun j => X ((Rect.unit ![0, 640] ![128, 128] inb_S128x1024_S128x128_0_640 : Rect S128x1024).toLoadRect.idx j)) | 6 => (fun j => X ((Rect.unit ![0, 768] ![128, 128] inb_S128x1024_S128x128_0_768 : Rect S128x1024).toLoadRect.idx j)) | 7 => (fun j => X ((Rect.unit ![0, 896] ![128, 128] inb_S128x1024_S128x128_0_896 : Rect S128x1024).toLoadRect.idx j))

theorem newCarry_eq (q : FVec F S8x8x128 .bf16) (X : Vec F S128x1024 .f32) (β : Vec F S64x128 .f32) :
    k0_pay31 (k0_pay15 (k0_pay10 (iota .tc S64x128 32 [1] iota_S64x128_d1_w32) k0_pay7 k0_pay8 k0_pay9) (k0_pay11 q (fun j => X ((Rect.unit ![0, 0] ![128, 128] inb_S128x1024_S128x128_0_0 : Rect S128x1024).toLoadRect.idx j)) (fun j => X ((Rect.unit ![0, 128] ![128, 128] inb_S128x1024_S128x128_0_128 : Rect S128x1024).toLoadRect.idx j)) (fun j => X ((Rect.unit ![0, 256] ![128, 128] inb_S128x1024_S128x128_0_256 : Rect S128x1024).toLoadRect.idx j)) (fun j => X ((Rect.unit ![0, 384] ![128, 128] inb_S128x1024_S128x128_0_384 : Rect S128x1024).toLoadRect.idx j)) (fun j => X ((Rect.unit ![0, 512] ![128, 128] inb_S128x1024_S128x128_0_512 : Rect S128x1024).toLoadRect.idx j)) (fun j => X ((Rect.unit ![0, 640] ![128, 128] inb_S128x1024_S128x128_0_640 : Rect S128x1024).toLoadRect.idx j)) (fun j => X ((Rect.unit ![0, 768] ![128, 128] inb_S128x1024_S128x128_0_768 : Rect S128x1024).toLoadRect.idx j)) (fun j => X ((Rect.unit ![0, 896] ![128, 128] inb_S128x1024_S128x128_0_896 : Rect S128x1024).toLoadRect.idx j)) β) (k0_pay12 q (fun j => X ((Rect.unit ![0, 0] ![128, 128] inb_S128x1024_S128x128_0_0 : Rect S128x1024).toLoadRect.idx j)) (fun j => X ((Rect.unit ![0, 128] ![128, 128] inb_S128x1024_S128x128_0_128 : Rect S128x1024).toLoadRect.idx j)) (fun j => X ((Rect.unit ![0, 256] ![128, 128] inb_S128x1024_S128x128_0_256 : Rect S128x1024).toLoadRect.idx j)) (fun j => X ((Rect.unit ![0, 384] ![128, 128] inb_S128x1024_S128x128_0_384 : Rect S128x1024).toLoadRect.idx j)) (fun j => X ((Rect.unit ![0, 512] ![128, 128] inb_S128x1024_S128x128_0_512 : Rect S128x1024).toLoadRect.idx j)) (fun j => X ((Rect.unit ![0, 640] ![128, 128] inb_S128x1024_S128x128_0_640 : Rect S128x1024).toLoadRect.idx j)) (fun j => X ((Rect.unit ![0, 768] ![128, 128] inb_S128x1024_S128x128_0_768 : Rect S128x1024).toLoadRect.idx j)) (fun j => X ((Rect.unit ![0, 896] ![128, 128] inb_S128x1024_S128x128_0_896 : Rect S128x1024).toLoadRect.idx j)) β))
      = newCarry (newScores q (newHeads (cols X)) β) := shapeCast_self _ _

theorem newOut_eq (q : FVec F S8x8x128 .bf16) (X Y : Vec F S128x1024 .f32) (β : Vec F S64x128 .f32) :
    k0_pay30 (k0_pay14 k0_pay28 (k0_pay10 (iota .tc S64x128 32 [1] iota_S64x128_d1_w32) k0_pay7 k0_pay8 k0_pay9) (k0_pay11 q (fun j => X ((Rect.unit ![0, 0] ![128, 128] inb_S128x1024_S128x128_0_0 : Rect S128x1024).toLoadRect.idx j)) (fun j => X ((Rect.unit ![0, 128] ![128, 128] inb_S128x1024_S128x128_0_128 : Rect S128x1024).toLoadRect.idx j)) (fun j => X ((Rect.unit ![0, 256] ![128, 128] inb_S128x1024_S128x128_0_256 : Rect S128x1024).toLoadRect.idx j)) (fun j => X ((Rect.unit ![0, 384] ![128, 128] inb_S128x1024_S128x128_0_384 : Rect S128x1024).toLoadRect.idx j)) (fun j => X ((Rect.unit ![0, 512] ![128, 128] inb_S128x1024_S128x128_0_512 : Rect S128x1024).toLoadRect.idx j)) (fun j => X ((Rect.unit ![0, 640] ![128, 128] inb_S128x1024_S128x128_0_640 : Rect S128x1024).toLoadRect.idx j)) (fun j => X ((Rect.unit ![0, 768] ![128, 128] inb_S128x1024_S128x128_0_768 : Rect S128x1024).toLoadRect.idx j)) (fun j => X ((Rect.unit ![0, 896] ![128, 128] inb_S128x1024_S128x128_0_896 : Rect S128x1024).toLoadRect.idx j)) β) (k0_pay12 q (fun j => X ((Rect.unit ![0, 0] ![128, 128] inb_S128x1024_S128x128_0_0 : Rect S128x1024).toLoadRect.idx j)) (fun j => X ((Rect.unit ![0, 128] ![128, 128] inb_S128x1024_S128x128_0_128 : Rect S128x1024).toLoadRect.idx j)) (fun j => X ((Rect.unit ![0, 256] ![128, 128] inb_S128x1024_S128x128_0_256 : Rect S128x1024).toLoadRect.idx j)) (fun j => X ((Rect.unit ![0, 384] ![128, 128] inb_S128x1024_S128x128_0_384 : Rect S128x1024).toLoadRect.idx j)) (fun j => X ((Rect.unit ![0, 512] ![128, 128] inb_S128x1024_S128x128_0_512 : Rect S128x1024).toLoadRect.idx j)) (fun j => X ((Rect.unit ![0, 640] ![128, 128] inb_S128x1024_S128x128_0_640 : Rect S128x1024).toLoadRect.idx j)) (fun j => X ((Rect.unit ![0, 768] ![128, 128] inb_S128x1024_S128x128_0_768 : Rect S128x1024).toLoadRect.idx j)) (fun j => X ((Rect.unit ![0, 896] ![128, 128] inb_S128x1024_S128x128_0_896 : Rect S128x1024).toLoadRect.idx j)) β))
        (k0_pay16 (fun j => Y ((Rect.unit ![0, 0] ![128, 128] inb_S128x1024_S128x128_0_0 : Rect S128x1024).toLoadRect.idx j))) (k0_pay17 (fun j => Y ((Rect.unit ![0, 128] ![128, 128] inb_S128x1024_S128x128_0_128 : Rect S128x1024).toLoadRect.idx j))) (k0_pay18 (fun j => Y ((Rect.unit ![0, 256] ![128, 128] inb_S128x1024_S128x128_0_256 : Rect S128x1024).toLoadRect.idx j))) (k0_pay19 (fun j => Y ((Rect.unit ![0, 384] ![128, 128] inb_S128x1024_S128x128_0_384 : Rect S128x1024).toLoadRect.idx j))) (k0_pay20 (fun j => Y ((Rect.unit ![0, 512] ![128, 128] inb_S128x1024_S128x128_0_512 : Rect S128x1024).toLoadRect.idx j))) (k0_pay21 (fun j => Y ((Rect.unit ![0, 640] ![128, 128] inb_S128x1024_S128x128_0_640 : Rect S128x1024).toLoadRect.idx j))) (fun j => Y ((Rect.unit ![0, 768] ![128, 128] inb_S128x1024_S128x128_0_768 : Rect S128x1024).toLoadRect.idx j)) (fun j => Y ((Rect.unit ![0, 896] ![128, 128] inb_S128x1024_S128x128_0_896 : Rect S128x1024).toLoadRect.idx j))
      = newOut (newWeights (newScores q (newHeads (cols X)) β)) (newHeads (cols Y)) := shapeCast_self _ _

theorem whole_eq (X : Vec F S64x128 .f32) :
    View.canon (Val := Elt F) (s := S64x128) (e := .f32) [⟨Rect.unit ![0, 0] ![64, 128] inb_S64x128_S64x128_0_0, X⟩] = X :=
  View.canon_cons_unit_lit _ _ _ (by decide)

/-- The output block of an accumulator: row `n` of head `h` goes to row `n`, columns `h * 128` and on. -/
def rowsOf (X : Vec F S64x128 .f32) : Vec F S1x4x1024 .f32 :=
  fun y => X (ix2 ⟨(y 2).val / 128 * 8 + (y 1).val, by have h1 : (y 1).val < 4 := (y 1).isLt; have h2 : (y 2).val < 1024 := (y 2).isLt; omega⟩
    ⟨(y 2).val % 128, by omega⟩)

theorem rowsOf_eq (X : Vec F S64x128 .f32) :
    View.canon (Val := Elt F) (s := S1x4x1024) (e := .f32) [⟨Rect.unit ![0, 0, 896] ![1, 4, 128] inb_S1x4x1024_S1x4x128_0_0_896, k0_pay2 (fun j => X ((Rect.unit ![56, 0] ![4, 128] inb_S64x128_S4x128_56_0 : Rect S64x128).toLoadRect.idx j))⟩, ⟨Rect.unit ![0, 0, 768] ![1, 4, 128] inb_S1x4x1024_S1x4x128_0_0_768, k0_pay1 (fun j => X ((Rect.unit ![48, 0] ![4, 128] inb_S64x128_S4x128_48_0 : Rect S64x128).toLoadRect.idx j))⟩, ⟨Rect.unit ![0, 0, 640] ![1, 4, 128] inb_S1x4x1024_S1x4x128_0_0_640, k0_pay27 (fun j => X ((Rect.unit ![40, 0] ![4, 128] inb_S64x128_S4x128_40_0 : Rect S64x128).toLoadRect.idx j))⟩, ⟨Rect.unit ![0, 0, 512] ![1, 4, 128] inb_S1x4x1024_S1x4x128_0_0_512, k0_pay26 (fun j => X ((Rect.unit ![32, 0] ![4, 128] inb_S64x128_S4x128_32_0 : Rect S64x128).toLoadRect.idx j))⟩, ⟨Rect.unit ![0, 0, 384] ![1, 4, 128] inb_S1x4x1024_S1x4x128_0_0_384, k0_pay25 (fun j => X ((Rect.unit ![24, 0] ![4, 128] inb_S64x128_S4x128_24_0 : Rect S64x128).toLoadRect.idx j))⟩, ⟨Rect.unit ![0, 0, 256] ![1, 4, 128] inb_S1x4x1024_S1x4x128_0_0_256, k0_pay24 (fun j => X ((Rect.unit ![16, 0] ![4, 128] inb_S64x128_S4x128_16_0 : Rect S64x128).toLoadRect.idx j))⟩, ⟨Rect.unit ![0, 0, 128] ![1, 4, 128] inb_S1x4x1024_S1x4x128_0_0_128, k0_pay23 (fun j => X ((Rect.unit ![8, 0] ![4, 128] inb_S64x128_S4x128_8_0 : Rect S64x128).toLoadRect.idx j))⟩, ⟨Rect.unit ![0, 0, 0] ![1, 4, 128] inb_S1x4x1024_S1x4x128_0_0_0, k0_pay22 (fun j => X ((Rect.unit ![0, 0] ![4, 128] inb_S64x128_S4x128_0_0 : Rect S64x128).toLoadRect.idx j))⟩] = rowsOf X := by
  refine funext fun y => View.canon_apply_of_pieces _ _ ?_ y (View.cover_of_tiled_head _ _ _ rfl y)
  have e (o : ℕ) (ho : ∀ a, (![o * 8, 0] : Fin 2 → ℕ) a + (![4, 128] : Fin 2 → ℕ) a ≤ S64x128.size a) (hi : ∀ a, (![0, 0, o * 128] : Fin 3 → ℕ) a + (![1, 4, 128] : Fin 3 → ℕ) a ≤ S1x4x1024.size a)
      (x : S1x4x128.Idx) : shapeCast S1x4x128 (fun j => X ((Rect.unit ![o * 8, 0] ![4, 128] ho : Rect S64x128).toLoadRect.idx j) : Vec F S4x128 .f32) shapeCasts_S4x128_S1x4x128 x
        = rowsOf X ((Rect.unit ![0, 0, o * 128] ![1, 4, 128] hi : Rect S1x4x1024).emb x) := by
    obtain ⟨n, d, rfl⟩ : ∃ (n : Fin 4) (d : Fin 128), x = ix3 0 n d := ⟨x 1, x 2, funext fun a => match a with
      | ⟨0, _⟩ => Fin.ext (by have := (x 0).isLt; show (x 0).val = 0; have h : S1x4x128.size 0 = 1 := rfl; omega) | ⟨1, _⟩ => rfl | ⟨2, _⟩ => rfl⟩
    pointwise [rowsOf]
    refine congrArg X (funext fun a => Fin.ext ?_)
    match a with
    | ⟨0, _⟩ => show o * 8 + n.val = (o * 128 + 1 * d.val) / 128 * 8 + (0 + 1 * n.val); omega
    | ⟨1, _⟩ => show d.val = (o * 128 + 1 * d.val) % 128; omega
  simp only [List.forall_mem_cons, List.forall_mem_nil, and_true, List.mem_cons, List.not_mem_nil, forall_eq_or_imp, false_imp_iff, implies_true]
  refine ⟨e 7 _ _, e 6 _ _, e 5 _ _, e 4 _ _, e 3 _ _, e 2 _ _, e 1 _ _, e 0 _ _⟩

theorem rowsOf_apply (X : Vec F S64x128 .f32) (n : Fin 4) (h : Fin 8) (d : Fin 128) :
    rowsOf X (ix3 0 n ⟨h.val * 128 + d.val, by omega⟩) = X (ix2 ⟨h.val * 8 + n.val, by omega⟩ d) := by
  refine congrArg X (funext fun a => Fin.ext ?_)
  match a with
  | ⟨0, _⟩ => show (h.val * 128 + d.val) / 128 * 8 + n.val = h.val * 8 + n.val; omega
  | ⟨1, _⟩ => show (h.val * 128 + d.val) % 128 = d.val; omega

theorem cols_apply (X : Vec F S128x1024 .f32) (h : Fin 8) (c d : Fin 128) : cols X h (ix2 c d) = X (ix2 c ⟨h.val * 128 + d.val, by omega⟩) := by
  have e (o k : ℕ) (ho : ∀ a, (![0, o] : Fin 2 → ℕ) a + (![128, 128] : Fin 2 → ℕ) a ≤ S128x1024.size a) (hk : k < 8) (h : o = k * 128) :
      X ((Rect.unit ![0, o] ![128, 128] ho : Rect S128x1024).toLoadRect.idx (ix2 c d : S128x128.Idx)) = X (ix2 c ⟨k * 128 + d.val, by omega⟩) :=
    congrArg X (funext fun a => Fin.ext (match a with
      | ⟨0, _⟩ => by show 0 + 1 * c.val = c.val; omega
      | ⟨1, _⟩ => by show o + 1 * d.val = k * 128 + d.val; omega))
  fin_cases h
  exacts [e 0 0 _ (by omega) rfl, e 128 1 _ (by omega) rfl, e 256 2 _ (by omega) rfl, e 384 3 _ (by omega) rfl, e 512 4 _ (by omega) rfl,
    e 640 5 _ (by omega) rfl, e 768 6 _ (by omega) rfl, e 896 7 _ (by omega) rfl]

theorem pad_apply (r : Vec F S4x1024 .f32) (z : Vec F S128x1024 .f32) (x : Vec F S1x4x1024 .f32) (hr : ∀ n k, r (ix2 n k) = x (ix3 0 n k)) (c : Fin 128) (k : Fin 1024) :
    View.canon (Val := Elt F) (s := S128x1024) (e := .f32) [⟨Rect.unit ![0, 0] ![4, 1024] inb_S128x1024_S4x1024_0_0, r⟩,
      ⟨Rect.unit ![0, 0] ![128, 1024] inb_S128x1024_S128x1024_0_0, z⟩] (ix2 c k) = if h : c.val < 4 then x (ix3 0 ⟨c.val, h⟩ k) else z (ix2 c k) := by
  split_ifs with h
  · rw [← hr, show (ix2 c k : S128x1024.Idx) = (Rect.unit ![0, 0] ![4, 1024] inb_S128x1024_S4x1024_0_0 : Rect S128x1024).emb (ix2 ⟨c.val, h⟩ k : S4x1024.Idx) from
      funext fun a => Fin.ext (match a with
        | ⟨0, _⟩ => by show c.val = 0 + 1 * c.val; omega
        | ⟨1, _⟩ => by show k.val = 0 + 1 * k.val; omega)]
    exact View.canon_cons_emb _ _ _ _
  · rw [View.canon_cons_of_not_mem]
    · exact congrFun (View.canon_cons_unit_lit (Val := Elt F) (S := S128x1024) (e := .f32) _ _ _ (by decide)) _
    · intro hm
      obtain ⟨y, hy⟩ := (Rect.unit ![0, 0] ![4, 1024] inb_S128x1024_S4x1024_0_0 : Rect S128x1024).exists_idx_of_mem hm
      have h0 := congrArg Fin.val (congrFun hy 0)
      have h1 : (y 0).val < 4 := (y 0).isLt
      have h2 : 0 + 1 * (y 0).val = c.val := h0
      omega

theorem cols_padK_apply (x : Vec Ideal S1x4x1024 .f32) (h : Fin 8) (c d : Fin 128) :
    cols (padK x) h (ix2 c d) = if hc : c.val < 4 then x (ix3 0 ⟨c.val, hc⟩ ⟨h.val * 128 + d.val, by omega⟩) else 0 := by
  rw [cols_apply, padK, pad_apply _ _ x (fun n k => by pointwise [k0_pay5])]
  split_ifs
  · rfl
  · pointwise [k0_pay3]

theorem cols_padV_apply (x : Vec Ideal S1x4x1024 .f32) (h : Fin 8) (c d : Fin 128) :
    cols (padV x) h (ix2 c d) = if hc : c.val < 4 then x (ix3 0 ⟨c.val, hc⟩ ⟨h.val * 128 + d.val, by omega⟩) else 0 := by
  rw [cols_apply, padV, pad_apply _ _ x (fun n k => by pointwise [k0_pay6])]
  split_ifs
  · rfl
  · pointwise [k0_pay4]

theorem carry_eq (z : FVec F S4x64x128 .f32) (κ : Vec F S64x1 .f32) :
    k0_pay121 (k0_pay85 (k0_pay79 z (k0_pay70 κ (maximumf (slot0 z) (broadcast S64x128 (Scalar.ofBits .f32 0x00000000#32))) (absf (slot0 z))) (k0_pay74 z)) (k0_pay81 z))
      = stepCarry z κ := shapeCast_self _ _

theorem carry_B (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : ¬cond0_0 i) (hc1 : ¬cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) (xs0 : Vec F S64x128 .f32) (xs1 : Vec F S64x1 .f32) :
    sout0_B_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1 = stepCarry (scores (k0_pay29 x0) (heads (four x2 x4 x6 x8)) x1) xs1 := by
  unfold sout0_B_1
  frame_out
  simp only [View.readCov_eq_canon', readAt_unread, Memref.IsWhole.read_unread, pay65_eq, pay66_eq, pay67_eq, scores_eq, out_eq, weights_eq, carry_eq]

theorem acc_B (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : ¬cond0_0 i) (hc1 : ¬cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) (xs0 : Vec F S64x128 .f32) (xs1 : Vec F S64x1 .f32) :
    sout0_B_0 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1 = stepOut (stepWeights (scores (k0_pay29 x0) (heads (four x2 x4 x6 x8)) x1) xs1) (heads (four x3 x5 x7 x9)) xs0 := by
  unfold sout0_B_0
  frame_out
  simp only [View.readCov_eq_canon', readAt_unread, Memref.IsWhole.read_unread, pay65_eq, pay66_eq, pay67_eq, scores_eq, out_eq, weights_eq, carry_eq]

theorem carry_C (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : ¬cond0_0 i) (hc1 : cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) (xs0 : Vec F S64x128 .f32) (xs1 : Vec F S64x1 .f32) :
    sout0_C_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1 = stepCarry (scores (k0_pay29 x0) (heads (four x2 x4 x6 x8)) x1) xs1 := by
  unfold sout0_C_1
  frame_out
  simp only [View.readCov_eq_canon', readAt_unread, Memref.IsWhole.read_unread, pay65_eq, pay66_eq, pay67_eq, scores_eq, out_eq, weights_eq, carry_eq]

theorem acc_C (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : ¬cond0_0 i) (hc1 : cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) (xs0 : Vec F S64x128 .f32) (xs1 : Vec F S64x1 .f32) :
    sout0_C_0 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1 = stepOut (stepWeights (scores (k0_pay29 x0) (heads (four x2 x4 x6 x8)) x1) xs1) (heads (four x3 x5 x7 x9)) xs0 := by
  unfold sout0_C_0
  frame_out
  simp only [View.readCov_eq_canon', readAt_unread, Memref.IsWhole.read_unread, pay65_eq, pay66_eq, pay67_eq, scores_eq, out_eq, weights_eq, carry_eq]

theorem carry_A (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : cond0_0 i) (hc1 : ¬cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0)
    (K V : Vec F S128x1024 .f32) (hK : View.canon (Val := Elt F) (s := S128x1024) (e := .f32) [⟨Rect.unit ![0, 0] ![4, 1024] inb_S128x1024_S4x1024_0_0, k0_pay5 x10⟩, ⟨Rect.unit ![0, 0] ![128, 1024] inb_S128x1024_S128x1024_0_0, k0_pay3⟩] = K)
    (hV : View.canon (Val := Elt F) (s := S128x1024) (e := .f32) [⟨Rect.unit ![0, 0] ![4, 1024] inb_S128x1024_S4x1024_0_0, k0_pay6 x11⟩, ⟨Rect.unit ![0, 0] ![128, 1024] inb_S128x1024_S128x1024_0_0, k0_pay4⟩] = V) :
    sout0_A_1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 = stepCarry (scores (k0_pay29 x0) (heads (four x2 x4 x6 x8)) x1) (newCarry (newScores (k0_pay29 x0) (newHeads (cols K)) x1)) := by
  unfold sout0_A_1
  frame_out
  simp only [View.readCov_eq_canon', readAt_unread, Memref.IsWhole.read_unread, pay65_eq, pay66_eq, pay67_eq, scores_eq, out_eq, weights_eq, carry_eq]
  simp only [hK, hV]
  exact congrArg (stepCarry _) (newCarry_eq (k0_pay29 x0) K x1)

theorem acc_A (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : cond0_0 i) (hc1 : ¬cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0)
    (K V : Vec F S128x1024 .f32) (hK : View.canon (Val := Elt F) (s := S128x1024) (e := .f32) [⟨Rect.unit ![0, 0] ![4, 1024] inb_S128x1024_S4x1024_0_0, k0_pay5 x10⟩, ⟨Rect.unit ![0, 0] ![128, 1024] inb_S128x1024_S128x1024_0_0, k0_pay3⟩] = K)
    (hV : View.canon (Val := Elt F) (s := S128x1024) (e := .f32) [⟨Rect.unit ![0, 0] ![4, 1024] inb_S128x1024_S4x1024_0_0, k0_pay6 x11⟩, ⟨Rect.unit ![0, 0] ![128, 1024] inb_S128x1024_S128x1024_0_0, k0_pay4⟩] = V) :
    sout0_A_0 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 = stepOut (stepWeights (scores (k0_pay29 x0) (heads (four x2 x4 x6 x8)) x1) (newCarry (newScores (k0_pay29 x0) (newHeads (cols K)) x1))) (heads (four x3 x5 x7 x9)) (newOut (newWeights (newScores (k0_pay29 x0) (newHeads (cols K)) x1)) (newHeads (cols V))) := by
  unfold sout0_A_0
  frame_out
  simp only [View.readCov_eq_canon', readAt_unread, Memref.IsWhole.read_unread, pay65_eq, pay66_eq, pay67_eq, scores_eq, out_eq, weights_eq, carry_eq]
  simp only [hK, hV]
  exact congrArg₂ (fun κ a => stepOut (stepWeights _ κ) _ a) (newCarry_eq (k0_pay29 x0) K x1) (newOut_eq (k0_pay29 x0) K V x1)

theorem out_C (c : Dev nD) (i : grid0.Coords) (arg3 : Memref sig .tc .vmem S1x64x128 .bf16) (harg3 : arg3.IsWhole) (arg4 : Memref sig .tc .vmem S64x128 .f32) (harg4 : arg4.IsWhole) (arg5 : Memref sig .tc .vmem S1x1x1024x128 .f32) (harg5 : arg5.IsWhole) (arg6 : Memref sig .tc .vmem S1x1x1024x128 .f32) (harg6 : arg6.IsWhole) (arg7 : Memref sig .tc .vmem S1x1x1024x128 .f32) (harg7 : arg7.IsWhole) (arg8 : Memref sig .tc .vmem S1x1x1024x128 .f32) (harg8 : arg8.IsWhole) (arg9 : Memref sig .tc .vmem S1x1x1024x128 .f32) (harg9 : arg9.IsWhole) (arg10 : Memref sig .tc .vmem S1x1x1024x128 .f32) (harg10 : arg10.IsWhole) (arg11 : Memref sig .tc .vmem S1x1x1024x128 .f32) (harg11 : arg11.IsWhole) (arg12 : Memref sig .tc .vmem S1x1x1024x128 .f32) (harg12 : arg12.IsWhole) (arg13 : Memref sig .tc .vmem S1x4x1024 .f32) (harg13 : arg13.IsWhole) (arg14 : Memref sig .tc .vmem S1x4x1024 .f32) (harg14 : arg14.IsWhole) (arg15 : Memref sig .tc .vmem S1x4x1024 .f32) (harg15 : arg15.IsWhole) (arg16 : Memref sig .tc .vmem S64x128 .f32) (harg16 : arg16.IsWhole) (arg17 : Memref sig .tc .vmem S64x1 .f32) (harg17 : arg17.IsWhole) (arg18 : Memref sig .tc .vmem S128x1024 .f32) (harg18 : arg18.IsWhole) (arg19 : Memref sig .tc .vmem S128x1024 .f32) (harg19 : arg19.IsWhole) (hc0 : ¬cond0_0 i) (hc1 : cond0_1 i)
    (x0 : Vec F S1x64x128 .bf16) (x1 : Vec F S64x128 .f32) (x2 : Vec F S1x1x1024x128 .f32) (x3 : Vec F S1x1x1024x128 .f32) (x4 : Vec F S1x1x1024x128 .f32) (x5 : Vec F S1x1x1024x128 .f32) (x6 : Vec F S1x1x1024x128 .f32) (x7 : Vec F S1x1x1024x128 .f32) (x8 : Vec F S1x1x1024x128 .f32) (x9 : Vec F S1x1x1024x128 .f32) (x10 : Vec F S1x4x1024 .f32) (x11 : Vec F S1x4x1024 .f32) (xt0 : TbBuf0 (F := F) c tbM0_0) (xs0 : Vec F S64x128 .f32) (xs1 : Vec F S64x1 .f32) :
    out0_C_12 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 xt0 xs0 xs1 = rowsOf (stepOut (stepWeights (scores (k0_pay29 x0) (heads (four x2 x4 x6 x8)) x1) xs1) (heads (four x3 x5 x7 x9)) xs0) := by
  unfold out0_C_12
  frame_out
  simp only [View.readCov_eq_canon', whole_eq, readAt_unread, Memref.IsWhole.read_unread, pay65_eq, pay66_eq, pay67_eq, scores_eq, out_eq, weights_eq, carry_eq]
  exact rowsOf_eq (F := F) _

/-! ## The state after a step -/

variable (m : (ℓ : Loc nD τ sig) → Buf (Elt F) ℓ)

/-- A step's blocks: the queries, the bias, four pages of keys, four of values, the new keys and the new values. -/
def qBlk (hO : Ok m) (c : Dev nD) (t : Fin (cfgM m hO).N) : Vec F S1x64x128 .bf16 := iblk m hO c 0 t
def bBlk (hO : Ok m) (c : Dev nD) (t : Fin (cfgM m hO).N) : Vec F S64x128 .f32 := iblk m hO c 1 t
def kPages (hO : Ok m) (c : Dev nD) (t : Fin (cfgM m hO).N) : Fin 4 → Vec F S1x1x1024x128 .f32 := four (iblk m hO c 2 t) (iblk m hO c 4 t) (iblk m hO c 6 t) (iblk m hO c 8 t)
def vPages (hO : Ok m) (c : Dev nD) (t : Fin (cfgM m hO).N) : Fin 4 → Vec F S1x1x1024x128 .f32 := four (iblk m hO c 3 t) (iblk m hO c 5 t) (iblk m hO c 7 t) (iblk m hO c 9 t)
def kBlk (hO : Ok m) (c : Dev nD) (t : Fin (cfgM m hO).N) : Vec F S1x4x1024 .f32 := iblk m hO c 10 t
def vBlk (hO : Ok m) (c : Dev nD) (t : Fin (cfgM m hO).N) : Vec F S1x4x1024 .f32 := iblk m hO c 11 t

/-- A step's scores: of its pages, and of the new keys. -/
def pageScores (hO : Ok m) (c : Dev nD) (t : Fin (cfgM m hO).N) : FVec F S4x64x128 .f32 :=
  scores (k0_pay29 (qBlk m hO c t)) (heads (kPages m hO c t)) (bBlk m hO c t)
def tailScores (hO : Ok m) (c : Dev nD) (t : Fin (cfgM m hO).N) : FVec F S64x128 .f32 :=
  newScores (k0_pay29 (qBlk m hO c t)) (newHeads (cols (padK (kBlk m hO c t)))) (bBlk m hO c t)

/-- The accumulator and the carry after a step. -/
def acc (hO : Ok m) (c : Dev nD) (n : ℕ) (hn : n < (cfgM m hO).N) : Vec F S64x128 .f32 := (outsAt0 m hO c n hn).2.1
def left' (hO : Ok m) (c : Dev nD) (n : ℕ) (hn : n < (cfgM m hO).N) : Vec F S64x1 .f32 := (outsAt0 m hO c n hn).2.2

theorem left_first (hO : Ok m) (c : Dev nD) (t : Fin (cfgM m hO).N) (h0 : t.val % 4 = 0) :
    left' m hO c t.val t.isLt = stepCarry (pageScores m hO c t) (newCarry (tailScores m hO c t)) := by
  have h1 : ¬t.val % 4 = 3 := by omega
  rw [left', outsAt0_A m hO c t h0 h1]
  exact carry_A (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) _ _ rfl rfl

theorem acc_first (hO : Ok m) (c : Dev nD) (t : Fin (cfgM m hO).N) (h0 : t.val % 4 = 0) :
    acc m hO c t.val t.isLt = stepOut (stepWeights (pageScores m hO c t) (newCarry (tailScores m hO c t))) (heads (vPages m hO c t))
      (newOut (newWeights (tailScores m hO c t)) (newHeads (cols (padV (vBlk m hO c t))))) := by
  have h1 : ¬t.val % 4 = 3 := by omega
  rw [acc, outsAt0_A m hO c t h0 h1]
  exact acc_A (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) _ _ rfl rfl

theorem left_later (hO : Ok m) (c : Dev nD) (t : Fin (cfgM m hO).N) (h0 : ¬t.val % 4 = 0) :
    left' m hO c t.val t.isLt = stepCarry (pageScores m hO c t) (left' m hO c (t.val - 1) (by omega)) := by
  by_cases h1 : t.val % 4 = 3
  · rw [left', outsAt0_C m hO c t h0 h1]
    exact carry_C (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) (outsAt0 m hO c (t.val - 1) (by omega)).2.1 (outsAt0 m hO c (t.val - 1) (by omega)).2.2
  · rw [left', outsAt0_B m hO c t h0 h1]
    exact carry_B (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) (outsAt0 m hO c (t.val - 1) (by omega)).2.1 (outsAt0 m hO c (t.val - 1) (by omega)).2.2

theorem acc_later (hO : Ok m) (c : Dev nD) (t : Fin (cfgM m hO).N) (h0 : ¬t.val % 4 = 0) :
    acc m hO c t.val t.isLt = stepOut (stepWeights (pageScores m hO c t) (left' m hO c (t.val - 1) (by omega))) (heads (vPages m hO c t))
      (acc m hO c (t.val - 1) (by omega)) := by
  by_cases h1 : t.val % 4 = 3
  · rw [acc, outsAt0_C m hO c t h0 h1]
    exact acc_C (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) (outsAt0 m hO c (t.val - 1) (by omega)).2.1 (outsAt0 m hO c (t.val - 1) (by omega)).2.2
  · rw [acc, outsAt0_B m hO c t h0 h1]
    exact acc_B (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) (outsAt0 m hO c (t.val - 1) (by omega)).2.1 (outsAt0 m hO c (t.val - 1) (by omega)).2.2

theorem outs_last (hO : Ok m) (c : Dev nD) (t : Fin (cfgM m hO).N) (h1 : t.val % 4 = 3) :
    (outsAt0 m hO c t.val t.isLt).1 = rowsOf (acc m hO c t.val t.isLt) := by
  have h0 : ¬t.val % 4 = 0 := by omega
  rw [acc_later m hO c t h0, outsAt0_C m hO c t h0 h1]
  exact out_C (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) (outsAt0 m hO c (t.val - 1) (by omega)).2.1 (outsAt0 m hO c (t.val - 1) (by omega)).2.2

end Cert.Paged
end
-- ==== Proof.SampleBlocks.lean ====
/- The blocks of the paged attention's call: the rows of the arguments that a step of a sequence reads. -/
module

public import proofs.«01_k».proof.Proof.SampleStep
public import Idealize.ShloMosaic.Lib.Pipeline.ValueKit
public import Idealize.ShloMosaic.Lib.StableHlo.ReadAt
public import Idealize.ShloMosaic.Lib.Pipeline.Covers

@[expose] public section

set_option maxRecDepth 16384

noncomputable section

namespace Cert.Paged
open Idealize.ShloMosaic Idealize.ShloMosaic.TcCoe Idealize.SL.Sem Cert.SampleIdeal Cert.SampleIdeal.Gen

theorem coords : ∀ t : Fin grid0.N, (grid0.coords t 0).val = t.val / 4 ∧ (grid0.coords t 1).val = t.val % 4 := by decide +kernel

theorem idx_fixed : ∀ t : Fin grid0.N, cc0_transform_0 (grid0.coords t) = ![t.val / 4, 0, 0] ∧ cc0_transform_1 (grid0.coords t) = ![0, 0]
    ∧ cc0_transform_10 (grid0.coords t) = ![t.val / 4, 0, 0] := by decide +kernel

theorem off1 : ∀ (t : Fin grid0.N) (r : Fin 4), k0_off1 (grid0.coords t) (BitVec.ofNat 32 (12 + r.val)) = ![t.val / 4, 12 + r.val - 4 * (t.val % 4)] := by
  decide +kernel

section
variable {F : FTy → Type} [FloatOps F] (pf : pre0.Contents (Elt F))

/-- The page number that a place of the table names. -/
def pageNo (b p : ℕ) : ℕ := if h : b < 128 ∧ p < 16 then BitVec.toNat (pf 0 (ix2 ⟨b, h.1⟩ ⟨p, h.2⟩) : BitVec 32) else 0

theorem page_at (t : Fin grid0.N) (r : Fin 4) :
    BitVec.toNat (pf.at 0 (Rect.unit (s := S128x16) (k0_off1 (grid0.coords t) (BitVec.ofNat 32 (12 + r.val))) S1x1.size (k0_off1_inb (grid0.coords t) r)) numel1_S1x1 : BitVec 32)
      = pageNo pf (t.val / 4) (12 + r.val - 4 * (t.val % 4)) := by
  have ht : t.val < 512 := by have := t.isLt; have := N_0; omega
  rw [pageNo, dif_pos ⟨by omega, by omega⟩]
  refine congrArg (fun j => BitVec.toNat (pf 0 j : BitVec 32)) (funext fun (a : Fin 2) => Fin.ext ?_)
  have h := congrFun (off1 t r) a
  refine ((ValueKit.rect_emb_unit_val (s := S128x16) _ _ (k0_off1_inb (grid0.coords t) r) _ a).trans (congrArg (· + _) h)).trans ?_
  match a with
  | 0 => rfl
  | 1 => rfl

theorem idx_page (t : Fin grid0.N) :
    cc0_transform_2 k0_off1_inb numel1_S1x1 pf (grid0.coords t) = ![0, pageNo pf (t.val / 4) (15 - 4 * (t.val % 4)), 0, 0]
    ∧ cc0_transform_3 k0_off1_inb numel1_S1x1 pf (grid0.coords t) = ![0, pageNo pf (t.val / 4) (15 - 4 * (t.val % 4)), 0, 0]
    ∧ cc0_transform_4 k0_off1_inb numel1_S1x1 pf (grid0.coords t) = ![0, pageNo pf (t.val / 4) (14 - 4 * (t.val % 4)), 0, 0]
    ∧ cc0_transform_5 k0_off1_inb numel1_S1x1 pf (grid0.coords t) = ![0, pageNo pf (t.val / 4) (14 - 4 * (t.val % 4)), 0, 0]
    ∧ cc0_transform_6 k0_off1_inb numel1_S1x1 pf (grid0.coords t) = ![0, pageNo pf (t.val / 4) (13 - 4 * (t.val % 4)), 0, 0]
    ∧ cc0_transform_7 k0_off1_inb numel1_S1x1 pf (grid0.coords t) = ![0, pageNo pf (t.val / 4) (13 - 4 * (t.val % 4)), 0, 0]
    ∧ cc0_transform_8 k0_off1_inb numel1_S1x1 pf (grid0.coords t) = ![0, pageNo pf (t.val / 4) (12 - 4 * (t.val % 4)), 0, 0]
    ∧ cc0_transform_9 k0_off1_inb numel1_S1x1 pf (grid0.coords t) = ![0, pageNo pf (t.val / 4) (12 - 4 * (t.val % 4)), 0, 0] := by
  have e (r : Fin 4) := page_at pf t r
  exact ⟨congrArg (fun p => ![0, p, 0, 0]) (e 3), congrArg (fun p => ![0, p, 0, 0]) (e 3), congrArg (fun p => ![0, p, 0, 0]) (e 2), congrArg (fun p => ![0, p, 0, 0]) (e 2),
    congrArg (fun p => ![0, p, 0, 0]) (e 1), congrArg (fun p => ![0, p, 0, 0]) (e 1), congrArg (fun p => ![0, p, 0, 0]) (e 0), congrArg (fun p => ![0, p, 0, 0]) (e 0)⟩

/-- A table whose entries name pages of the pool keeps every block inside the pool. -/
theorem ok_of_lt (h : ∀ b p : ℕ, pageNo pf b p < 2560) : ok0 pf := by
  have key : ∀ i : grid0.Coords, ∃ t : Fin grid0.N, grid0.coords t = i := Pipeline.Grid.coords_surjective grid0
  have inb (x : Fin 4 → ℕ) (n : ℕ) (hn : n < 2560) (hx : x = ![0, n, 0, 0]) :
      ∃ h : (∀ a, (x a + 1) * S1x1x1024x128.size a ≤ S1x2560x1024x128.size a), EltTy.bits .f32 = 32 ∨ (Rect.block (s := S1x2560x1024x128) S1x1x1024x128.size x h).WholeWords (EltTy.packing .f32) := by
    subst hx
    refine ⟨fun a => ?_, Or.inl rfl⟩
    match a with
    | 0 => show (0 + 1) * 1 ≤ 1; omega
    | 1 => show (n + 1) * 1 ≤ 2560; omega
    | 2 => show (0 + 1) * 1024 ≤ 1024; omega
    | 3 => show (0 + 1) * 128 ≤ 128; omega
  refine ⟨fun i => ?_, fun i => ?_, fun i => ?_, fun i => ?_, fun i => ?_, fun i => ?_, fun i => ?_, fun i => ?_⟩ <;> obtain ⟨t, rfl⟩ := key i
  · exact inb _ _ (h _ _) (idx_page pf t).1
  · exact inb _ _ (h _ _) (idx_page pf t).2.1
  · exact inb _ _ (h _ _) (idx_page pf t).2.2.1
  · exact inb _ _ (h _ _) (idx_page pf t).2.2.2.1
  · exact inb _ _ (h _ _) (idx_page pf t).2.2.2.2.1
  · exact inb _ _ (h _ _) (idx_page pf t).2.2.2.2.2.1
  · exact inb _ _ (h _ _) (idx_page pf t).2.2.2.2.2.2.1
  · exact inb _ _ (h _ _) (idx_page pf t).2.2.2.2.2.2.2
end

variable (m : (ℓ : Loc nD τ sig) → Buf (Elt Ideal) ℓ) (c : Dev nD)

theorem V_kpool (P : Fin 2560) (r : Fin 1024) (d : Fin 128) : V m c main_v15 (ix4 0 P r d)
    = m ((c : Thread nD τ).loc main_arg1) (ix5 0 P ⟨r.val / 8, by omega⟩ ⟨r.val % 8, by omega⟩ d) := by
  unfold V
  after_reads_at

theorem V_vpool (P : Fin 2560) (r : Fin 1024) (d : Fin 128) : V m c main_v16 (ix4 0 P r d)
    = m ((c : Thread nD τ).loc main_arg2) (ix5 0 P ⟨r.val / 8, by omega⟩ ⟨r.val % 8, by omega⟩ d) := by
  unfold V
  after_reads_at

theorem V_bias (R : Fin 64) (k : Fin 128) : V m c main_v14 (ix2 R k) = m ((c : Thread nD τ).loc main_arg4) (ix2 0 ⟨R.val / 8, by omega⟩) := by
  unfold V
  after_reads_at

theorem V_knew (b : Fin 128) (n : Fin 4) (e : Fin 1024) : V m c main_v3 (ix3 b n e)
    = m ((c : Thread nD τ).loc main_arg0) (ix2 ⟨8192 + (b.val * 4 + n.val), by omega⟩ ⟨1024 + e.val, by omega⟩) := by
  unfold V
  after_reads_at

theorem V_vnew (b : Fin 128) (n : Fin 4) (e : Fin 1024) : V m c main_v4 (ix3 b n e)
    = m ((c : Thread nD τ).loc main_arg0) (ix2 ⟨8192 + (b.val * 4 + n.val), by omega⟩ ⟨2048 + e.val, by omega⟩) := by
  unfold V
  after_reads_at

theorem V_query (b : Fin 128) (h : Fin 8) (n : Fin 8) (hn : n.val < 4) (d : Fin 128) : V m c main_v10 (ix3 b ⟨h.val * 8 + n.val, by omega⟩ d)
    = m ((c : Thread nD τ).loc main_arg0) (ix2 ⟨8192 + (b.val * 4 + n.val), by omega⟩ ⟨h.val * 128 + d.val, by omega⟩) := by
  unfold V
  after_reads_at
  rw [dif_pos ⟨by omega, by omega⟩]
  refine congrArg (m ((c : Thread nD τ).loc main_arg0)) (funext fun (a : Fin 2) => Fin.ext ?_)
  match a with
  | 0 => show 8192 + (b.val * 4 + (h.val * 8 + n.val) % 8) = 8192 + (b.val * 4 + n.val); omega
  | 1 => show (h.val * 8 + n.val) / 8 * 128 + d.val = h.val * 128 + d.val; omega

theorem block3 {α : Type} {A C : ℕ} {B : ℕ} (X : (⟨3, ![A, B, C]⟩ : Shape).Idx → α) (x : Fin 3 → ℕ) (P : ℕ) (hx : x = ![P, 0, 0]) (hP : P < A)
    (inb) (r : Fin B) (d : Fin C) :
    X ((Rect.block (s := ⟨3, ![A, B, C]⟩) ![1, B, C] x inb).emb (ix3 0 r d)) = X (ix3 ⟨P, hP⟩ r d) := by
  subst hx
  refine congrArg X (funext fun (a : Fin 3) => Fin.ext ?_)
  refine (ValueKit.rect_emb_unit_val (s := ⟨3, ![A, B, C]⟩) _ _ _ _ a).trans ?_
  match a with
  | 0 => show P * 1 + 0 = P; omega
  | 1 => show 0 * B + r.val = r.val; omega
  | 2 => show 0 * C + d.val = d.val; omega

theorem block4 {α : Type} (X : S1x2560x1024x128.Idx → α) (x : Fin 4 → ℕ) (P : ℕ) (hx : x = ![0, P, 0, 0]) (hP : P < 2560)
    (inb) (r : Fin 1024) (d : Fin 128) :
    X ((Rect.block (s := S1x2560x1024x128) S1x1x1024x128.size x inb).emb (ix4 0 0 r d)) = X (ix4 0 ⟨P, hP⟩ r d) := by
  subst hx
  refine congrArg X (funext fun (a : Fin 4) => Fin.ext ?_)
  refine (ValueKit.rect_emb_unit_val (s := S1x2560x1024x128) _ _ _ _ a).trans ?_
  match a with
  | 0 => rfl
  | 1 => show P * 1 + 0 = P; omega
  | 2 => show 0 * 1024 + r.val = r.val; omega
  | 3 => show 0 * 128 + d.val = d.val; omega

variable (hO : Ok m) (t : Fin (cfgM m hO).N) (ht : t.val < 512)

theorem query_block (h : Fin 8) (n : Fin 8) (hn : n.val < 4) (d : Fin 128) : qBlk m hO c t (ix3 0 ⟨h.val * 8 + n.val, by omega⟩ d)
    = m ((c : Thread nD τ).loc main_arg0) (ix2 ⟨8192 + (t.val / 4 * 4 + n.val), by omega⟩ ⟨h.val * 128 + d.val, by omega⟩) :=
  (block3 (A := 128) (B := 64) (C := 128) (V m c main_v10) _ _ (idx_fixed t).1 (by omega) (hinb0_0 _) _ d).trans (V_query m c ⟨t.val / 4, by omega⟩ h n hn d)

theorem bias_block (R : Fin 64) (k : Fin 128) : bBlk m hO c t (ix2 R k) = m ((c : Thread nD τ).loc main_arg4) (ix2 0 ⟨R.val / 8, by omega⟩) := by
  rw [← V_bias m c R k]
  refine congrArg (V m c main_v14) (funext fun (a : Fin 2) => Fin.ext ?_)
  refine (ValueKit.rect_emb_unit_val (s := S64x128) _ _ _ _ a).trans ?_
  match a with
  | 0 => show cc0_transform_1 (grid0.coords t) 0 * 64 + R.val = R.val; rw [(idx_fixed t).2.1]; show 0 * 64 + R.val = R.val; omega
  | 1 => show cc0_transform_1 (grid0.coords t) 1 * 128 + k.val = k.val; rw [(idx_fixed t).2.1]; show 0 * 128 + k.val = k.val; omega

theorem knew_block (n : Fin 4) (e : Fin 1024) : kBlk m hO c t (ix3 0 n e)
    = m ((c : Thread nD τ).loc main_arg0) (ix2 ⟨8192 + (t.val / 4 * 4 + n.val), by omega⟩ ⟨1024 + e.val, by omega⟩) :=
  (block3 (A := 128) (B := 4) (C := 1024) (V m c main_v3) _ _ (idx_fixed t).2.2 (by omega) (hinb0_10 _) _ e).trans (V_knew m c ⟨t.val / 4, by omega⟩ n e)

theorem vnew_block (n : Fin 4) (e : Fin 1024) : vBlk m hO c t (ix3 0 n e)
    = m ((c : Thread nD τ).loc main_arg0) (ix2 ⟨8192 + (t.val / 4 * 4 + n.val), by omega⟩ ⟨2048 + e.val, by omega⟩) :=
  (block3 (A := 128) (B := 4) (C := 1024) (V m c main_v4) _ _ (idx_fixed t).2.2 (by omega) (hinb0_11 _) _ e).trans (V_vnew m c ⟨t.val / 4, by omega⟩ n e)

variable (hT : ∀ b p : ℕ, pageNo (tbl m) b p < 2560)

theorem kpage_block (p : Fin 4) (r : Fin 1024) (d : Fin 128) : kPages m hO c t p (ix4 0 0 r d)
    = m ((c : Thread nD τ).loc main_arg1) (ix5 0 ⟨pageNo (tbl m) (t.val / 4) (15 - p.val - 4 * (t.val % 4)), hT _ _⟩ ⟨r.val / 8, by omega⟩ ⟨r.val % 8, by omega⟩ d) := by
  refine Eq.trans ?_ (V_kpool m c _ r d)
  match p with
  | 0 => exact block4 (V m c main_v15) _ _ (idx_page (tbl m) t).1 (hT _ _) (hinb0 (tbl m) hO 2 (grid0.coords t)) r d
  | 1 => exact block4 (V m c main_v15) _ _ (idx_page (tbl m) t).2.2.1 (hT _ _) (hinb0 (tbl m) hO 4 (grid0.coords t)) r d
  | 2 => exact block4 (V m c main_v15) _ _ (idx_page (tbl m) t).2.2.2.2.1 (hT _ _) (hinb0 (tbl m) hO 6 (grid0.coords t)) r d
  | 3 => exact block4 (V m c main_v15) _ _ (idx_page (tbl m) t).2.2.2.2.2.2.1 (hT _ _) (hinb0 (tbl m) hO 8 (grid0.coords t)) r d

theorem vpage_block (p : Fin 4) (r : Fin 1024) (d : Fin 128) : vPages m hO c t p (ix4 0 0 r d)
    = m ((c : Thread nD τ).loc main_arg2) (ix5 0 ⟨pageNo (tbl m) (t.val / 4) (15 - p.val - 4 * (t.val % 4)), hT _ _⟩ ⟨r.val / 8, by omega⟩ ⟨r.val % 8, by omega⟩ d) := by
  refine Eq.trans ?_ (V_vpool m c _ r d)
  match p with
  | 0 => exact block4 (V m c main_v16) _ _ (idx_page (tbl m) t).2.1 (hT _ _) (hinb0 (tbl m) hO 3 (grid0.coords t)) r d
  | 1 => exact block4 (V m c main_v16) _ _ (idx_page (tbl m) t).2.2.2.1 (hT _ _) (hinb0 (tbl m) hO 5 (grid0.coords t)) r d
  | 2 => exact block4 (V m c main_v16) _ _ (idx_page (tbl m) t).2.2.2.2.2.1 (hT _ _) (hinb0 (tbl m) hO 7 (grid0.coords t)) r d
  | 3 => exact block4 (V m c main_v16) _ _ (idx_page (tbl m) t).2.2.2.2.2.2.2 (hT _ _) (hinb0 (tbl m) hO 9 (grid0.coords t)) r d

end Cert.Paged
end
-- ==== Proof.SampleSpec.lean ====
/- The sampled tokens' attention over the reals: sequence `b` has 2048 keys in its pages and four new ones. -/
module

public import proofs.«01_k».proof.Proof.Payload

@[expose] public section

noncomputable section

namespace Cert.Paged
open Cert.Stick

variable (T : ℕ → ℕ → ℕ) (X : ℕ → ℕ → ℝ) (B : ℕ → ℝ)

/-- Entry `d` of head `h` of the row at position `s`: a past row lies in the page the table names, a new one in the
    rows of `X`, from column `o` on; past the last there are zeros. -/
def entry (C : ℕ → ℕ → ℕ → ℕ → ℝ) (o b s h d : ℕ) : ℝ :=
  if s < 2048 then C (T b (s / 128)) (s % 128) h d else if s < 2052 then X (8192 + (b * 4 + (s - 2048))) (o + (h * 128 + d)) else 0

/-- The score of query `n` of sequence `b` against position `s`, in head `h`. -/
def scoreAt (K : ℕ → ℕ → ℕ → ℕ → ℝ) (b n h s : ℕ) : ℝ :=
  (∑ d : Fin 128, X (8192 + (b * 4 + n)) (h * 128 + d) * entry T X K 1024 b s h d) * scale + B h

/-- The attention's result for query `n` of sequence `b`, at entry `d` of head `h`. -/
def result (K V : ℕ → ℕ → ℕ → ℕ → ℝ) (b n h d : ℕ) : ℝ :=
  ∑ s ∈ Finset.range 2052, weight (scoreAt T X B K b n h) (2048 + n) 2052 s * entry T X V 2048 b s h d

/-- A sum over 128 places from `b` on. -/
theorem sum_page (f : ℕ → ℝ) (b : ℕ) : ∑ c : Fin 128, f (b + c) = ∑ u ∈ Finset.Ico b (b + 128), f u := by
  rw [Finset.sum_Ico_eq_sum_range, show b + 128 - b = 128 by omega, ← Fin.sum_univ_eq_sum_range (fun c => f (b + c))]

/-- Four pages, taken from the last to the first, are the places of a stretch of 512. -/
theorem sum_pages (f : ℕ → ℝ) (a : ℕ) :
    ∑ p : Fin 4, ∑ c : Fin 128, f ((a + 3 - p) * 128 + c) = ∑ u ∈ Finset.Ico (a * 128) ((a + 4) * 128), f u := by
  rw [Fin.sum_univ_four, sum_page, sum_page, sum_page, sum_page,
    ← Finset.sum_Ico_consecutive f (by omega : a * 128 ≤ (a + 1) * 128) (by omega : (a + 1) * 128 ≤ (a + 4) * 128),
    ← Finset.sum_Ico_consecutive f (by omega : (a + 1) * 128 ≤ (a + 2) * 128) (by omega : (a + 2) * 128 ≤ (a + 4) * 128),
    ← Finset.sum_Ico_consecutive f (by omega : (a + 2) * 128 ≤ (a + 3) * 128) (by omega : (a + 3) * 128 ≤ (a + 4) * 128)]
  show ∑ u ∈ Finset.Ico ((a + 3) * 128) ((a + 3) * 128 + 128), f u + ∑ u ∈ Finset.Ico ((a + 2) * 128) ((a + 2) * 128 + 128), f u
    + ∑ u ∈ Finset.Ico ((a + 1) * 128) ((a + 1) * 128 + 128), f u + ∑ u ∈ Finset.Ico (a * 128) (a * 128 + 128), f u = _
  rw [show (a + 3) * 128 + 128 = (a + 4) * 128 by ring, show (a + 2) * 128 + 128 = (a + 3) * 128 by ring,
    show (a + 1) * 128 + 128 = (a + 2) * 128 by ring, show a * 128 + 128 = (a + 1) * 128 by ring]
  ring

/-- The result as a sum over the places of 17 pages: the places past the last key carry no weight. -/
theorem result_eq (K V : ℕ → ℕ → ℕ → ℕ → ℝ) (b n h d : ℕ) (hn : n < 4) :
    ∑ s ∈ Finset.Ico 0 2176, weight (scoreAt T X B K b n h) (2048 + n) 2176 s * entry T X V 2048 b s h d = result T X B K V b n h d := by
  rw [← Finset.range_eq_Ico, sum_weight_extend (N := 2052) (by omega) (by omega), ← Finset.range_eq_Ico, result]

end Cert.Paged
end
-- ==== Proof.SampleArray.lean ====
/- The paged attention's array: after the four steps of a sequence its block holds the attention of its four queries. -/
module

public import proofs.«01_k».proof.Proof.SampleBlocks
public import proofs.«01_k».proof.Proof.SampleSpec
public import Idealize.ShloMosaic.Lib.Claim

@[expose] public section

set_option maxRecDepth 16384

noncomputable section

namespace Cert.Paged
open Idealize.ShloMosaic Idealize.ShloMosaic.TcCoe Idealize.SL.Sem Cert.SampleIdeal Cert.SampleIdeal.Gen Cert.Stick

/-- A step's weights, and what it leaves of the stick, from the scores of its four pages, the last page first. -/
theorem step_apply (z : FVec Ideal S4x64x128 .f32) (κ : FVec Ideal S64x1 .f32) (R : Fin 64) (y : ℕ → ℝ) (a t N : ℕ)
    (ht : (a + 4) * 128 ≤ t) (hN : t ≤ N) (hz : ∀ (p : Fin 4) (c : Fin 128), z (ix3 p R c) = ((y ((a + 3 - p) * 128 + c) : ℝ) : EReal))
    (hκ : κ (ix2 R 0) = ((∑ u ∈ Finset.Ico ((a + 4) * 128) N, keep y t u : ℝ) : EReal)) :
    (∀ (p : Fin 4) (c : Fin 128), stepWeights z κ (ix3 p R c) = ((weight y t N ((a + 3 - p) * 128 + c) : ℝ) : EReal))
    ∧ stepCarry z κ (ix2 R 0) = ((∑ u ∈ Finset.Ico (a * 128) N, keep y t u : ℝ) : EReal) := by
  have z0 : ∀ c : Fin 128, slot0 z (ix2 R c) = ((y ((a + 3) * 128 + c) : ℝ) : EReal) := fun c => (slot_apply z R c).1.trans (hz 0 c)
  have z1 : ∀ c : Fin 128, slot1 z (ix2 R c) = ((y ((a + 2) * 128 + c) : ℝ) : EReal) := fun c => (slot_apply z R c).2.1.trans (hz 1 c)
  have z2 : ∀ c : Fin 128, slot2 z (ix2 R c) = ((y ((a + 1) * 128 + c) : ℝ) : EReal) := fun c => (slot_apply z R c).2.2.1.trans (hz 2 c)
  have z3 : ∀ c : Fin 128, slot3 z (ix2 R c) = ((y (a * 128 + c) : ℝ) : EReal) := fun c => (slot_apply z R c).2.2.2.trans (hz 3 c)
  have k0 : κ (ix2 R 0) = ((∑ u ∈ Finset.Ico ((a + 3) * 128 + 128) N, keep y t u : ℝ) : EReal) := by rw [hκ, show (a + 3) * 128 + 128 = (a + 4) * 128 by ring]
  have k1 := carry_keep (slot0 z) κ R y ((a + 3) * 128) t N (by omega) hN z0 k0
  rw [show (a + 3) * 128 = (a + 2) * 128 + 128 by ring] at k1
  have k2 := carry_keep (slot1 z) _ R y ((a + 2) * 128) t N (by omega) hN z1 k1
  rw [show (a + 2) * 128 = (a + 1) * 128 + 128 by ring] at k2
  have k3 := carry_keep (slot2 z) _ R y ((a + 1) * 128) t N (by omega) hN z2 k2
  rw [show (a + 1) * 128 = a * 128 + 128 by ring] at k3
  have k4 := carry_keep (slot3 z) _ R y (a * 128) t N (by omega) hN z3 k3
  refine ⟨fun p c => ?_, k4⟩
  match p with
  | 0 => exact (stepWeights_apply z κ R c).1.trans (weights_apply (slot0 z) κ R y ((a + 3) * 128) t N (by omega) hN z0 k0 c)
  | 1 => exact (stepWeights_apply z κ R c).2.1.trans (weights_apply (slot1 z) _ R y ((a + 2) * 128) t N (by omega) hN z1 k1 c)
  | 2 => exact (stepWeights_apply z κ R c).2.2.1.trans (weights_apply (slot2 z) _ R y ((a + 1) * 128) t N (by omega) hN z2 k2 c)
  | 3 => exact (stepWeights_apply z κ R c).2.2.2.trans (weights_apply (slot3 z) _ R y (a * 128) t N (by omega) hN z3 k3 c)

/-- The step's output at a row and an entry. -/
theorem step_out (w : FVec Ideal S4x64x128 .f32) (v : FVec Ideal S32x128x128 .bf16) (acc : Vec Ideal S64x128 .f32) (R : Fin 64) (h : Fin 8)
    (hR : R.val / 8 = h.val) (d : Fin 128) (f g : ℕ → ℝ) (a N : ℕ) (hN : (a + 4) * 128 ≤ N)
    (hw : ∀ (p : Fin 4) (c : Fin 128), w (ix3 p R c) = ((f ((a + 3 - p) * 128 + c) : ℝ) : EReal))
    (hv : ∀ (p : Fin 4) (c : Fin 128), v (ix3 ⟨p.val * 8 + h.val, by omega⟩ c d) = ((g ((a + 3 - p) * 128 + c) : ℝ) : EReal))
    (ha : acc (ix2 R d) = ((∑ s ∈ Finset.Ico ((a + 4) * 128) N, f s * g s : ℝ) : EReal)) :
    stepOut w v acc (ix2 R d) = ((∑ s ∈ Finset.Ico (a * 128) N, f s * g s : ℝ) : EReal) := by
  rw [stepOut_apply w v acc R h hR d (fun p c => f ((a + 3 - p) * 128 + c)) (fun p c => g ((a + 3 - p) * 128 + c)) _ hw hv ha,
    sum_pages (fun s => f s * g s) a, add_comm, Finset.sum_Ico_consecutive _ (by omega) hN]

theorem query_apply (q : Vec Ideal S1x64x128 .bf16) (h r : Fin 8) (d : Fin 128) :
    k0_pay29 q (ix3 h r d) = q (ix3 0 ⟨h.val * 8 + r.val, by omega⟩ d) := by
  pointwise [k0_pay29]

variable (m : (ℓ : Loc nD τ sig) → Buf (Elt Ideal) ℓ) (c : Dev nD) (hO : Ok m) (hT : ∀ b p : ℕ, pageNo (tbl m) b p < 2560)
  (X : ℕ → ℕ → ℝ) (B : ℕ → ℝ) (K V' : ℕ → ℕ → ℕ → ℕ → ℝ)
  (hX : ∀ (s : Fin 8704) (e : Fin 3072), m ((c : Thread nD τ).loc main_arg0) (ix2 s e) = ((X s e : ℝ) : EReal))
  (hK : ∀ (p : Fin 2560) (s : Fin 128) (h : Fin 8) (d : Fin 128), m ((c : Thread nD τ).loc main_arg1) (ix5 0 p s h d) = ((K p s h d : ℝ) : EReal))
  (hV : ∀ (p : Fin 2560) (s : Fin 128) (h : Fin 8) (d : Fin 128), m ((c : Thread nD τ).loc main_arg2) (ix5 0 p s h d) = ((V' p s h d : ℝ) : EReal))
  (hB : ∀ h : Fin 8, m ((c : Thread nD τ).loc main_arg4) (ix2 0 h) = ((B h : ℝ) : EReal))
  (n : Fin 4) (h : Fin 8)

section
variable (t : Fin (cfgM m hO).N) (ht : t.val < 512) (b a : ℕ) (hb : b = t.val / 4) (ha : a = 12 - 4 * (t.val % 4))
include hT hX hB hK ht hb

include ha in
theorem pageScores_apply (p : Fin 4) (k : Fin 128) :
    pageScores m hO c t (ix3 p ⟨h.val * 8 + n.val, by omega⟩ k)
      = ((scoreAt (pageNo (tbl m)) X B K b n.val h.val ((a + 3 - p.val) * 128 + k.val) : ℝ) : EReal) := by
  subst hb ha
  refine (scores_apply _ _ _ p h ⟨n.val, by omega⟩ k (fun d => X (8192 + (t.val / 4 * 4 + n.val)) (h.val * 128 + d))
    (fun d => entry (pageNo (tbl m)) X K 1024 (t.val / 4) ((12 - 4 * (t.val % 4) + 3 - p.val) * 128 + k.val) h.val d) (B h.val) _ rfl (fun d => ?_) (fun d => ?_) ?_)
  · rw [query_apply]
    exact (query_block m c hO t ht h ⟨n.val, by omega⟩ n.isLt d).trans (hX _ _)
  · rw [heads_apply, kpage_block m c hO t hT, hK]
    congr 1
    have e1 : ((12 - 4 * (t.val % 4) + 3 - p.val) * 128 + k.val) / 128 = 15 - p.val - 4 * (t.val % 4) := by omega
    have e2 : ((12 - 4 * (t.val % 4) + 3 - p.val) * 128 + k.val) % 128 = k.val := by omega
    rw [entry, if_pos (by omega), e1, e2]
    show K _ ((k.val * 8 + h.val) / 8) ((k.val * 8 + h.val) % 8) _ = _
    rw [show (k.val * 8 + h.val) / 8 = k.val by omega, show (k.val * 8 + h.val) % 8 = h.val by omega]
  · rw [bias_block m c hO t, ← hB]
    refine congrArg (m ((c : Thread nD τ).loc main_arg4)) (congrArg (ix2 0) (Fin.ext ?_))
    show (h.val * 8 + n.val) / 8 = h.val
    omega

omit hT hK in
theorem tailScores_apply (k : Fin 128) :
    tailScores m hO c t (ix2 ⟨h.val * 8 + n.val, by omega⟩ k)
      = ((scoreAt (pageNo (tbl m)) X B K b n.val h.val (2048 + k.val) : ℝ) : EReal) := by
  subst hb
  refine (newScores_apply _ _ _ h ⟨n.val, by omega⟩ k (fun d => X (8192 + (t.val / 4 * 4 + n.val)) (h.val * 128 + d))
    (fun d => entry (pageNo (tbl m)) X K 1024 (t.val / 4) (2048 + k.val) h.val d) (B h.val) _ rfl (fun d => ?_) (fun d => ?_) ?_)
  · rw [query_apply]
    exact (query_block m c hO t ht h ⟨n.val, by omega⟩ n.isLt d).trans (hX _ _)
  · rw [newHeads_apply, cols_padK_apply, entry, if_neg (by omega), show 2048 + k.val - 2048 = k.val by omega]
    split_ifs with h1 h2 h2
    · exact (knew_block m c hO t ht ⟨k.val, h1⟩ _).trans (hX _ _)
    · omega
    · omega
    · exact EReal.coe_zero.symm
  · rw [bias_block m c hO t, ← hB]
    refine congrArg (m ((c : Thread nD τ).loc main_arg4)) (congrArg (ix2 0) (Fin.ext ?_))
    show (h.val * 8 + n.val) / 8 = h.val
    omega

omit hX hB hK in
include hV ha in
theorem vheads_apply (p : Fin 4) (k d : Fin 128) :
    heads (vPages m hO c t) (ix3 ⟨p.val * 8 + h.val, by omega⟩ k d)
      = ((entry (pageNo (tbl m)) X V' 2048 b ((a + 3 - p.val) * 128 + k.val) h.val d.val : ℝ) : EReal) := by
  subst hb ha
  rw [heads_apply, vpage_block m c hO t hT, hV]
  congr 1
  have e1 : ((12 - 4 * (t.val % 4) + 3 - p.val) * 128 + k.val) / 128 = 15 - p.val - 4 * (t.val % 4) := by omega
  have e2 : ((12 - 4 * (t.val % 4) + 3 - p.val) * 128 + k.val) % 128 = k.val := by omega
  rw [entry, if_pos (by omega), e1, e2]
  show V' _ ((k.val * 8 + h.val) / 8) ((k.val * 8 + h.val) % 8) _ = _
  rw [show (k.val * 8 + h.val) / 8 = k.val by omega, show (k.val * 8 + h.val) % 8 = h.val by omega]

omit hT hB hK in
theorem vtail_apply (k d : Fin 128) :
    newHeads (cols (padV (vBlk m hO c t))) (ix3 h k d)
      = ((entry (pageNo (tbl m)) X V' 2048 b (2048 + k.val) h.val d.val : ℝ) : EReal) := by
  subst hb
  rw [newHeads_apply, cols_padV_apply, entry, if_neg (by omega), show 2048 + k.val - 2048 = k.val by omega]
  split_ifs with h1 h2 h2
  · exact (vnew_block m c hO t ht ⟨k.val, h1⟩ _).trans (hX _ _)
  · omega
  · omega
  · exact EReal.coe_zero.symm

/-- The carry and the accumulator after step `t` of its sequence have taken in the positions from `a * 128` on. -/
def Taken : Prop :=
  left' m hO c t.val t.isLt (ix2 ⟨h.val * 8 + n.val, by omega⟩ 0)
      = ((∑ u ∈ Finset.Ico (a * 128) 2176, keep (scoreAt (pageNo (tbl m)) X B K b n.val h.val) (2048 + n.val) u : ℝ) : EReal)
  ∧ ∀ d : Fin 128, acc m hO c t.val t.isLt (ix2 ⟨h.val * 8 + n.val, by omega⟩ d)
      = ((∑ u ∈ Finset.Ico (a * 128) 2176, weight (scoreAt (pageNo (tbl m)) X B K b n.val h.val) (2048 + n.val) 2176 u
          * entry (pageNo (tbl m)) X V' 2048 b u h.val d.val : ℝ) : EReal)

include ht ha hb hT hX hK hB hV

theorem taken_first (h0 : t.val % 4 = 0) : Taken m c hO X B K V' n h t b a := by
  have hR : (h.val * 8 + n.val) / 8 = h.val := by omega
  have hr : 2048 + n.val = 2048 + (h.val * 8 + n.val) % 8 := by omega
  have hy := tailScores_apply m c hO X B K hX hB n h t ht b a hb
  obtain ⟨w, l⟩ := step_apply (pageScores m hO c t) (newCarry (tailScores m hO c t)) ⟨h.val * 8 + n.val, by omega⟩ (scoreAt (pageNo (tbl m)) X B K b n.val h.val)
    a (2048 + n.val) 2176 (by omega) (by omega) (pageScores_apply m c hO hT X B K hX hK hB n h t ht b a hb ha)
    (by rw [show (a + 4) * 128 = 2048 by omega]; exact newCarry_apply (tailScores m hO c t) ⟨h.val * 8 + n.val, by omega⟩ _ 2048 (2048 + n.val) hr hy)
  refine ⟨by rw [left_first m hO c t h0]; exact l, fun d => ?_⟩
  rw [acc_first m hO c t h0]
  refine step_out _ _ _ _ h hR d (weight (scoreAt (pageNo (tbl m)) X B K b n.val h.val) (2048 + n.val) 2176)
    (fun s => entry (pageNo (tbl m)) X V' 2048 b s h.val d.val) a 2176 (by omega) w (fun p k => vheads_apply m c hO hT X V' hV h t ht b a hb ha p k d) ?_
  rw [show (a + 4) * 128 = 2048 by omega, ← sum_page (fun s => weight (scoreAt (pageNo (tbl m)) X B K b n.val h.val) (2048 + n.val) 2176 s * entry (pageNo (tbl m)) X V' 2048 b s h.val d.val) 2048]
  exact newOut_apply _ _ _ h hR d (fun k => weight (scoreAt (pageNo (tbl m)) X B K b n.val h.val) (2048 + n.val) 2176 (2048 + k))
    (fun k => entry (pageNo (tbl m)) X V' 2048 b (2048 + k) h.val d.val)
    (newWeights_apply (tailScores m hO c t) ⟨h.val * 8 + n.val, by omega⟩ _ 2048 (2048 + n.val) hr hy) (fun k => vtail_apply m c hO X V' hX h t ht b hb k d)

theorem taken_later (h0 : ¬t.val % 4 = 0) (ih : Taken m c hO X B K V' n h ⟨t.val - 1, by omega⟩ b (a + 4)) : Taken m c hO X B K V' n h t b a := by
  have hR : (h.val * 8 + n.val) / 8 = h.val := by omega
  obtain ⟨w, l⟩ := step_apply (pageScores m hO c t) (left' m hO c (t.val - 1) (by omega)) ⟨h.val * 8 + n.val, by omega⟩ (scoreAt (pageNo (tbl m)) X B K b n.val h.val)
    a (2048 + n.val) 2176 (by omega) (by omega) (pageScores_apply m c hO hT X B K hX hK hB n h t ht b a hb ha) ih.1
  refine ⟨by rw [left_later m hO c t h0]; exact l, fun d => ?_⟩
  rw [acc_later m hO c t h0]
  exact step_out _ _ _ _ h hR d (weight (scoreAt (pageNo (tbl m)) X B K b n.val h.val) (2048 + n.val) 2176)
    (fun s => entry (pageNo (tbl m)) X V' 2048 b s h.val d.val) a 2176 (by omega) w (fun p k => vheads_apply m c hO hT X V' hV h t ht b a hb ha p k d) (ih.2 d)

end

include hT hX hK hB hV

theorem taken : ∀ (s : ℕ) (t : Fin (cfgM m hO).N) (ht : t.val < 512) (hs : t.val % 4 = s), Taken m c hO X B K V' n h t (t.val / 4) (12 - 4 * s)
  | 0, t, ht, hs => taken_first m c hO hT X B K V' hX hK hV hB n h t ht _ _ rfl (by rw [hs]) hs
  | s + 1, t, ht, hs => by
    have ih := taken s ⟨t.val - 1, by omega⟩ (by show t.val - 1 < 512; omega) (by show (t.val - 1) % 4 = s; omega)
    rw [show (⟨t.val - 1, by omega⟩ : Fin (cfgM m hO).N).val / 4 = t.val / 4 by show (t.val - 1) / 4 = t.val / 4; omega,
      show 12 - 4 * s = 12 - 4 * (s + 1) + 4 by omega] at ih
    exact taken_later m c hO hT X B K V' hX hK hV hB n h t ht _ _ rfl (by rw [hs]) (by omega) ih

end Cert.Paged
end
-- ==== Proof.SampleFrame.lean ====
/- The run of the paged attention's call, over any float values and any page table that names pages of the pool: the body's
   obligation at every point of the grid, the launch, and the frame. -/
module

public import proofs.«01_k».proof.Proof.Gen.SampleIdeal.Frame.RunC
public import Idealize.ShloMosaic.Lib.Claim
public import proofs.«01_k».proof.Proof.SampleOuts

@[expose] public section

set_option maxRecDepth 16384

noncomputable section

namespace Cert.Paged

open Idealize.ShloMosaic Idealize.ShloMosaic.TcCoe Idealize.ShloMosaic.Tactic Cert.SampleIdeal Cert.SampleIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- What the core holds before position `n` besides the windows: before the first point every scratch array at anything; afterwards
    the sums and the carry at what the point before left in them, the two arrays of padded rows at anything; the random generator's
    register and the page table throughout. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.1) ∗ owns (c : Thread nD τ) scM0_1 fullShare ((outsAt0 m hO c n hn).2.2) ∗ (∃ d, owns (c : Thread nD τ) scM0_2 fullShare d) ∗ (∃ d, owns (c : Thread nD τ) scM0_3 fullShare d)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- … after point `n`, -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.1) ∗ owns (c : Thread nD τ) scM0_1 fullShare ((outsAt0 m hO c n hn).2.2) ∗ (∃ d, owns (c : Thread nD τ) scM0_2 fullShare d) ∗ (∃ d, owns (c : Thread nD τ) scM0_3 fullShare d)) ∗ (∃ r, prngReg c r)) ∗ Pipeline.ΦT pre0 (tbl m) c) := rfl

/-- … and before a point that is not the first. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.1) ∗ owns (c : Thread nD τ) scM0_1 fullShare ((outsAt0 m hO c (n - 1) (by omega)).2.2) ∗ (∃ d, owns (c : Thread nD τ) scM0_2 fullShare d) ∗ (∃ d, owns (c : Thread nD τ) scM0_3 fullShare d)) ∗ (∃ r, prngReg c r)) ∗ Pipeline.ΦT pre0 (tbl m) c) := by
  cases n with
  | zero => exact absurd rfl hz
  | succ n => rfl

/-! ## The pipeline's proof data -/

/-- The call's data on core `c`: the arrays as the call finds them; after the body at point `t` each input's buffer at its block and
    the output's at `outsAt0`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => (outsAt0 m hO c t.val t.isLt).1
  Φ t := PhiS m hO c t.val (Nat.le_of_lt_succ t.isLt)
  q w := Pipeline.shareOf spec0 w
  owed _ := 0

/-- The arrays are as the call finds them. -/
theorem A_eq (hO : Ok m) (c : Dev nD) (w : Fin (cfgM m hO).W) : (dats m hO 0 c).A w = V m c (Pipeline.arrRef spec0 w) := by
  dsimp only [dats]

/-- What the core holds at a point's start, by the point's position. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = (outsAt0 m hO c t.val t.isLt).1 := by dsimp only [dats]; try rfl

/-- Each input's staging buffer holds its block at every point, fetched there or not. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d

/-! ## The body obligation, at a generic point -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t)

set_option maxHeartbeats 19200000 in
/-- The body at any point: by the point's case its run applies, from the blocks and from what the point before left, and leaves
    `outsAt0`. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 512 := lt_of_lt_of_eq t.isLt (show (cfgM m hO).N = 512 from N_0)
  by_cases h0 : t.val % 4 = 0
  · by_cases h1 : t.val % 4 = 3
    · exfalso; omega
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [Dat.leavesExact_idle (dats m hO 0 c) 12 t (idleAt0_12_A m hO t ((hcond0_0 t).mpr h0) (fun h => h1 ((hcond0_1 t).mp h))) (noFlush0_12_A m hO t ((hcond0_0 t).mpr h0) (fun h => h1 ((hcond0_1 t).mp h)))]
      by_cases hz : t.val = 0
      · rw [PhiS_castSucc m hO c t, PhiS_zero m hO c _ _ hz, PhiT0_eq, PhiA0_eq]
        rw [outsAt0_A m hO c t h0 h1]
        unfold caseA sout0_A_0 sout0_A_1; (try dsimp only)
        iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexact HS0
        isplitl [HS1]; · iexact HS1
        isplitl [HS2]; · iexact HS2
        isplitl [HS3]; · iexact HS3
        isplitl [HT0]; · iexact HT0
        iintro ⟨H0, H1, H2, H3, H4, H5, H6, H7, H8, H9, H10, H11, H12, ⟨%es0, HS0⟩, ⟨%es1, HS1⟩, ⟨%fT2, HS2⟩, ⟨%fT3, HS3⟩, HT0⟩
        isplitl [HS0 HS1 HS2 HS3 Hg HT0]
        · isplitl [HS0 HS1 HS2 HS3 Hg]
          · isplitl [HS0 HS1 HS2 HS3]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _)
              isplitl [HS2]
              · iexists _; unfold owns; iexists _; isplitr
                swap; · iexact HS2
                ipureintro; rfl
              iexists _; unfold owns; iexists _; isplitr
              swap; · iexact HS3
              ipureintro; rfl
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexists _; iexact H12
      · rw [PhiS_castSucc m hO c t, PhiS_pos m hO c _ _ hz, PhiT0_eq]
        rw [outsAt0_A m hO c t h0 h1]
        unfold caseA sout0_A_0 sout0_A_1; (try dsimp only)
        iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexists _; iexact HS0
        isplitl [HS1]; · iexists _; iexact HS1
        isplitl [HS2]; · iexact HS2
        isplitl [HS3]; · iexact HS3
        isplitl [HT0]; · iexact HT0
        iintro ⟨H0, H1, H2, H3, H4, H5, H6, H7, H8, H9, H10, H11, H12, ⟨%es0, HS0⟩, ⟨%es1, HS1⟩, ⟨%fT2, HS2⟩, ⟨%fT3, HS3⟩, HT0⟩
        isplitl [HS0 HS1 HS2 HS3 Hg HT0]
        · isplitl [HS0 HS1 HS2 HS3 Hg]
          · isplitl [HS0 HS1 HS2 HS3]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _)
              isplitl [HS2]
              · iexists _; unfold owns; iexists _; isplitr
                swap; · iexact HS2
                ipureintro; rfl
              iexists _; unfold owns; iexists _; isplitr
              swap; · iexact HS3
              ipureintro; rfl
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexists _; iexact H12
  · by_cases h1 : t.val % 4 = 3
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12_C m hO t (fun h => h0 ((hcond0_0 t).mp h)) ((hcond0_1 t).mpr h1)]; try rfl, after0_12]
      by_cases hz : t.val = 0
      · exfalso; have hN : t.val < 512 := lt_of_lt_of_eq t.isLt (show (cfgM m hO).N = 512 from N_0); omega
      · rw [PhiS_castSucc m hO c t, PhiS_pos m hO c _ _ hz, PhiT0_eq]
        rw [outsAt0_C m hO c t h0 h1]
        unfold caseC out0_C_12 sout0_C_0 sout0_C_1; (try dsimp only)
        iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_C c (grid0.coords t) _ _ _ _ _ _ _ _ _ _ _ _ _ _ _ _ _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexists _; iexact H12
        isplitl [HS0]; · iexact HS0
        isplitl [HS1]; · iexact HS1
        isplitl [HS2]; · iexact HS2
        isplitl [HS3]; · iexact HS3
        isplitl [HT0]; · iexact HT0
        iintro ⟨H0, H1, H2, H3, H4, H5, H6, H7, H8, H9, H10, H11, ⟨%e12, H12⟩, ⟨%es0, HS0⟩, ⟨%es1, HS1⟩, HS2, HS3, HT0⟩
        isplitl [HS0 HS1 HS2 HS3 Hg HT0]
        · isplitl [HS0 HS1 HS2 HS3 Hg]
          · isplitl [HS0 HS1 HS2 HS3]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _)
              isplitl [HS2]
              · iexact HS2
              iexact HS3
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        unfold owns; iexists _; isplitr
        swap; · iexact H12
        ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _)
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [Dat.leavesExact_idle (dats m hO 0 c) 12 t (idleAt0_12_B m hO t (fun h => h0 ((hcond0_0 t).mp h)) (fun h => h1 ((hcond0_1 t).mp h))) (noFlush0_12_B m hO t (fun h => h0 ((hcond0_0 t).mp h)) (fun h => h1 ((hcond0_1 t).mp h)))]
      by_cases hz : t.val = 0
      · exfalso; have hN : t.val < 512 := lt_of_lt_of_eq t.isLt (show (cfgM m hO).N = 512 from N_0); omega
      · rw [PhiS_castSucc m hO c t, PhiS_pos m hO c _ _ hz, PhiT0_eq]
        rw [outsAt0_B m hO c t h0 h1]
        unfold caseB sout0_B_0 sout0_B_1; (try dsimp only)
        iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_B c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (tbl m 0) _ _).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexact HS0
        isplitl [HS1]; · iexact HS1
        isplitl [HS2]; · iexact HS2
        isplitl [HS3]; · iexact HS3
        isplitl [HT0]; · iexact HT0
        iintro ⟨H0, H1, H2, H3, H4, H5, H6, H7, H8, H9, H10, H11, H12, ⟨%es0, HS0⟩, ⟨%es1, HS1⟩, HS2, HS3, HT0⟩
        isplitl [HS0 HS1 HS2 HS3 Hg HT0]
        · isplitl [HS0 HS1 HS2 HS3 Hg]
          · isplitl [HS0 HS1 HS2 HS3]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _)
              isplitl [HS2]
              · iexact HS2
              iexact HS3
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexists _; iexact H12

/-- The body table's row at point `t` is the body there. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body's obligation at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the call is what the core holds before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point the carried arrays' contents may be forgotten. -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2, HS3⟩, Hg⟩, -⟩
  isplitl [HS0 HS1 HS2 HS3]
  · isplitl [HS0]
    · iexists _; iexact HS0
    isplitl [HS1]
    · iexists _; iexact HS1
    isplitl [HS2]
    · iexact HS2
    iexact HS3
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 512 := N_0; omega)

/-! ## The run and the frame -/

-- `θ_run_frameP_track_shared`'s implicit arguments are found by unifying its conclusion with this one, which takes unfolding plain
-- definitions in a metavariable's type
set_option backward.isDefEq.respectTransparency.types false in
/-- The launch: every array as the data say at the end, and every semaphore at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- The run without the semaphores: every window's array ends as the data say, and every other buffer as the call found it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The frame, over any float values, for a page table that names pages of the pool. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Paged

end
-- ==== Proof.SampleFinal.lean ====
/- The paged attention's result array, whole: every block of it is written back after the last step of its sequence. -/
module

public import proofs.«01_k».proof.Proof.SampleArray
public import proofs.«01_k».proof.Proof.SampleFrame
public import Idealize.ShloMosaic.Lib.Pipeline.Covers

@[expose] public section

set_option maxRecDepth 16384

noncomputable section

namespace Cert.Paged
open Idealize.ShloMosaic Idealize.ShloMosaic.TcCoe Idealize.SL.Sem Cert.SampleIdeal Cert.SampleIdeal.Gen Cert.Stick

theorem idx_out : ∀ t : Fin grid0.N, cc0_transform_12 (grid0.coords t) = ![t.val / 4, 0, 0] := by decide +kernel

/-- The sampled tokens' array: at sequence `y 0`, query `y 1` and column `y 2`, that query's attention. -/
def sampled (T : ℕ → ℕ → ℕ) (X : ℕ → ℕ → ℝ) (B : ℕ → ℝ) (K V' : ℕ → ℕ → ℕ → ℕ → ℝ) : S128x4x1024.Idx → EReal := fun y =>
  ((result T X B K V' (y 0).val (y 1).val ((y 2).val / 128) ((y 2).val % 128) : ℝ) : EReal)

variable (m : (l : Loc nD τ sig) → Buf (Elt Ideal) l) (c : Dev nD) (hO : Ok m)

theorem covers : ((cfgM m hO).win 12).Covers :=
  Pipeline.Window.covers_of_index_surj _ rfl (fun (a : Fin 3) => match a with | 0 => Nat.one_pos | 1 => (by decide : 0 < 4) | 2 => (by decide : 0 < 1024)) fun β => by
    have h0 : (β (0 : Fin 3)).val < (128 + 1 - 1) / 1 := (β (0 : Fin 3)).isLt
    have h1 : (β (1 : Fin 3)).val < (4 + 4 - 1) / 4 := (β (1 : Fin 3)).isLt
    have h2 : (β (2 : Fin 3)).val < (1024 + 1024 - 1) / 1024 := (β (2 : Fin 3)).isLt
    have hN : (β (0 : Fin 3)).val * 4 < 512 := by omega
    refine ⟨⟨(β (0 : Fin 3)).val * 4, hN⟩, fun (a : Fin 3) => ?_⟩
    refine (congrFun (idx_out ⟨(β (0 : Fin 3)).val * 4, hN⟩) a).trans ?_
    match a with
    | 0 => show (β (0 : Fin 3)).val * 4 / 4 = (β (0 : Fin 3)).val; omega
    | 1 => show 0 = (β (1 : Fin 3)).val; omega
    | 2 => show 0 = (β (2 : Fin 3)).val; omega

variable (hT : ∀ b p : ℕ, pageNo (tbl m) b p < 2560) (X : ℕ → ℕ → ℝ) (B : ℕ → ℝ) (K V' : ℕ → ℕ → ℕ → ℕ → ℝ)
    (hX : ∀ (s : Fin 8704) (e : Fin 3072), m ((c : Thread nD τ).loc main_arg0) (ix2 s e) = ((X s e : ℝ) : EReal))
    (hK : ∀ (p : Fin 2560) (s : Fin 128) (h : Fin 8) (d : Fin 128), m ((c : Thread nD τ).loc main_arg1) (ix5 0 p s h d) = ((K p s h d : ℝ) : EReal))
    (hV : ∀ (p : Fin 2560) (s : Fin 128) (h : Fin 8) (d : Fin 128), m ((c : Thread nD τ).loc main_arg2) (ix5 0 p s h d) = ((V' p s h d : ℝ) : EReal))
    (hB : ∀ h : Fin 8, m ((c : Thread nD τ).loc main_arg4) (ix2 0 h) = ((B h : ℝ) : EReal))

include hT hX hK hV hB

theorem stored (t : Fin (cfgM m hO).N) (ht : t.val < 512) (h3 : t.val % 4 = 3) (n : Fin 4) (h : Fin 8) (d : Fin 128) :
    (outsAt0 m hO c t.val t.isLt).1 (ix3 0 n ⟨h.val * 128 + d.val, by omega⟩)
      = ((result (pageNo (tbl m)) X B K V' (t.val / 4) n.val h.val d.val : ℝ) : EReal) := by
  rw [outs_last m hO c t h3, rowsOf_apply]
  refine ((taken m c hO hT X B K V' hX hK hV hB n h 3 t ht h3).2 d).trans ?_
  rw [← result_eq (pageNo (tbl m)) X B K V' (t.val / 4) n.val h.val d.val n.isLt]

omit hT hX hK hV hB in
theorem sampled_at (T : ℕ → ℕ → ℕ) (i : S128x4x1024.Idx) (b n h d : ℕ) (hd : d < 128) (h0 : (i 0).val = b) (h1 : (i 1).val = n) (h2 : (i 2).val = h * 128 + d) :
    ((result T X B K V' b n h d : ℝ) : EReal) = sampled T X B K V' i := by
  rw [sampled, h0, h1, h2, show (h * 128 + d) / 128 = h by omega, show (h * 128 + d) % 128 = d by omega]

theorem final : (dats m hO 0 c).arrAt 12 (cfgM m hO).N = sampled (pageNo (tbl m)) X B K V' := by
  refine (dats m hO 0 c).arrAt_eq_of_covers 12 _ (covers m hO) fun t hf y => ?_
  have h3 := (flush0_12 (adm m hO) t).1 hf
  have ht : t.val < 512 := t.isLt
  have hy2 : (y (2 : Fin 3)).val < 1024 := (y (2 : Fin 3)).isLt
  have hy0 : (y (0 : Fin 3)).val < 1 := (y (0 : Fin 3)).isLt
  have hy1 : (y (1 : Fin 3)).val < 4 := (y (1 : Fin 3)).isLt
  show (dats m hO 0 c).after 12 t _ = _
  rw [after0_12]
  refine Eq.trans (congrArg _ (?_ : _ = ix3 0 ⟨(y (1 : Fin 3)).val, hy1⟩ ⟨(y (2 : Fin 3)).val / 128 * 128 + (y (2 : Fin 3)).val % 128, by omega⟩))
    ((stored m c hO hT X B K V' hX hK hV hB t ht h3 ⟨(y (1 : Fin 3)).val, hy1⟩ ⟨(y (2 : Fin 3)).val / 128, by omega⟩ ⟨(y (2 : Fin 3)).val % 128, by omega⟩).trans
      (sampled_at X B K V' _ _ _ _ _ _ (by show (y (2 : Fin 3)).val % 128 < 128; omega) ?_ ?_ ?_))
  · refine funext fun (a : Fin 3) => Fin.ext ?_
    match a with
    | 0 => show (y (0 : Fin 3)).val = 0; omega
    | 1 => rfl
    | 2 => show (y (2 : Fin 3)).val = (y (2 : Fin 3)).val / 128 * 128 + (y (2 : Fin 3)).val % 128; omega
  · refine (ValueKit.rect_emb_unit_val (s := S128x4x1024) _ _ _ _ 0).trans ?_
    show cc0_transform_12 (grid0.coords t) 0 * 1 + (y (0 : Fin 3)).val = t.val / 4
    rw [idx_out t]; show t.val / 4 * 1 + _ = _; omega
  · refine (ValueKit.rect_emb_unit_val (s := S128x4x1024) _ _ _ _ 1).trans ?_
    show cc0_transform_12 (grid0.coords t) 1 * 4 + (y (1 : Fin 3)).val = (y (1 : Fin 3)).val
    rw [idx_out t]; show 0 * 4 + _ = _; omega
  · refine (ValueKit.rect_emb_unit_val (s := S128x4x1024) _ _ _ _ 2).trans ?_
    show cc0_transform_12 (grid0.coords t) 2 * 1024 + (y (2 : Fin 3)).val = (y (2 : Fin 3)).val / 128 * 128 + (y (2 : Fin 3)).val % 128
    rw [idx_out t]; show 0 * 1024 + _ = _; omega

end Cert.Paged
end
-- ==== Proof.SampleFinite.lean ====
/- What the paged attention's preconditions give: page numbers inside the pool, and real numbers in every float argument. -/
module

public import proofs.«01_k».proof.Pre_paged
public import proofs.«01_k».proof.Pre_paged_finite
public import proofs.«01_k».proof.Proof.Finite

@[expose] public section

noncomputable section

namespace Cert.Paged
open Idealize.ShloMosaic Cert.Stick

instance pagedFacts : Cert.Pre_paged.Facts where
  bcast_S_S128x16 := by decide
  reducesTo_S128x16_S_d0_1 := by decide
  h_S_ := by decide

instance pagedFiniteFacts : Cert.Pre_paged_finite.Facts where
  bcast_S_S128x16 := by decide
  reducesTo_S128x16_S_d0_1 := by decide
  h_S_ := by decide
  bcast_S_S8704x3072 := by decide
  reducesTo_S8704x3072_S_d0_1 := by decide
  bcast_S_S1x2560x128x8x128 := by decide
  reducesTo_S1x2560x128x8x128_S_d0_1_2_3_4 := by decide
  bcast_S_S1x8 := by decide
  reducesTo_S1x8_S_d0_1 := by decide

/-- A word between 0 and 2560 in the signed order is below 2560 as a natural number. -/
theorem page_of_cmp (w : BitVec 32) (h : IntOp.andi (IntOp.cmpi .sge w 0#32) (IntOp.cmpi .slt w 2560#32) = 1#1) : w.toNat < 2560 := by
  obtain ⟨h1, h2⟩ := one_of_and _ _ h
  have l : (0 : ℤ) ≤ w.toInt := by
    by_contra hn
    simp [IntOp.cmpi, BitVec.sle, hn] at h1
  have u : w.toInt < 2560 := by
    by_contra hn
    simp [IntOp.cmpi, BitVec.slt, hn] at h2
  have := BitVec.toInt_eq_toNat_cond w
  split_ifs at this <;> omega

section
variable {F : FTy → Type} [FloatOps F] (A : FVec F Cert.Pre_paged.S8704x3072 .f32) (K V : FVec F Cert.Pre_paged.S1x2560x128x8x128 .f32)
  (T : IVec Cert.Pre_paged.S128x16 32) (C : FVec F Cert.Pre_paged.S1x8 .f32)

theorem pages_of_paged (h : Cert.Pre_paged.fn A K V T C = fun _ => 1#1) (i : Cert.Pre_paged.S128x16.Idx) : (T i : BitVec 32).toNat < 2560 :=
  page_of_cmp _ (Host.reduce_andi_all _ _ _ _ _ (congrFun h (fun k => k.elim0)) i)

end

variable (A : FVec Ideal Cert.Pre_paged_finite.S8704x3072 .f32) (K V : FVec Ideal Cert.Pre_paged_finite.S1x2560x128x8x128 .f32)
  (T : IVec Cert.Pre_paged_finite.S128x16 32) (C : FVec Ideal Cert.Pre_paged_finite.S1x8 .f32)

theorem paged_finite_args (h : Cert.Pre_paged_finite.fn (F := Ideal) A K V T C = fun _ => 1#1) :
    (∀ i, (T i : BitVec 32).toNat < 2560) ∧ (∀ i, A i = (((A i : EReal).toReal : ℝ) : EReal)) ∧ (∀ i, K i = (((K i : EReal).toReal : ℝ) : EReal))
    ∧ (∀ i, V i = (((V i : EReal).toReal : ℝ) : EReal)) ∧ (∀ i, C i = (((C i : EReal).toReal : ℝ) : EReal)) := by
  obtain ⟨h4, hC⟩ := one_of_and _ _ (congrFun h (fun k => k.elim0))
  obtain ⟨h3, hV⟩ := one_of_and _ _ h4
  obtain ⟨h2, hK⟩ := one_of_and _ _ h3
  obtain ⟨hT, hA⟩ := one_of_and _ _ h2
  exact ⟨fun i => page_of_cmp _ (Host.reduce_andi_all _ _ _ _ _ hT i), fun i => real_of_abs_lt _ (Host.reduce_andi_all _ _ _ _ _ hA i),
    fun i => real_of_abs_lt _ (Host.reduce_andi_all _ _ _ _ _ hK i), fun i => real_of_abs_lt _ (Host.reduce_andi_all _ _ _ _ _ hV i),
    fun i => real_of_abs_lt _ (Host.reduce_andi_all _ _ _ _ _ hC i)⟩

end Cert.Paged
end
-- ==== Proof.SampleGather.lean ====
/- The reference's look-up of whole pages, at an index. -/
module

public import proofs.«01_k».proof.Proof.Gen.SampleRefIdeal.Read
public import Idealize.ShloMosaic.Lib.Pointwise

@[expose] public section

set_option maxRecDepth 16384

noncomputable section

namespace Cert.Paged
open Idealize.ShloMosaic Cert.SampleRefIdeal Cert.SampleRefIdeal.Read

theorem gather_apply {α : Type} (x : S2560x128x8x128.Idx → α) (idx : IVec S128x16x1 32) (b : Fin 128) (p : Fin 16) (s : Fin 128) (h : Fin 8) (e : Fin 128) :
    Host.gather gather_S2560x128x8x128_S128x16x1_S128x16x128x8x128_234_0_n_n_0_2_11288128 x idx (ix5 b p s h e)
      = x (ix4 ⟨min (idx (ix3 b p 0)).toInt.toNat 2559, by omega⟩ s h e) := by
  unfold Host.gather
  refine congrArg x (funext fun (a : Fin 4) => Fin.ext ?_)
  show gather_S2560x128x8x128_S128x16x1_S128x16x128x8x128_234_0_n_n_0_2_11288128.start (ix5 b p s h e) idx a
    + gather_S2560x128x8x128_S128x16x1_S128x16x128x8x128_234_0_n_n_0_2_11288128.batchCoord (ix5 b p s h e) a
    + gather_S2560x128x8x128_S128x16x1_S128x16x128x8x128_234_0_n_n_0_2_11288128.offCoord (ix5 b p s h e) a = _
  rw [GatherDims.batchCoord_eq_zero _ _ _ List.not_mem_nil, Nat.add_zero]
  unfold GatherDims.start
  match a with
  | 0 =>
    rw [GatherDims.offCoord_eq_zero _ _ _ (fun h => ((GatherDims.mem_sKept _ _).mp h).1 (List.mem_singleton.mpr rfl)), Nat.add_zero,
      dif_pos (show (0 : Fin 4) ∈ gather_S2560x128x8x128_S128x16x1_S128x16x128x8x128_234_0_n_n_0_2_11288128.startIndexMap from List.mem_singleton.mpr rfl)]
    refine congrArg (fun i => min (idx i).toInt.toNat 2559) (funext fun (c : Fin 3) => Fin.ext ?_)
    match c with
    | 0 => rfl
    | 1 => rfl
    | 2 => rfl
  | 1 => rw [dif_neg (by decide), Nat.zero_add]; rfl
  | 2 => rw [dif_neg (by decide), Nat.zero_add]; rfl
  | 3 => rw [dif_neg (by decide), Nat.zero_add]; rfl

end Cert.Paged
end
-- ==== Proof.SampleReference.lean ====
/- The reference's result for the sampled tokens: the attention's sum at every sequence, query and column. -/
module

public import proofs.«01_k».proof.Proof.SampleSpec
public import proofs.«01_k».proof.Proof.SampleGather
public import proofs.«01_k».proof.Proof.Reference

@[expose] public section

set_option maxRecDepth 16384

noncomputable section

namespace Cert.Paged
open Idealize.ShloMosaic Cert.SampleRefIdeal Cert.SampleRefIdeal.Read Cert.Stick

variable (x0 : (⟨S8704x3072, .f32⟩ : BufTy).Contents (Elt Ideal)) (x1 x2 : (⟨S1x2560x128x8x128, .f32⟩ : BufTy).Contents (Elt Ideal))
  (x3 : (⟨S128x16, .i32⟩ : BufTy).Contents (Elt Ideal)) (x4 : (⟨S1x8, .f32⟩ : BufTy).Contents (Elt Ideal))
  (T : ℕ → ℕ → ℕ) (X : ℕ → ℕ → ℝ) (B : ℕ → ℝ) (K V : ℕ → ℕ → ℕ → ℕ → ℝ)
  (hX : ∀ i, x0 i = ((X (i 0).val (i 1).val : ℝ) : EReal))
  (hK : ∀ (p : Fin 2560) (s : Fin 128) (h : Fin 8) (d : Fin 128), x1 (ix5 0 p s h d) = ((K p s h d : ℝ) : EReal))
  (hV : ∀ (p : Fin 2560) (s : Fin 128) (h : Fin 8) (d : Fin 128), x2 (ix5 0 p s h d) = ((V p s h d : ℝ) : EReal))
  (hB : ∀ h : Fin 8, x4 (ix2 0 h) = ((B h.val : ℝ) : EReal))
  (hT : ∀ (b : Fin 128) (p : Fin 16), T b p < 2560 ∧ x3 (ix2 b p) = BitVec.ofNat 32 (T b p))
  (b : Fin 128) (h : Fin 8) (n : Fin 4)

include hX in
theorem ref_query (d : Fin 128) : val_main_v5 (F := Ideal) x0 (ix4 b n h d) = ((X (8192 + (b.val * 4 + n.val)) (h.val * 128 + d.val) : ℝ) : EReal) := by
  rw [val_main_v5_apply, val_main_v2_apply, val_main_v1_apply, val_main_v0_apply, hX]
  refine congrArg Real.toEReal (congrArg₂ X ?_ ?_) <;> dsimp only [idx_main_v0, idx_main_v1, idx_main_v2, idx_main_v5] <;> simp [ix4] <;> omega

include hX in
theorem ref_newKey (d : Fin 128) : val_main_v6 (F := Ideal) x0 (ix4 b n h d) = ((X (8192 + (b.val * 4 + n.val)) (1024 + (h.val * 128 + d.val)) : ℝ) : EReal) := by
  rw [val_main_v6_apply, val_main_v3_apply, val_main_v1_apply, val_main_v0_apply, hX]
  refine congrArg Real.toEReal (congrArg₂ X ?_ ?_) <;> dsimp only [idx_main_v0, idx_main_v1, idx_main_v3, idx_main_v6] <;> simp [ix4] <;> omega

include hX in
theorem ref_newValue (d : Fin 128) : val_main_v7 (F := Ideal) x0 (ix4 b n h d) = ((X (8192 + (b.val * 4 + n.val)) (2048 + (h.val * 128 + d.val)) : ℝ) : EReal) := by
  rw [val_main_v7_apply, val_main_v4_apply, val_main_v1_apply, val_main_v0_apply, hX]
  refine congrArg Real.toEReal (congrArg₂ X ?_ ?_) <;> dsimp only [idx_main_v0, idx_main_v1, idx_main_v4, idx_main_v7] <;> simp [ix4] <;> omega

/-- A page number below 2560 is not negative, so the look-up takes it as it stands. -/
theorem page_word (w : ℕ) (hw : w < 2560) :
    (Scalar.select (IntOp.cmpi .slt (BitVec.ofNat 32 w) 0#32) (IntOp.addi (BitVec.ofNat 32 w) 2560#32) (BitVec.ofNat 32 w)).toInt.toNat = w := by
  have e : IntOp.cmpi .slt (BitVec.ofNat 32 w) 0#32 = BitVec.ofBool (decide (w < 0)) := WordCmp.cmpi_slt_ofNat (a := w) (b := 0) (by omega) (by omega)
  rw [e]
  show (BitVec.ofNat 32 w).toInt.toNat = w
  rw [BitVec.toInt_eq_toNat_of_lt (by rw [BitVec.toNat_ofNat]; omega), BitVec.toNat_ofNat]
  omega

include hT in
theorem ref_table (p : Fin 16) : min (BitVec.toInt (val_main_v14 (F := Ideal) x3 (ix3 b p 0) : BitVec 32)).toNat 2559 = T b p := by
  rw [val_main_v14_apply, show idx_main_v14 (ix3 b p 0) = ix2 b p from funext fun a => match a with | 0 => rfl | 1 => rfl, val_main_v13_apply,
    val_main_v10_apply, val_main_v12_apply, val_main_v11_apply, val_main_v9_apply, val_main_c_apply, val_main_c_0_apply, (hT b p).2, page_word _ (hT b p).1]
  have := (hT b p).1
  omega

include hT in
theorem ref_table' (p : Fin 16) : min (BitVec.toInt (val_main_v23 (F := Ideal) x3 (ix3 b p 0) : BitVec 32)).toNat 2559 = T b p := ref_table x3 T hT b p

include hT hK in
theorem ref_pastKey (s : Fin 2048) (d : Fin 128) : val_main_v16 (F := Ideal) x1 x3 (ix4 b s h d) = ((K (T b (s.val / 128)) (s.val % 128) h d : ℝ) : EReal) := by
  have e : idx_main_v16 (ix4 b s h d) = ix5 b ⟨s.val / 128, by omega⟩ ⟨s.val % 128, by omega⟩ h d := funext fun a => Fin.ext (by
    have := b.isLt; have := s.isLt; have := h.isLt; have := d.isLt
    match a with
    | 0 => show (((b.val * 2048 + s.val) * 8 + h.val) * 128 + d.val) / 2097152 = b.val; omega
    | 1 => show (((b.val * 2048 + s.val) * 8 + h.val) * 128 + d.val) / 131072 % 16 = s.val / 128; omega
    | 2 => show (((b.val * 2048 + s.val) * 8 + h.val) * 128 + d.val) / 1024 % 128 = s.val % 128; omega
    | 3 => show (((b.val * 2048 + s.val) * 8 + h.val) * 128 + d.val) / 128 % 8 = h.val; omega
    | 4 => show (((b.val * 2048 + s.val) * 8 + h.val) * 128 + d.val) % 128 = d.val; omega)
  rw [val_main_v16_apply, e, val_main_v15, gather_apply, val_main_v8_apply]
  refine Eq.trans (congrArg x1 (funext fun a => Fin.ext ?_)) (hK ⟨T b (s.val / 128), (hT b ⟨s.val / 128, by omega⟩).1⟩ ⟨s.val % 128, by omega⟩ h d)
  have ht := ref_table x3 T hT b ⟨s.val / 128, by omega⟩
  have hl := (hT b ⟨s.val / 128, by omega⟩).1
  have := s.isLt; have := h.isLt; have := d.isLt
  dsimp only at hl ht
  match a with
  | 0 => rfl
  | 1 => show (((min _ 2559 * 128 + s.val % 128) * 8 + h.val) * 128 + d.val) / 131072 % 2560 = T b (s.val / 128); rw [ht]; omega
  | 2 => show (((min _ 2559 * 128 + s.val % 128) * 8 + h.val) * 128 + d.val) / 1024 % 128 = s.val % 128; rw [ht]; omega
  | 3 => show (((min _ 2559 * 128 + s.val % 128) * 8 + h.val) * 128 + d.val) / 128 % 8 = h.val; rw [ht]; omega
  | 4 => show (((min _ 2559 * 128 + s.val % 128) * 8 + h.val) * 128 + d.val) % 128 = d.val; rw [ht]; omega

include hT hV in
theorem ref_pastValue (s : Fin 2048) (d : Fin 128) : val_main_v25 (F := Ideal) x2 x3 (ix4 b s h d) = ((V (T b (s.val / 128)) (s.val % 128) h d : ℝ) : EReal) :=
  ref_pastKey x2 x3 T V hV hT b h s d

include hB in
theorem ref_bias (s : Fin 2048) : val_main_v31 (F := Ideal) x4 (ix4 b h n s) = ((B h.val : ℝ) : EReal) := by
  rw [val_main_v31_apply, val_main_v30_apply, val_main_v26_apply, ← hB]
  exact congrArg x4 (funext fun a => match a with | 0 => rfl | 1 => Fin.ext (Nat.mod_eq_of_lt h.isLt))

include hB in
theorem ref_newBias (s : Fin 4) : val_main_v38 (F := Ideal) x4 (ix4 b h n s) = ((B h.val : ℝ) : EReal) := by
  rw [val_main_v38_apply, val_main_v37_apply, val_main_v33_apply, ← hB]
  exact congrArg x4 (funext fun a => match a with | 0 => rfl | 1 => Fin.ext (Nat.mod_eq_of_lt h.isLt))

include hX hK hT hB in
theorem ref_pastScore (s : Fin 2048) :
    val_main_v32 (F := Ideal) x0 x1 x3 x4 (ix4 b h n s) = ((scoreAt T X B K b n h s : ℝ) : EReal) := by
  have hdot : val_main_v27 (F := Ideal) x0 x1 x3 (ix4 b h n s)
      = ((∑ d : Fin 128, X (8192 + (b.val * 4 + n.val)) (h.val * 128 + d.val) * entry T X K 1024 b s h d : ℝ) : EReal) := by
    rw [val_main_v27_apply]
    refine (Finset.sum_congr rfl fun d _ => ?_).trans (sum_coe _ _)
    rw [show lidx_main_v27 (ix4 b h n s) d = ix4 b n h d from funext fun a => match a with | 0 => rfl | 1 => rfl | 2 => rfl | 3 => rfl,
      show ridx_main_v27 (ix4 b h n s) d = ix4 b s h d from funext fun a => match a with | 0 => rfl | 1 => rfl | 2 => rfl | 3 => rfl,
      ref_query x0 X hX, ref_pastKey x1 x3 T K hK hT, EReal.coe_mul, entry, if_pos s.isLt]
  rw [val_main_v32_apply, val_main_v29_apply, hdot, ref_bias x4 B hB, val_main_v28_apply, val_main_cst_apply]
  show _ * Ideal.ofBits .f32 0x3DB504F3#32 + _ = _
  rw [scale_coe, ← EReal.coe_mul, ← EReal.coe_add, scoreAt]

include hX hB in
theorem ref_newScore (s : Fin 4) :
    val_main_v39 (F := Ideal) x0 x4 (ix4 b h n s) = ((scoreAt T X B K b n h (2048 + s) : ℝ) : EReal) := by
  have hdot : val_main_v34 (F := Ideal) x0 (ix4 b h n s)
      = ((∑ d : Fin 128, X (8192 + (b.val * 4 + n.val)) (h.val * 128 + d.val) * entry T X K 1024 b (2048 + s) h d : ℝ) : EReal) := by
    rw [val_main_v34_apply]
    refine (Finset.sum_congr rfl fun d _ => ?_).trans (sum_coe _ _)
    rw [show lidx_main_v34 (ix4 b h n s) d = ix4 b n h d from funext fun a => match a with | 0 => rfl | 1 => rfl | 2 => rfl | 3 => rfl,
      show ridx_main_v34 (ix4 b h n s) d = ix4 b s h d from funext fun a => match a with | 0 => rfl | 1 => rfl | 2 => rfl | 3 => rfl,
      ref_query x0 X hX, ref_newKey x0 X hX, EReal.coe_mul, entry, if_neg (by omega), if_pos (by omega), show 2048 + s.val - 2048 = s.val by omega]
  rw [val_main_v39_apply, val_main_v36_apply, hdot, ref_newBias x4 B hB, val_main_v35_apply, val_main_cst_3_apply]
  show _ * Ideal.ofBits .f32 0x3DB504F3#32 + _ = _
  rw [scale_coe, ← EReal.coe_mul, ← EReal.coe_add, scoreAt]

include hX hK hT hB in
/-- The scores, those of the new keys behind those of the past ones. -/
theorem ref_scoreAt (s : Fin 2052) :
    val_main_v40 (F := Ideal) x0 x1 x3 x4 (ix4 b h n s) = ((scoreAt T X B K b n h s : ℝ) : EReal) := by
  unfold val_main_v40
  by_cases hs : s.val < 2048
  · refine (concatenate_pair_apply_left (t := S128x8x4x2052) (s₁ := S128x8x4x2048) (s₂ := S128x8x4x4) 3 _ _ _ (ix4 b h n s) rfl (ix4 b h n (⟨s.val, hs⟩ : Fin 2048)) (fun (a : Fin 4) => match a with | 0 => rfl | 1 => rfl | 2 => rfl | 3 => rfl)).trans ?_
    exact ref_pastScore x0 x1 x3 x4 T X B K hX hK hB hT b h n ⟨s.val, hs⟩
  · refine (concatenate_pair_apply_right (t := S128x8x4x2052) (s₁ := S128x8x4x2048) (s₂ := S128x8x4x4) 3 _ _ _ (ix4 b h n s) rfl rfl (ix4 b h n (⟨s.val - 2048, by omega⟩ : Fin 4))
      (fun (a : Fin 4) ha => match a, ha with | 0, _ => rfl | 1, _ => rfl | 2, _ => rfl | 3, ha => absurd rfl ha) (by show s.val - 2048 + 2048 = s.val; omega)).trans ?_
    rw [ref_newScore x0 x4 T X B K hX hB]
    show ((scoreAt T X B K b n h (2048 + (s.val - 2048)) : ℝ) : EReal) = _
    rw [show 2048 + (s.val - 2048) = s.val by omega]

theorem sample_logKeep (i : S128x8x4x2052.Idx) (z : ℝ) (hz : val_main_v40 (F := Ideal) x0 x1 x3 x4 i = (z : EReal)) :
    val_main_v51 (F := Ideal) x0 x1 x3 x4 i = ((logKeep z : ℝ) : EReal) := by
  simp only [val_main_v51_apply, val_main_call0_v1_apply, val_main_call0_call0_v11_apply, val_main_call0_call0_v10_apply, val_main_call0_call0_v9_apply,
    val_main_call0_call0_v8_apply, val_main_call0_call0_v7_apply, val_main_call0_call0_v4_apply, val_main_call0_call0_v3_apply, val_main_call0_call0_v2_apply,
    val_main_call0_call0_v1_apply, val_main_call0_call0_v0_apply, val_main_call0_call0_cst_apply, val_main_call0_v0_apply, val_main_v50_apply, hz]
  rw [show FloatOps.hostNegf (F := Ideal) (φ := .f32) (FloatOps.hostNegf (F := Ideal) (φ := .f32) (z : EReal)) = (z : EReal) from neg_neg _]
  exact log_logistic z _

theorem sample_logBreak (i : S128x8x4x2052.Idx) (z : ℝ) (hz : val_main_v40 (F := Ideal) x0 x1 x3 x4 i = (z : EReal)) :
    val_main_v55 (F := Ideal) x0 x1 x3 x4 i = ((z + logKeep z : ℝ) : EReal) := by
  simp only [val_main_v55_apply, val_main_call3_v1_apply, val_main_call3_call0_v11_apply, val_main_call3_call0_v10_apply, val_main_call3_call0_v9_apply,
    val_main_call3_call0_v8_apply, val_main_call3_call0_v7_apply, val_main_call3_call0_v4_apply, val_main_call3_call0_v3_apply, val_main_call3_call0_v2_apply,
    val_main_call3_call0_v1_apply, val_main_call3_call0_v0_apply, val_main_call3_call0_cst_apply, val_main_call3_v0_apply, hz]
  rw [show FloatOps.hostNegf (F := Ideal) (φ := .f32) (z : EReal) = ((-z : ℝ) : EReal) from (EReal.coe_neg z).symm, ← logKeep_neg]
  exact log_logistic (-z) _

theorem sample_mask (s : Fin 2052) : val_main_v49 (F := Ideal) (ix2 n s) = BitVec.ofBool (decide (s.val < 2048 + n.val)) := by
  rw [val_main_v49_apply, val_main_v47_apply, val_main_v45_apply, val_main_v44_apply, val_main_v48_apply, val_main_v46_apply, val_main_v43_apply,
    val_main_v42_apply, val_main_c_4_apply, val_main_v41_apply]
  have hs := s.isLt
  have hn := n.isLt
  have e : IntOp.addi 2048#32 (BitVec.ofNat 32 n.val) = BitVec.ofNat 32 (2048 + n.val) := by
    show BitVec.ofNat 32 2048 + BitVec.ofNat 32 n.val = _
    rw [BitVec.ofNat_add]
  show IntOp.cmpi .slt (BitVec.ofNat 32 s.val) (IntOp.addi 2048#32 (BitVec.ofNat 32 n.val)) = _
  rw [e]
  exact WordCmp.cmpi_slt_ofNat (a := s.val) (b := 2048 + n.val) (by omega) (by omega)

include hX hK hT hB

theorem sample_keep (s : Fin 2052) :
    val_main_v52 (F := Ideal) x0 x1 x3 x4 (ix4 b h n s) = ((keep (scoreAt T X B K b n h) (2048 + n.val) s.val : ℝ) : EReal) := by
  rw [val_main_v52_apply, val_main_call1_v1_apply, val_main_call1_v2_apply, val_main_call1_v0_apply, val_main_cst_5_apply,
    sample_logKeep x0 x1 x3 x4 _ _ (ref_scoreAt x0 x1 x3 x4 T X B K hX hK hB hT b h n s),
    show idx_main_call1_v1 (ix4 b h n s) = ix2 n s from funext fun a => match a with | 0 => rfl | 1 => rfl, sample_mask]
  show Scalar.select _ _ (Ideal.ofBits .f32 0#32) = _
  by_cases hst : s.val < 2048 + n.val <;> simp [hst, Scalar.select, keep, Ideal.ofBits_zero_f32]

theorem sample_weight (s : Fin 2052) :
    val_main_v58 (F := Ideal) x0 x1 x3 x4 (ix4 b h n s) = ((weight (scoreAt T X B K b n h) (2048 + n.val) 2052 s.val : ℝ) : EReal) := by
  have hsum : val_main_v53 (F := Ideal) x0 x1 x3 x4 (ix4 b h n s)
      = ((∑ u ∈ Finset.Ico s.val 2052, keep (scoreAt T X B K b n h) (2048 + n.val) u : ℝ) : EReal) := by
    unfold val_main_v53
    exact suffix (by omega) _ b h n _ (fun u => sample_keep x0 x1 x3 x4 T X B K hX hK hB hT b h n u) _ (fun i => by
      rw [val_main_call2_v0_apply]
      exact Ideal.ofBits_zero_f32) _ _ s
  have hs := s.isLt
  rw [val_main_v58_apply, val_main_call4_v1_apply, val_main_call4_v2_apply, val_main_call4_v0_apply, val_main_cst_6_apply, val_main_v57_apply,
    val_main_v56_apply, val_main_v54_apply, hsum, sample_keep x0 x1 x3 x4 T X B K hX hK hB hT b h n s,
    sample_logBreak x0 x1 x3 x4 _ _ (ref_scoreAt x0 x1 x3 x4 T X B K hX hK hB hT b h n s),
    show idx_main_call4_v1 (ix4 b h n s) = ix2 n s from funext fun a => match a with | 0 => rfl | 1 => rfl, sample_mask]
  rw [exp_step, Finset.sum_eq_sum_Ico_succ_bot hs]
  show Scalar.select _ _ (Ideal.ofBits .f32 0#32) = _
  by_cases hst : s.val < 2048 + n.val
  · simp [hst, Scalar.select, weight, keep]
  · simp [hst, Scalar.select, weight, Ideal.ofBits_zero_f32]

include hV in
/-- What the reference returns, by head and entry. -/
theorem sample_entry (d : Fin 128) :
    val_main_v65 (F := Ideal) x0 x1 x2 x3 x4 (ix4 b n h d) = ((result T X B K V b n h d : ℝ) : EReal) := by
  have past : val_main_v61 (F := Ideal) x0 x1 x2 x3 x4 (ix4 b n h d)
      = ((∑ s : Fin 2048, weight (scoreAt T X B K b n h) (2048 + n.val) 2052 s.val * entry T X V 2048 b s.val h d : ℝ) : EReal) := by
    rw [val_main_v61_apply, show idx_main_v61 (ix4 b n h d) = ix4 b h d n from funext fun a => match a with | 0 => rfl | 1 => rfl | 2 => rfl | 3 => rfl,
      val_main_v60_apply]
    refine (Finset.sum_congr rfl fun s _ => ?_).trans (sum_coe _ _)
    rw [show lidx_main_v60 (ix4 b h d n) s = ix4 b s h d from funext fun a => match a with | 0 => rfl | 1 => rfl | 2 => rfl | 3 => rfl,
      show ridx_main_v60 (ix4 b h d n) s = ix4 b h n s from funext fun a => match a with | 0 => rfl | 1 => rfl | 2 => rfl | 3 => rfl,
      ref_pastValue x2 x3 T V hV hT, val_main_v59_apply,
      show idx_main_v59 (ix4 b h n s) = ix4 b h n ⟨s.val, by omega⟩ from funext fun a => match a with | 0 => rfl | 1 => rfl | 2 => rfl | 3 => rfl,
      sample_weight x0 x1 x3 x4 T X B K hX hK hB hT, ← EReal.coe_mul, mul_comm, entry, if_pos s.isLt]
  have new : val_main_v64 (F := Ideal) x0 x1 x3 x4 (ix4 b n h d)
      = ((∑ s : Fin 4, weight (scoreAt T X B K b n h) (2048 + n.val) 2052 (2048 + s.val) * entry T X V 2048 b (2048 + s.val) h d : ℝ) : EReal) := by
    rw [val_main_v64_apply, show idx_main_v64 (ix4 b n h d) = ix4 b h d n from funext fun a => match a with | 0 => rfl | 1 => rfl | 2 => rfl | 3 => rfl,
      val_main_v63_apply]
    refine (Finset.sum_congr rfl fun s _ => ?_).trans (sum_coe _ _)
    rw [show lidx_main_v63 (ix4 b h d n) s = ix4 b s h d from funext fun a => match a with | 0 => rfl | 1 => rfl | 2 => rfl | 3 => rfl,
      show ridx_main_v63 (ix4 b h d n) s = ix4 b h n s from funext fun a => match a with | 0 => rfl | 1 => rfl | 2 => rfl | 3 => rfl,
      ref_newValue x0 X hX, val_main_v62_apply,
      show idx_main_v62 (ix4 b h n s) = ix4 b h n ⟨2048 + s.val, by omega⟩ from funext fun a => match a with | 0 => rfl | 1 => rfl | 2 => rfl | 3 => rfl,
      sample_weight x0 x1 x3 x4 T X B K hX hK hB hT, ← EReal.coe_mul, mul_comm, entry, if_neg (by omega), if_pos (by omega), show 2048 + s.val - 2048 = s.val by omega]
  rw [val_main_v65_apply, past, new]
  show (_ : EReal) + _ = _
  rw [← EReal.coe_add, result, show 2052 = 2048 + 4 from rfl, Finset.sum_range_add, ← Fin.sum_univ_eq_sum_range, ← Fin.sum_univ_eq_sum_range]

include hV in
/-- What the reference returns. -/
theorem sample_value : val_main_v66 (F := Ideal) x0 x1 x2 x3 x4
    = fun y => ((result T X B K V (y 0).val (y 1).val ((y 2).val / 128) ((y 2).val % 128) : ℝ) : EReal) := by
  funext y
  have h0 : (y 0).val < 128 := (y 0).isLt
  have h1 : (y 1).val < 4 := (y 1).isLt
  have h2 : (y 2).val < 1024 := (y 2).isLt
  have hp : idx_main_v66 y = ix4 (y 0 : Fin 128) (y 1 : Fin 4) (⟨(y 2).val / 128, by omega⟩ : Fin 8) (⟨(y 2).val % 128, by omega⟩ : Fin 128) := by
    refine funext fun a => Fin.ext ?_
    match a with
    | 0 => show (((y 0).val * 4 + (y 1).val) * 1024 + (y 2).val) / 4096 = (y 0).val; omega
    | 1 => show (((y 0).val * 4 + (y 1).val) * 1024 + (y 2).val) / 1024 % 4 = (y 1).val; omega
    | 2 => show (((y 0).val * 4 + (y 1).val) * 1024 + (y 2).val) / 128 % 8 = (y 2).val / 128; omega
    | 3 => show (((y 0).val * 4 + (y 1).val) * 1024 + (y 2).val) % 128 = (y 2).val % 128; omega
  rw [val_main_v66_apply, hp]
  exact sample_entry x0 x1 x2 x3 x4 T X B K V hX hK hV hB hT (y 0) ⟨(y 2).val / 128, by omega⟩ (y 1) ⟨(y 2).val % 128, by omega⟩

end Cert.Paged
end
-- ==== Proof.SampleAttention.lean ====
/- The claims about the sampled tokens' attention, each as a theorem of its own. -/
module

public import proofs.«01_k».proof.Defs
public import proofs.«01_k».proof.Proof.Gen.Sample
public import proofs.«01_k».proof.Proof.SampleFinal
public import proofs.«01_k».proof.Proof.SampleFinite
public import proofs.«01_k».proof.Proof.SampleReference
public import proofs.«01_k».proof.Proof.Attention

@[expose] public section

set_option maxRecDepth 16384

noncomputable section

namespace Cert.Paged
open Idealize.ShloMosaic Idealize.ShloMosaic.TcCoe Idealize.SL.Sem Cert.Stick

section
variable {F : FTy → Type} [FloatOps F]
open Cert.SampleIdeal Cert.SampleIdeal.Gen

/-- Page numbers below 2560 in the table, as the launch leaves it. -/
theorem pages_lt (m : (l : Loc nD τ sig) → Buf (Elt F) l)
    (h : ∀ i : S128x16.Idx, (m (((0 : Dev nD).tc : Thread nD τ).loc main_arg3) i : BitVec 32).toNat < 2560) (b p : ℕ) : pageNo (tbl m) b p < 2560 := by
  have e : tbl m 0 = m (((0 : Dev nD).tc : Thread nD τ).loc main_arg3) := V_main_arg3 m 0
  rw [pageNo]
  split_ifs with hb
  · rw [e]; exact h _
  · omega

theorem ok (m : (l : Loc nD τ sig) → Buf (Elt F) l)
    (h : ∀ c : Dev nD, Cert.Pre_paged.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = fun _ => 1#1) : Ok m :=
  ok_of_lt (tbl m) (pages_lt m fun i => pages_of_paged _ _ _ _ _ (h 0) i)

end

/-- The kernel's frame over the extended reals. -/
theorem frame_ideal : Cert.quiescent_SampleIdeal := fun m ρ h => frame m ρ (ok m h)

/-- The same frame under the precondition with finite arguments, which has the first one's page numbers. -/
theorem frame_ideal_finite : Cert.quiescent_SampleIdeal_pre_paged_finite := fun m ρ h =>
  frame m ρ (ok_of_lt _ (pages_lt m (paged_finite_args _ _ _ _ _ (h 0)).1))

/-- The reference's frame: it has no semaphore, and no operation writes an argument. -/
theorem frame_reference : Cert.quiescent_SampleRefIdeal := fun m ρ _ =>
  (θ_run Cert.SampleRefIdeal.defs _ _).mono (fun r h => ⟨fun c => (h c).2, sem_eq_zero_of_no_sems (by decide) r.2⟩)
    (Cert.SampleRefIdeal.Value.run (F := Ideal) m ρ)

/-- The real number at a place of a pool of pages. -/
def pooled (A : FVec Ideal Cert.Pre_paged_finite.S1x2560x128x8x128 .f32) (p s h d : ℕ) : ℝ :=
  if i : p < 2560 ∧ s < 128 ∧ h < 8 ∧ d < 128 then (A (ix5 0 ⟨p, i.1⟩ ⟨s, i.2.1⟩ ⟨h, i.2.2.1⟩ ⟨d, i.2.2.2⟩) : EReal).toReal else 0

theorem pooled_apply (A : FVec Ideal Cert.Pre_paged_finite.S1x2560x128x8x128 .f32) (hA : ∀ i, A i = (((A i : EReal).toReal : ℝ) : EReal))
    (p : Fin 2560) (s : Fin 128) (h : Fin 8) (d : Fin 128) : A (ix5 0 p s h d) = ((pooled A p.val s.val h.val d.val : ℝ) : EReal) := by
  rw [pooled, dif_pos ⟨p.isLt, s.isLt, h.isLt, d.isLt⟩]
  exact hA _

section
open Cert.SampleIdeal Cert.SampleIdeal.Gen

/-- The kernel's result array after its run. -/
theorem kernel_run (m : (l : Loc nD τ sig) → Buf (Elt Ideal) l) (ρ : Dev nD → PrngReg)
    (h : ∀ c : Dev nD, Cert.Pre_paged_finite.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = fun _ => 1#1) :
    θ_run defs (onTc (τ := τ) (main (F := Ideal))) ⟨m, fun _ => 0, ρ⟩ (fun r => (∀ c : Dev nD,
      r.2.mem ((c.tc : Thread nD τ).loc main_v17) = sampled (pageNo (tbl m)) (place (m ((c.tc : Thread nD τ).loc main_arg0))) (offset (m ((c.tc : Thread nD τ).loc main_arg4)))
        (pooled (m ((c.tc : Thread nD τ).loc main_arg1))) (pooled (m ((c.tc : Thread nD τ).loc main_arg2)))) ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hT := pages_lt m (paged_finite_args _ _ _ _ _ (h 0)).1
  have hO : Ok m := ok_of_lt _ hT
  refine θ_run_and ((θ_run _ _ _).mono (fun r hr c => ((hr c).1 12).trans ?_) (run_main m ρ hO)) (unchanged m ρ hO)
  obtain ⟨-, hA, hK, hV, hC⟩ := paged_finite_args _ _ _ _ _ (h c)
  exact final m c hO hT _ _ _ _ (place_apply _ hA) (pooled_apply _ hK) (pooled_apply _ hV) (offset_apply _ hC)

end

/-- Kernel and reference return the same attention for the sampled tokens. -/
theorem equal : Cert.algebraic_SampleIdeal_SampleRefIdeal_pre_paged_finite := by
  intro m g m' g' hpre hag
  refine ⟨fun c => sampled (pageNo (Cert.SampleIdeal.Gen.tbl m)) (place (m ((c.tc : Thread Cert.SampleIdeal.nD Cert.SampleIdeal.τ).loc Cert.SampleIdeal.main_arg0)))
    (offset (m ((c.tc : Thread Cert.SampleIdeal.nD Cert.SampleIdeal.τ).loc Cert.SampleIdeal.main_arg4)))
    (pooled (m ((c.tc : Thread Cert.SampleIdeal.nD Cert.SampleIdeal.τ).loc Cert.SampleIdeal.main_arg1)))
    (pooled (m ((c.tc : Thread Cert.SampleIdeal.nD Cert.SampleIdeal.τ).loc Cert.SampleIdeal.main_arg2))), ?_, ?_⟩
  · exact (θ_run _ _ _).mono (fun r h c => ⟨h.1 c, h.2 c⟩) (kernel_run m g hpre)
  · refine (θ_run _ _ _).mono (fun r h c => ⟨(h c).1.trans ?_, (h c).2⟩) (Cert.SampleRefIdeal.Value.run m' g')
    obtain ⟨hP, hA, hK, hV, hC⟩ := paged_finite_args _ _ _ _ _ (hpre c)
    rw [Cert.SampleRefIdeal.Read.val_main_v66_eq, (hag c).1, (hag c).2.1, (hag c).2.2.1, (hag c).2.2.2.1, (hag c).2.2.2.2]
    refine sample_value _ _ _ _ _ _ _ _ _ _ (fun i => ?_) (pooled_apply _ hK) (pooled_apply _ hV) (offset_apply _ hC) (fun b p => ?_)
    · rw [index_two i]
      exact place_apply _ hA _ _
    · refine ⟨pages_lt m (paged_finite_args _ _ _ _ _ (hpre 0)).1 _ _, ?_⟩
      obtain rfl : c = 0 := Subsingleton.elim _ _
      rw [pageNo, dif_pos ⟨b.isLt, p.isLt⟩, show Cert.SampleIdeal.Gen.tbl m 0 = _ from Cert.SampleIdeal.Gen.V_main_arg3 m 0]
      exact BitVec.eq_of_toNat_eq (by rw [BitVec.toNat_ofNat]; exact (Nat.mod_eq_of_lt (BitVec.isLt _)).symm)

end Cert.Paged
end
-- ==== Proof.SampleWord.lean ====
/- The paged attention's word program and the program read over the extended reals are one text: at the float words their
   kernels, body tables and main functions are equal, so the run of the one is the run of the other. -/
module

public import proofs.«01_k».proof.Defs
public import proofs.«01_k».proof.Proof.Gen.Sample
public import proofs.«01_k».proof.Proof.SampleAttention

@[expose] public section

set_option maxRecDepth 16384
set_option maxHeartbeats 4000000

noncomputable section

namespace Cert.Paged
open Idealize.ShloMosaic Idealize.ShloMosaic.TcCoe Idealize.SL.Sem

theorem kernel_eq : @Cert.Sample.cc0_sb_sample_attention Bits _ _ = @Cert.SampleIdeal.cc0_sb_sample_attention Bits _ _ := rfl

theorem table_eq : Cert.Sample.defs₀ (F := Bits) = Cert.SampleIdeal.defs₀ (F := Bits) := by
  unfold Cert.Sample.defs₀ Cert.SampleIdeal.defs₀
  refine congrArg Defs.onTc (funext fun l => funext fun p => ?_)
  match l, p with
  | 0, (t, s) => rfl

theorem calls_eq : Cert.Sample.pcfgs (F := Bits) = Cert.SampleIdeal.pcfgs (F := Bits) := rfl

theorem defs_eq : Cert.Sample.defs (F := Bits) = Cert.SampleIdeal.defs (F := Bits) :=
  congrArg (Pipeline.defs (Cert.SampleIdeal.pcfgs (F := Bits))) table_eq

theorem main_eq : Cert.Sample.main (F := Bits) = Cert.SampleIdeal.main (F := Bits) := rfl

/-- The kernel's frame over the float words. -/
theorem frame_word : Cert.quiescent_Sample := fun m ρ h => by
  have k := frame (F := Bits) m ρ (ok m h)
  rw [← defs_eq, ← main_eq] at k
  exact k

end Cert.Paged
end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Attention
public import proofs.«01_k».proof.Proof.Input
public import proofs.«01_k».proof.Proof.Output
public import proofs.«01_k».proof.Proof.Down
public import proofs.«01_k».proof.Proof.Norm
public import proofs.«01_k».proof.Proof.SampleAttention
public import proofs.«01_k».proof.Proof.SampleWord
public import proofs.«01_k».proof.Proof.Gen.Input
public import proofs.«01_k».proof.Proof.Gen.Input.Skeleton
public import proofs.«01_k».proof.Proof.Gen.Input.Launch
public import proofs.«01_k».proof.Proof.Gen.Input.Points
public import proofs.«01_k».proof.Proof.Gen.Input.Frame
public import proofs.«01_k».proof.Proof.Gen.InputIdeal
public import proofs.«01_k».proof.Proof.Gen.InputIdeal.Skeleton
public import proofs.«01_k».proof.Proof.Gen.InputIdeal.Launch
public import proofs.«01_k».proof.Proof.Gen.InputIdeal.Points
public import proofs.«01_k».proof.Proof.Gen.InputIdeal.Frame
public import proofs.«01_k».proof.Proof.Gen.Output
public import proofs.«01_k».proof.Proof.Gen.Output.Skeleton
public import proofs.«01_k».proof.Proof.Gen.Output.Launch
public import proofs.«01_k».proof.Proof.Gen.Output.Points
public import proofs.«01_k».proof.Proof.Gen.Output.Frame
public import proofs.«01_k».proof.Proof.Gen.OutputIdeal
public import proofs.«01_k».proof.Proof.Gen.OutputIdeal.Skeleton
public import proofs.«01_k».proof.Proof.Gen.OutputIdeal.Launch
public import proofs.«01_k».proof.Proof.Gen.OutputIdeal.Points
public import proofs.«01_k».proof.Proof.Gen.OutputIdeal.Frame
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.DownIdeal.Value
public import proofs.«01_k».proof.Proof.Gen.NormIdeal.Value
public import proofs.«01_k».proof.Proof.Gen.InputRefIdeal
public import proofs.«01_k».proof.Proof.Gen.InputRefIdeal.Run
public import proofs.«01_k».proof.Proof.Gen.InputRefIdeal.Read
public import proofs.«01_k».proof.Proof.Gen.OutputRefIdeal
public import proofs.«01_k».proof.Proof.Gen.OutputRefIdeal.Run
public import proofs.«01_k».proof.Proof.Gen.OutputRefIdeal.Read
public import proofs.«01_k».proof.Proof.Gen.DownRefIdeal
public import proofs.«01_k».proof.Proof.Gen.DownRefIdeal.Run
public import proofs.«01_k».proof.Proof.Gen.DownRefIdeal.Read
public import proofs.«01_k».proof.Proof.Gen.NormRefIdeal
public import proofs.«01_k».proof.Proof.Gen.NormRefIdeal.Run
public import proofs.«01_k».proof.Proof.Gen.NormRefIdeal.Read
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleRefIdeal
public import proofs.«01_k».proof.Proof.Gen.SampleRefIdeal.Run
public import proofs.«01_k».proof.Proof.Gen.SampleRefIdeal.Read

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Input.Gen.facts, Cert.InputIdeal.Gen.facts, Cert.InputRefIdeal.Gen.facts,
    Cert.Output.Gen.facts, Cert.OutputIdeal.Gen.facts, Cert.OutputRefIdeal.Gen.facts,
    Cert.Down.Gen.facts, Cert.DownIdeal.Gen.facts, Cert.DownRefIdeal.Gen.facts,
    Cert.Norm.Gen.facts, Cert.NormIdeal.Gen.facts, Cert.NormRefIdeal.Gen.facts,
    Cert.Sample.Gen.facts, Cert.SampleIdeal.Gen.facts, Cert.SampleRefIdeal.Gen.facts,
    Cert.Stick.finiteFacts, Cert.Paged.pagedFacts, Cert.Paged.pagedFiniteFacts,
    Cert.Stick.frame_kernel, Cert.Stick.frame_ideal, fun m ρ _ => Cert.Stick.frame_ideal m ρ trivial,
    Cert.Stick.frame_reference, fun m ρ _ => Cert.Stick.frame_reference m ρ trivial,
    Cert.Dense.Input.frame_word, Cert.Dense.Input.frame_ideal, Cert.Dense.Input.frame_reference,
    Cert.Dense.Output.frame_word, Cert.Dense.Output.frame_ideal, Cert.Dense.Output.frame_reference,
    Cert.Dense.Down.frame_word, Cert.Dense.Down.frame_ideal, Cert.Dense.Down.frame_reference,
    Cert.Dense.Norm.frame_word, Cert.Dense.Norm.frame_ideal, Cert.Dense.Norm.frame_reference,
    Cert.Paged.frame_word, Cert.Paged.frame_ideal, Cert.Paged.frame_ideal_finite,
    Cert.Paged.frame_reference, fun m ρ _ => Cert.Paged.frame_reference m ρ trivial,
    trivial, Cert.Stick.equal,
    trivial, Cert.Dense.Input.equal,
    trivial, Cert.Dense.Output.equal,
    trivial, Cert.Dense.Down.equal,
    trivial, Cert.Dense.Norm.equal,
    trivial, Cert.Paged.equal⟩

end Cert.Proof

end
